-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scores_finite [hPre_scores_finite : Cert.Pre_scores_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scores_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scores_finite [hPre_scores_finite : Cert.Pre_scores_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scores_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_scores_finite [hKernel2Ideal : Cert.Kernel2Ideal.Facts] [hPre_scores_finite : Cert.Pre_scores_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scores_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_scores_finite [hReference2Ideal : Cert.Reference2Ideal.Facts] [hPre_scores_finite : Cert.Pre_scores_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scores_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_scores_finite [hKernel2Ideal : Cert.Kernel2Ideal.Facts] [hReference2Ideal : Cert.Reference2Ideal.Facts] [hPre_scores_finite : Cert.Pre_scores_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scores_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v112) = v0 c
          ∧ r.2.mem ((c.tc : Thread Cert.Reference4Ideal.nD Cert.Reference4Ideal.τ).loc Cert.Reference4Ideal.main_v114) = v1 c
          ∧ r.2.mem ((c.tc : Thread Cert.Reference4Ideal.nD Cert.Reference4Ideal.τ).loc Cert.Reference4Ideal.main_v115) = v2 c
          ∧ r.2.mem ((c.tc : Thread Cert.Reference4Ideal.nD Cert.Reference4Ideal.τ).loc Cert.Reference4Ideal.main_v116) = v3 c
          ∧ r.2.mem ((c.tc : Thread Cert.Reference4Ideal.nD Cert.Reference4Ideal.τ).loc Cert.Reference4Ideal.main_v117) = v4 c
          ∧ r.2.mem ((c.tc : Thread Cert.Reference4Ideal.nD Cert.Reference4Ideal.τ).loc Cert.Reference4Ideal.main_v119) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_scores_finite : Cert.Pre_scores_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_scores_finite (hKernel2Ideal := hKernel2Ideal) (hPre_scores_finite := hPre_scores_finite)
    ∧ quiescent_Reference2Ideal (hReference2Ideal := hReference2Ideal)
    ∧ quiescent_Reference2Ideal_pre_scores_finite (hReference2Ideal := hReference2Ideal) (hPre_scores_finite := hPre_scores_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_scores_finite (hKernel2Ideal := hKernel2Ideal) (hReference2Ideal := hReference2Ideal) (hPre_scores_finite := hPre_scores_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_scores_finite.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S_ : Shape := ⟨0, ![]⟩
abbrev S16777216 : Shape := ⟨1, ![16777216]⟩
abbrev S8388608 : Shape := ⟨1, ![8388608]⟩
abbrev S1048576 : Shape := ⟨1, ![1048576]⟩
abbrev S1024 : Shape := ⟨1, ![1024]⟩
abbrev S524288 : Shape := ⟨1, ![524288]⟩
abbrev S128 : Shape := ⟨1, ![128]⟩
abbrev S36177024 : Shape := ⟨1, ![36177024]⟩

class Facts : Prop where
  bcast_S_S8x2048x1024 : S_.BroadcastsInDim S8x2048x1024 (![] : Fin 0 → Fin S8x2048x1024.rank)
  shapeCasts_S8x2048x1024_S16777216 : S8x2048x1024.ShapeCasts S16777216
  bitsLt_bf16_f32 : FTy.bits .bf16 < FTy.bits .f32
  bcast_S_S8x2048x512 : S_.BroadcastsInDim S8x2048x512 (![] : Fin 0 → Fin S8x2048x512.rank)
  shapeCasts_S8x2048x512_S8388608 : S8x2048x512.ShapeCasts S8388608
  bcast_S_S8x256x4x128 : S_.BroadcastsInDim S8x256x4x128 (![] : Fin 0 → Fin S8x256x4x128.rank)
  shapeCasts_S8x256x4x128_S1048576 : S8x256x4x128.ShapeCasts S1048576
  bcast_S_S1x1024x1024 : S_.BroadcastsInDim S1x1024x1024 (![] : Fin 0 → Fin S1x1024x1024.rank)
  shapeCasts_S1x1024x1024_S1048576 : S1x1024x1024.ShapeCasts S1048576
  bcast_S_S1x1024 : S_.BroadcastsInDim S1x1024 (![] : Fin 0 → Fin S1x1024.rank)
  shapeCasts_S1x1024_S1024 : S1x1024.ShapeCasts S1024
  bcast_S_S1x1024x512 : S_.BroadcastsInDim S1x1024x512 (![] : Fin 0 → Fin S1x1024x512.rank)
  shapeCasts_S1x1024x512_S524288 : S1x1024x512.ShapeCasts S524288
  bcast_S_S1x128 : S_.BroadcastsInDim S1x128 (![] : Fin 0 → Fin S1x128.rank)
  shapeCasts_S1x128_S128 : S1x128.ShapeCasts S128
  concatenates_S16777216_S8388608_S8388608_S1048576_S1048576_S1024_S524288_S128_S36177024_d0 : Shape.Concatenates [S16777216, S8388608, S8388608, S1048576, S1048576, S1024, S524288, S128] S36177024 0

variable [Facts]

def fn_part1 {F : FTy → Type} [FloatOps F] (main_arg6 : FVec F S1x1024 .f32) (main_arg7 : FVec F S1x1024x512 .f32) (main_arg8 : FVec F S1x128 .f32) (main_v3 : IVec S16777216 1) (main_v8 : IVec S8388608 1) (main_v13 : IVec S8388608 1) (main_v17 : IVec S1048576 1) (main_v18 : FVec F S1x1024x1024 .f32) (main_cst_3 : FVec F S_ .f32) : IVec S36177024 1 :=
  let main_v19 : FVec F S1x1024x1024 .f32 := broadcastInDim S1x1024x1024 ![] bcast_S_S1x1024x1024 main_cst_3
  let main_v20 : IVec S1x1024x1024 1 := cmpf .olt main_v18 main_v19
  let main_v21 : IVec S1048576 1 := shapeCast S1048576 main_v20 shapeCasts_S1x1024x1024_S1048576
  let main_v22 : FVec F S1x1024 .f32 := Host.absf main_arg6
  let main_cst_4 : FVec F S_ .f32 := constant S_ .f32 0x7F800000#32
  let main_v23 : FVec F S1x1024 .f32 := broadcastInDim S1x1024 ![] bcast_S_S1x1024 main_cst_4
  let main_v24 : IVec S1x1024 1 := cmpf .olt main_v22 main_v23
  let main_v25 : IVec S1024 1 := shapeCast S1024 main_v24 shapeCasts_S1x1024_S1024
  let main_v26 : FVec F S1x1024x512 .f32 := Host.absf main_arg7
  let main_cst_5 : FVec F S_ .f32 := constant S_ .f32 0x7F800000#32
  let main_v27 : FVec F S1x1024x512 .f32 := broadcastInDim S1x1024x512 ![] bcast_S_S1x1024x512 main_cst_5
  let main_v28 : IVec S1x1024x512 1 := cmpf .olt main_v26 main_v27
  let main_v29 : IVec S524288 1 := shapeCast S524288 main_v28 shapeCasts_S1x1024x512_S524288
  let main_v30 : FVec F S1x128 .f32 := Host.absf main_arg8
  let main_cst_6 : FVec F S_ .f32 := constant S_ .f32 0x7F800000#32
  let main_v31 : FVec F S1x128 .f32 := broadcastInDim S1x128 ![] bcast_S_S1x128 main_cst_6
  let main_v32 : IVec S1x128 1 := cmpf .olt main_v30 main_v31
  let main_v33 : IVec S128 1 := shapeCast S128 main_v32 shapeCasts_S1x128_S128
  let main_v34 : IVec S36177024 1 := concatenate S36177024 0 [⟨S16777216, main_v3⟩, ⟨S8388608, main_v8⟩, ⟨S8388608, main_v13⟩, ⟨S1048576, main_v17⟩, ⟨S1048576, main_v21⟩, ⟨S1024, main_v25⟩, ⟨S524288, main_v29⟩, ⟨S128, main_v33⟩] concatenates_S16777216_S8388608_S8388608_S1048576_S1048576_S1024_S524288_S128_S36177024_d0
  main_v34

def fn {F : FTy → Type} [FloatOps F] (main_arg0 : FVec F S8x2048x1024 .f32) (main_arg1 : FVec F S8x2048x512 .bf16) (main_arg2 : FVec F S8x2048x512 .bf16) (main_arg3 : FVec F S8x256x4x128 .f32) (main_arg4 : FVec F S8x256x4x128 .f32) (main_arg5 : FVec F S1x1024x1024 .f32) (main_arg6 : FVec F S1x1024 .f32) (main_arg7 : FVec F S1x1024x512 .f32) (main_arg8 : FVec F S1x128 .f32) (main_arg9 : FVec F S1x512x1024 .f32) (main_arg10 : FVec F S1x1024 .f32) (main_arg11 : FVec F S1x1024x4096 .f32) (main_arg12 : FVec F S1x4096x1024 .f32) : IVec S36177024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : IVec S16777216 1 := shapeCast S16777216 main_v2 shapeCasts_S8x2048x1024_S16777216
  let main_v4 : FVec F S8x2048x512 .f32 := (extf .f32 · bitsLt_bf16_f32) main_arg1
  let main_v5 : FVec F S8x2048x512 .f32 := Host.absf main_v4
  let main_cst_0 : FVec F S_ .f32 := constant S_ .f32 0x7F800000#32
  let main_v6 : FVec F S8x2048x512 .f32 := broadcastInDim S8x2048x512 ![] bcast_S_S8x2048x512 main_cst_0
  let main_v7 : IVec S8x2048x512 1 := cmpf .olt main_v5 main_v6
  let main_v8 : IVec S8388608 1 := shapeCast S8388608 main_v7 shapeCasts_S8x2048x512_S8388608
  let main_v9 : FVec F S8x2048x512 .f32 := (extf .f32 · bitsLt_bf16_f32) main_arg2
  let main_v10 : FVec F S8x2048x512 .f32 := Host.absf main_v9
  let main_cst_1 : FVec F S_ .f32 := constant S_ .f32 0x7F800000#32
  let main_v11 : FVec F S8x2048x512 .f32 := broadcastInDim S8x2048x512 ![] bcast_S_S8x2048x512 main_cst_1
  let main_v12 : IVec S8x2048x512 1 := cmpf .olt main_v10 main_v11
  let main_v13 : IVec S8388608 1 := shapeCast S8388608 main_v12 shapeCasts_S8x2048x512_S8388608
  let main_v14 : FVec F S8x256x4x128 .f32 := Host.absf main_arg3
  let main_cst_2 : FVec F S_ .f32 := constant S_ .f32 0x7F800000#32
  let main_v15 : FVec F S8x256x4x128 .f32 := broadcastInDim S8x256x4x128 ![] bcast_S_S8x256x4x128 main_cst_2
  let main_v16 : IVec S8x256x4x128 1 := cmpf .olt main_v14 main_v15
  let main_v17 : IVec S1048576 1 := shapeCast S1048576 main_v16 shapeCasts_S8x256x4x128_S1048576
  let main_v18 : FVec F S1x1024x1024 .f32 := Host.absf main_arg5
  let main_cst_3 : FVec F S_ .f32 := constant S_ .f32 0x7F800000#32
  fn_part1 (F := F) main_arg6 main_arg7 main_arg8 main_v3 main_v8 main_v13 main_v17 main_v18 main_cst_3
-- ==== Kernel.lean ====
abbrev S8x2048x1024 : Shape := ⟨3, ![8, 2048, 1024]⟩
abbrev S8x2048x8 : Shape := ⟨3, ![8, 2048, 8]⟩
abbrev S8x2048x512 : Shape := ⟨3, ![8, 2048, 512]⟩
abbrev S8x3x1024 : Shape := ⟨3, ![8, 3, 1024]⟩
abbrev S8x8x64x128 : Shape := ⟨4, ![8, 8, 64, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S_ : Shape := ⟨0, ![]⟩
abbrev S8x2048x128 : Shape := ⟨3, ![8, 2048, 128]⟩
abbrev S8x8x1024 : Shape := ⟨3, ![8, 8, 1024]⟩
abbrev S8x512x128 : Shape := ⟨3, ![8, 512, 128]⟩
abbrev S4x1024 : Shape := ⟨2, ![4, 1024]⟩
abbrev S1024 : Shape := ⟨1, ![1024]⟩
abbrev S8 : Shape := ⟨1, ![8]⟩
abbrev S128 : Shape := ⟨1, ![128]⟩
abbrev S1x128 : Shape := ⟨2, ![1, 128]⟩
abbrev S8x64 : Shape := ⟨2, ![8, 64]⟩
abbrev S512 : Shape := ⟨1, ![512]⟩
abbrev S8x128x1024 : Shape := ⟨3, ![8, 128, 1024]⟩
abbrev S8x128x128 : Shape := ⟨3, ![8, 128, 128]⟩
abbrev S8x128x512 : Shape := ⟨3, ![8, 128, 512]⟩
abbrev S8x136x1024 : Shape := ⟨3, ![8, 136, 1024]⟩
abbrev S1x8x1024 : Shape := ⟨3, ![1, 8, 1024]⟩
abbrev S8x1024 : Shape := ⟨2, ![8, 1024]⟩
abbrev S1x512x128 : Shape := ⟨3, ![1, 512, 128]⟩
abbrev S512x128 : Shape := ⟨2, ![512, 128]⟩
abbrev S1x128x1024 : Shape := ⟨3, ![1, 128, 1024]⟩
abbrev S128x1024 : Shape := ⟨2, ![128, 1024]⟩
abbrev S128x512 : Shape := ⟨2, ![128, 512]⟩
abbrev S128x128 : Shape := ⟨2, ![128, 128]⟩
abbrev S1x128x128 : Shape := ⟨3, ![1, 128, 128]⟩
abbrev S128x1 : Shape := ⟨2, ![128, 1]⟩
abbrev S1x1 : Shape := ⟨2, ![1, 1]⟩
abbrev S1x128x512 : Shape := ⟨3, ![1, 128, 512]⟩
abbrev S128x256 : Shape := ⟨2, ![128, 256]⟩
abbrev S1x3x1024 : Shape := ⟨3, ![1, 3, 1024]⟩
abbrev S3x1024 : Shape := ⟨2, ![3, 1024]⟩

abbrev nBuf : Space → Nat
  | .hbm => 40
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x8, .f32⟩
  | .hbm, ⟨2, _⟩ => ⟨S8x2048x512, .f32⟩
  | .hbm, ⟨3, _⟩ => ⟨S8x3x1024, .f32⟩
  | .hbm, ⟨4, _⟩ => ⟨S8x8x64x128, .f32⟩
  | .hbm, ⟨5, _⟩ => ⟨S1x4x1024, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x512, .f32⟩
  | .hbm, ⟨11, _⟩ => ⟨S_, .i32⟩
  | .hbm, ⟨12, _⟩ => ⟨S_, .f32⟩
  | .hbm, ⟨13, _⟩ => ⟨S8x2048x128, .f32⟩
  | .hbm, ⟨14, _⟩ => ⟨S_, .i32⟩
  | .hbm, ⟨15, _⟩ => ⟨S_, .f32⟩
  | .hbm, ⟨16, _⟩ => ⟨S8x8x1024, .f32⟩
  | .hbm, ⟨17, _⟩ => ⟨S8x512x128, .f32⟩
  | .hbm, ⟨18, _⟩ => ⟨S4x1024, .f32⟩
  | .hbm, ⟨19, _⟩ => ⟨S1024, .f32⟩
  | .hbm, ⟨20, _⟩ => ⟨S1x1024, .f32⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S8, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S8, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S8x2048x512, .bf16⟩
  | .hbm, ⟨38, _⟩ => ⟨S8x3x1024, .f32⟩
  | .hbm, ⟨39, _⟩ => ⟨S8x512x128, .f32⟩
  | .local _ .vmem, ⟨0, _⟩ => ⟨S8x128x1024, .f32⟩
  | .local _ .vmem, ⟨1, _⟩ => ⟨S8x128x1024, .f32⟩
  | .local _ .vmem, ⟨2, _⟩ => ⟨S8x128x128, .f32⟩
  | .local _ .vmem, ⟨3, _⟩ => ⟨S8x128x128, .f32⟩
  | .local _ .vmem, ⟨4, _⟩ => ⟨S8x128x512, .f32⟩
  | .local _ .vmem, ⟨5, _⟩ => ⟨S8x128x512, .f32⟩
  | .local _ .vmem, ⟨6, _⟩ => ⟨S8x8x1024, .f32⟩
  | .local _ .vmem, ⟨7, _⟩ => ⟨S8x512x128, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x128, .f32⟩
  | .local _ .vmem, ⟨12, _⟩ => ⟨S1x512, .f32⟩
  | .local _ .vmem, ⟨13, _⟩ => ⟨S1x512, .f32⟩
  | .local _ .vmem, ⟨14, _⟩ => ⟨S8x128x512, .bf16⟩
  | .local _ .vmem, ⟨15, _⟩ => ⟨S8x128x512, .bf16⟩
  | .local _ .vmem, ⟨16, _⟩ => ⟨S8x3x1024, .f32⟩
  | .local _ .vmem, ⟨17, _⟩ => ⟨S8x512x128, .f32⟩
  | .local _ .vmem, ⟨18, _⟩ => ⟨S8x136x1024, .f32⟩
  | .local _ .vmem, ⟨19, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_call3_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v3931 : BitVec 1 := Scalar.cmpi .eq arg1 c15_i32
  let v3932 : BitVec 32 := Scalar.extui v3931
  let c0_i32_1133 : BitVec 32 := 0#32
  let v3933 : BitVec 1 := Scalar.cmpi .ne v3932 c0_i32_1133
  v3933

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S8x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== ReferenceIdeal.lean ====
abbrev S8x2048x1024 : Shape := ⟨3, ![8, 2048, 1024]⟩
abbrev S8x2048x8 : Shape := ⟨3, ![8, 2048, 8]⟩
abbrev S8x2048x512 : Shape := ⟨3, ![8, 2048, 512]⟩
abbrev S8x3x1024 : Shape := ⟨3, ![8, 3, 1024]⟩
abbrev S8x8x64x128 : Shape := ⟨4, ![8, 8, 64, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S8x2051x1024 : Shape := ⟨3, ![8, 2051, 1024]⟩
abbrev S1024 : Shape := ⟨1, ![1024]⟩
abbrev S4x1024 : Shape := ⟨2, ![4, 1024]⟩
abbrev S1x1x1024 : Shape := ⟨3, ![1, 1, 1024]⟩
abbrev S_ : Shape := ⟨0, ![]⟩
abbrev S8x2048x256 : Shape := ⟨3, ![8, 2048, 256]⟩
abbrev S8x2048x8x64 : Shape := ⟨4, ![8, 2048, 8, 64]⟩
abbrev S8 : Shape := ⟨1, ![8]⟩
abbrev S1x1x8 : Shape := ⟨3, ![1, 1, 8]⟩
abbrev S8x2048x2x128 : Shape := ⟨4, ![8, 2048, 2, 128]⟩
abbrev S8x2048x2x4x128 : Shape := ⟨5, ![8, 2048, 2, 4, 128]⟩
abbrev S8x2048x8x128 : Shape := ⟨4, ![8, 2048, 8, 128]⟩
abbrev S128x128 : Shape := ⟨2, ![128, 128]⟩
abbrev S1x128x128x1 : Shape := ⟨4, ![1, 128, 128, 1]⟩
abbrev S8x16x128x8x64 : Shape := ⟨5, ![8, 16, 128, 8, 64]⟩
abbrev S16x8x128x8x64 : Shape := ⟨5, ![16, 8, 128, 8, 64]⟩
abbrev S8x16x128x8 : Shape := ⟨4, ![8, 16, 128, 8]⟩
abbrev S16x8x128x8 : Shape := ⟨4, ![16, 8, 128, 8]⟩
abbrev S8x16x128x8x128 : Shape := ⟨5, ![8, 16, 128, 8, 128]⟩
abbrev S16x8x128x8x128 : Shape := ⟨5, ![16, 8, 128, 8, 128]⟩
abbrev S1x8x128x8x64 : Shape := ⟨5, ![1, 8, 128, 8, 64]⟩
abbrev S8x128x8x64 : Shape := ⟨4, ![8, 128, 8, 64]⟩
abbrev S1x8x128x8 : Shape := ⟨4, ![1, 8, 128, 8]⟩
abbrev S8x128x8 : Shape := ⟨3, ![8, 128, 8]⟩
abbrev S1x8x128x8x128 : Shape := ⟨5, ![1, 8, 128, 8, 128]⟩
abbrev S8x128x8x128 : Shape := ⟨4, ![8, 128, 8, 128]⟩
abbrev S8x128x8x1 : Shape := ⟨4, ![8, 128, 8, 1]⟩
abbrev S8x128x1x8 : Shape := ⟨4, ![8, 128, 1, 8]⟩
abbrev S8x1x128x8 : Shape := ⟨4, ![8, 1, 128, 8]⟩
abbrev S8x128x128x8 : Shape := ⟨4, ![8, 128, 128, 8]⟩
abbrev S8x8x128x128 : Shape := ⟨4, ![8, 8, 128, 128]⟩
abbrev S8x1x8 : Shape := ⟨3, ![8, 1, 8]⟩
abbrev S8x8 : Shape := ⟨2, ![8, 8]⟩
abbrev S8x8x1x1 : Shape := ⟨4, ![8, 8, 1, 1]⟩
abbrev S8x1 : Shape := ⟨2, ![8, 1]⟩
abbrev S1x1x8x1 : Shape := ⟨4, ![1, 1, 8, 1]⟩
abbrev S8x2048x2x256 : Shape := ⟨4, ![8, 2048, 2, 256]⟩
abbrev S8x2048x2 : Shape := ⟨3, ![8, 2048, 2]⟩
abbrev S8x2048x2x1 : Shape := ⟨4, ![8, 2048, 2, 1]⟩
abbrev S512 : Shape := ⟨1, ![512]⟩
abbrev S1x1x512 : Shape := ⟨3, ![1, 1, 512]⟩
abbrev S8x512x128 : Shape := ⟨3, ![8, 512, 128]⟩

abbrev nBuf : Space → Nat
  | .hbm => 241
  | .vmem => 0
  | .smem => 0
  | _ => 0

abbrev hbmTy0_0 (i : Nat) : BufTy := match i % 128 with
  | 0 => ⟨S8x2048x1024, .f32⟩
  | 1 => ⟨S8x2048x8, .f32⟩
  | 2 => ⟨S8x2048x512, .f32⟩
  | 3 => ⟨S8x3x1024, .f32⟩
  | 4 => ⟨S8x8x64x128, .f32⟩
  | 5 => ⟨S1x4x1024, .f32⟩
  | 6 => ⟨S1x1024, .f32⟩
  | 7 => ⟨S1x8, .f32⟩
  | 8 => ⟨S1x8, .f32⟩
  | 9 => ⟨S1x8, .f32⟩
  | 10 => ⟨S1x512, .f32⟩
  | 11 => ⟨S8x2051x1024, .f32⟩
  | 12 => ⟨S1024, .f32⟩
  | 13 => ⟨S8x2048x1024, .f32⟩
  | 14 => ⟨S4x1024, .f32⟩
  | 15 => ⟨S1x1024, .f32⟩
  | 16 => ⟨S1024, .f32⟩
  | 17 => ⟨S1x1x1024, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S8x2048x1024, .f32⟩
  | 24 => ⟨S4x1024, .f32⟩
  | 25 => ⟨S1x1024, .f32⟩
  | 26 => ⟨S1024, .f32⟩
  | 27 => ⟨S1x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S4x1024, .f32⟩
  | 33 => ⟨S1x1024, .f32⟩
  | 34 => ⟨S1024, .f32⟩
  | 35 => ⟨S1x1x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S4x1024, .f32⟩
  | 41 => ⟨S1x1024, .f32⟩
  | 42 => ⟨S1024, .f32⟩
  | 43 => ⟨S1x1x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S8x2048x1024, .f32⟩
  | 56 => ⟨S8x2048x512, .f32⟩
  | 57 => ⟨S8x2048x256, .f32⟩
  | 58 => ⟨S8x2048x256, .f32⟩
  | 59 => ⟨S8x2048x8x64, .f32⟩
  | 60 => ⟨S8, .f32⟩
  | 61 => ⟨S1x1x8, .f32⟩
  | 62 => ⟨S8x2048x8, .f32⟩
  | 63 => ⟨S8x2048x8, .f32⟩
  | 64 => ⟨S_, .f32⟩
  | 65 => ⟨S8x2048x8, .f32⟩
  | 66 => ⟨S8x2048x8, .f32⟩
  | 67 => ⟨S8x2048x8, .f32⟩
  | 68 => ⟨S8x2048x8, .f32⟩
  | 69 => ⟨S8x2048x8, .i1⟩
  | 70 => ⟨S8x2048x8, .f32⟩
  | 71 => ⟨S8x2048x8, .f32⟩
  | 72 => ⟨S8x2048x8, .f32⟩
  | 73 => ⟨S8x2048x8, .f32⟩
  | 74 => ⟨S8x2048x8, .f32⟩
  | 75 => ⟨S8x2048x8, .f32⟩
  | 76 => ⟨S8x2048x8, .f32⟩
  | 77 => ⟨S8x2048x8, .f32⟩
  | 78 => ⟨S8, .f32⟩
  | 79 => ⟨S8, .f32⟩
  | 80 => ⟨S8, .f32⟩
  | 81 => ⟨S8x2048x2x128, .f32⟩
  | 82 => ⟨S8x2048x2x128, .f32⟩
  | 83 => ⟨S8x2048x2x4x128, .f32⟩
  | 84 => ⟨S8x2048x8x128, .f32⟩
  | 85 => ⟨S8x2048x2x4x128, .f32⟩
  | 86 => ⟨S8x2048x8x128, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S1x128x128x1, .i1⟩
  | 99 => ⟨S8x16x128x8x64, .f32⟩
  | 100 => ⟨S16x8x128x8x64, .f32⟩
  | 101 => ⟨S8x16x128x8, .f32⟩
  | 102 => ⟨S16x8x128x8, .f32⟩
  | 103 => ⟨S8x16x128x8x128, .f32⟩
  | 104 => ⟨S16x8x128x8x128, .f32⟩
  | 105 => ⟨S8x16x128x8x128, .f32⟩
  | 106 => ⟨S16x8x128x8x128, .f32⟩
  | 107 => ⟨S_, .f32⟩
  | 108 => ⟨S16x8x128x8x64, .f32⟩
  | 109 => ⟨S_, .i32⟩
  | 110 => ⟨S16x8x128x8x64, .f32⟩
  | 111 => ⟨S16x8x128x8, .f32⟩
  | 112 => ⟨S16x8x128x8x128, .f32⟩
  | 113 => ⟨S16x8x128x8x128, .f32⟩
  | 114 => ⟨S8, .f32⟩
  | 115 => ⟨S1x128x128x1, .i1⟩
  | 116 => ⟨S1x8, .f32⟩
  | 117 => ⟨S_, .i32⟩
  | 118 => ⟨S8x8x64x128, .f32⟩
  | 119 => ⟨S16x8x128x8x64, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S1x8x128x8x64, .f32⟩
  | 127 => ⟨S8x128x8x64, .f32⟩
  | _ => ⟨S8x2048x1024, .f32⟩

abbrev hbmTy0_1 (i : Nat) : BufTy := match i % 128 with
  | 0 => ⟨S_, .i32⟩
  | 1 => ⟨S_, .i32⟩
  | 2 => ⟨S_, .i32⟩
  | 3 => ⟨S1x8x128x8, .f32⟩
  | 4 => ⟨S8x128x8, .f32⟩
  | 5 => ⟨S_, .i32⟩
  | 6 => ⟨S_, .i32⟩
  | 7 => ⟨S_, .i32⟩
  | 8 => ⟨S_, .i32⟩
  | 9 => ⟨S1x8x128x8x128, .f32⟩
  | 10 => ⟨S8x128x8x128, .f32⟩
  | 11 => ⟨S_, .i32⟩
  | 12 => ⟨S_, .i32⟩
  | 13 => ⟨S_, .i32⟩
  | 14 => ⟨S_, .i32⟩
  | 15 => ⟨S1x8x128x8x128, .f32⟩
  | 16 => ⟨S8x128x8x128, .f32⟩
  | 17 => ⟨S8x128x8x1, .f32⟩
  | 18 => ⟨S8x128x8x64, .f32⟩
  | 19 => ⟨S8x128x8x64, .f32⟩
  | 20 => ⟨S1x1x8, .f32⟩
  | 21 => ⟨S8x128x8, .f32⟩
  | 22 => ⟨S8x128x8, .f32⟩
  | 23 => ⟨S_, .f32⟩
  | 24 => ⟨S_, .f32⟩
  | 25 => ⟨S8x128x8, .f32⟩
  | 26 => ⟨S8x128x1x8, .f32⟩
  | 27 => ⟨S8x1x128x8, .f32⟩
  | 28 => ⟨S8x128x128x8, .f32⟩
  | 29 => ⟨S8x128x128x8, .f32⟩
  | 30 => ⟨S8x128x128x8, .f32⟩
  | 31 => ⟨S_, .f32⟩
  | 32 => ⟨S8x128x128x8, .i1⟩
  | 33 => ⟨S8x128x128x8, .f32⟩
  | 34 => ⟨S8x128x128x8, .f32⟩
  | 35 => ⟨S8x128x128x8, .f32⟩
  | 36 => ⟨S8x8x128x128, .f32⟩
  | 37 => ⟨S8x128x128x8, .f32⟩
  | 38 => ⟨S8x128x128x8, .f32⟩
  | 39 => ⟨S8x8x64x128, .f32⟩
  | 40 => ⟨S8x128x8x64, .f32⟩
  | 41 => ⟨S8x8x64x128, .f32⟩
  | 42 => ⟨S8x128x8x64, .f32⟩
  | 43 => ⟨S8x128x8, .f32⟩
  | 44 => ⟨S8x128x8x1, .f32⟩
  | 45 => ⟨S8x128x8x64, .f32⟩
  | 46 => ⟨S8x128x8x64, .f32⟩
  | 47 => ⟨S8x128x8x64, .f32⟩
  | 48 => ⟨S8x1x8, .f32⟩
  | 49 => ⟨S8x128x8, .f32⟩
  | 50 => ⟨S8x128x8, .f32⟩
  | 51 => ⟨S8x128x8, .f32⟩
  | 52 => ⟨S8x1x8, .f32⟩
  | 53 => ⟨S8x8, .f32⟩
  | 54 => ⟨S8x8, .f32⟩
  | 55 => ⟨S8x8x1x1, .f32⟩
  | 56 => ⟨S8x8x64x128, .f32⟩
  | 57 => ⟨S8x8x64x128, .f32⟩
  | 58 => ⟨S8x128x8x1, .f32⟩
  | 59 => ⟨S8x128x8x64, .f32⟩
  | 60 => ⟨S8x128x8x64, .f32⟩
  | 61 => ⟨S8x8x64x128, .f32⟩
  | 62 => ⟨S8x8x64x128, .f32⟩
  | 63 => ⟨S8, .f32⟩
  | 64 => ⟨S8x1, .f32⟩
  | 65 => ⟨S1x1x8x1, .f32⟩
  | 66 => ⟨S8x128x8x64, .f32⟩
  | 67 => ⟨S8x128x8x64, .f32⟩
  | 68 => ⟨S8x128x8x64, .f32⟩
  | 69 => ⟨S1x8x128x8x64, .f32⟩
  | 70 => ⟨S_, .i32⟩
  | 71 => ⟨S_, .i32⟩
  | 72 => ⟨S_, .i32⟩
  | 73 => ⟨S_, .i32⟩
  | 74 => ⟨S16x8x128x8x64, .f32⟩
  | 75 => ⟨S_, .i32⟩
  | 76 => ⟨S_, .i32⟩
  | 77 => ⟨S8x16x128x8x64, .f32⟩
  | 78 => ⟨S8x2048x8x64, .f32⟩
  | 79 => ⟨S8x2048x512, .f32⟩
  | 80 => ⟨S8x2048x512, .f32⟩
  | 81 => ⟨S8x2048x512, .f32⟩
  | 82 => ⟨S_, .f32⟩
  | 83 => ⟨S8x2048x512, .f32⟩
  | 84 => ⟨S8x2048x512, .f32⟩
  | 85 => ⟨S_, .f32⟩
  | 86 => ⟨S8x2048x512, .f32⟩
  | 87 => ⟨S8x2048x512, .f32⟩
  | 88 => ⟨S8x2048x512, .f32⟩
  | 89 => ⟨S8x2048x512, .f32⟩
  | 90 => ⟨S8x2048x2x256, .f32⟩
  | 91 => ⟨S8x2048x2x256, .f32⟩
  | 92 => ⟨S_, .f32⟩
  | 93 => ⟨S8x2048x2, .f32⟩
  | 94 => ⟨S8x2048x2x1, .f32⟩
  | 95 => ⟨S_, .f32⟩
  | 96 => ⟨S8x2048x2x1, .f32⟩
  | 97 => ⟨S8x2048x2x1, .f32⟩
  | 98 => ⟨S_, .f32⟩
  | 99 => ⟨S8x2048x2x1, .f32⟩
  | 100 => ⟨S8x2048x2x1, .f32⟩
  | 101 => ⟨S8x2048x2x1, .f32⟩
  | 102 => ⟨S8x2048x2x256, .f32⟩
  | 103 => ⟨S8x2048x2x256, .f32⟩
  | 104 => ⟨S8x2048x512, .f32⟩
  | 105 => ⟨S512, .f32⟩
  | 106 => ⟨S1x1x512, .f32⟩
  | 107 => ⟨S8x2048x512, .f32⟩
  | 108 => ⟨S8x2048x512, .f32⟩
  | 109 => ⟨S8x2051x1024, .f32⟩
  | 110 => ⟨S8x3x1024, .f32⟩
  | 111 => ⟨S8x2048x512, .bf16⟩
  | 112 => ⟨S8x512x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c : Ref sig .tc := ⟨.hbm, 87, rfl⟩
abbrev main_v55 : Ref sig .tc := ⟨.hbm, 88, rfl⟩
abbrev main_call2_v0 : Ref sig .tc := ⟨.hbm, 89, rfl⟩
abbrev main_call2_c : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_0 : Ref sig .tc := ⟨.hbm, 95, rfl⟩
abbrev main_call2_v5 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst : Ref sig .tc := ⟨.hbm, 107, rfl⟩
abbrev main_v66 : Ref sig .tc := ⟨.hbm, 108, rfl⟩
abbrev main_c_0 : Ref sig .tc := ⟨.hbm, 109, rfl⟩
abbrev main_v67_0 : Ref sig .tc := ⟨.hbm, 110, rfl⟩
abbrev main_v67_1 : Ref sig .tc := ⟨.hbm, 111, rfl⟩
abbrev main_v67_2 : Ref sig .tc := ⟨.hbm, 112, rfl⟩
abbrev main_v67_3 : Ref sig .tc := ⟨.hbm, 113, rfl⟩
abbrev main_v67_4 : Ref sig .tc := ⟨.hbm, 114, rfl⟩
abbrev main_v67_5 : Ref sig .tc := ⟨.hbm, 115, rfl⟩
abbrev main_v67_6 : Ref sig .tc := ⟨.hbm, 116, rfl⟩
abbrev main_v67_7 : Ref sig .tc := ⟨.hbm, 117, rfl⟩
abbrev main_v67_8 : Ref sig .tc := ⟨.hbm, 118, rfl⟩
abbrev main_v67_9 : Ref sig .tc := ⟨.hbm, 119, rfl⟩
abbrev main_while0c_c_13 : Ref sig .tc := ⟨.hbm, 120, rfl⟩
abbrev main_while0c_v93 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_c_1 : Ref sig .tc := ⟨.hbm, 124, rfl⟩
abbrev main_while0b_call3_c_2 : Ref sig .tc := ⟨.hbm, 125, rfl⟩
abbrev main_while0b_call3_v0 : Ref sig .tc := ⟨.hbm, 126, rfl⟩
abbrev main_while0b_v93 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_v0 : Ref sig .tc := ⟨.hbm, 131, rfl⟩
abbrev main_while0b_v94 : Ref sig .tc := ⟨.hbm, 132, rfl⟩
abbrev main_while0b_call5_c : Ref sig .tc := ⟨.hbm, 133, rfl⟩
abbrev main_while0b_call5_c_0 : Ref sig .tc := ⟨.hbm, 134, rfl⟩
abbrev main_while0b_call5_c_1 : Ref sig .tc := ⟨.hbm, 135, rfl⟩
abbrev main_while0b_call5_c_2 : Ref sig .tc := ⟨.hbm, 136, rfl⟩
abbrev main_while0b_call5_v0 : Ref sig .tc := ⟨.hbm, 137, rfl⟩
abbrev main_while0b_v95 : Ref sig .tc := ⟨.hbm, 138, rfl⟩
abbrev main_while0b_call6_c : Ref sig .tc := ⟨.hbm, 139, rfl⟩
abbrev main_while0b_call6_c_0 : Ref sig .tc := ⟨.hbm, 140, rfl⟩
abbrev main_while0b_call6_c_1 : Ref sig .tc := ⟨.hbm, 141, rfl⟩
abbrev main_while0b_call6_c_2 : Ref sig .tc := ⟨.hbm, 142, rfl⟩
abbrev main_while0b_call6_v0 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_call7_call0_cst : Ref sig .tc := ⟨.hbm, 151, rfl⟩
abbrev main_while0b_call7_call0_v0 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_cst_13 : Ref sig .tc := ⟨.hbm, 159, rfl⟩
abbrev main_while0b_call8_v0 : Ref sig .tc := ⟨.hbm, 160, rfl⟩
abbrev main_while0b_call8_v1 : Ref sig .tc := ⟨.hbm, 161, rfl⟩
abbrev main_while0b_v109 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_v119 : Ref sig .tc := ⟨.hbm, 172, rfl⟩
abbrev main_while0b_v120 : Ref sig .tc := ⟨.hbm, 173, rfl⟩
abbrev main_while0b_v121 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_v125 : Ref sig .tc := ⟨.hbm, 178, rfl⟩
abbrev main_while0b_v126 : Ref sig .tc := ⟨.hbm, 179, rfl⟩
abbrev main_while0b_v127 : Ref sig .tc := ⟨.hbm, 180, rfl⟩
abbrev main_while0b_v128 : Ref sig .tc := ⟨.hbm, 181, rfl⟩
abbrev main_while0b_v129 : Ref sig .tc := ⟨.hbm, 182, rfl⟩
abbrev main_while0b_v130 : Ref sig .tc := ⟨.hbm, 183, rfl⟩
abbrev main_while0b_v131 : Ref sig .tc := ⟨.hbm, 184, rfl⟩
abbrev main_while0b_v132 : Ref sig .tc := ⟨.hbm, 185, rfl⟩
abbrev main_while0b_v133 : Ref sig .tc := ⟨.hbm, 186, rfl⟩
abbrev main_while0b_v134 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_v138 : Ref sig .tc := ⟨.hbm, 191, rfl⟩
abbrev main_while0b_v139 : Ref sig .tc := ⟨.hbm, 192, rfl⟩
abbrev main_while0b_v140 : Ref sig .tc := ⟨.hbm, 193, rfl⟩
abbrev main_while0b_v141 : Ref sig .tc := ⟨.hbm, 194, rfl⟩
abbrev main_while0b_v142 : Ref sig .tc := ⟨.hbm, 195, rfl⟩
abbrev main_while0b_v143 : Ref sig .tc := ⟨.hbm, 196, rfl⟩
abbrev main_while0b_call9_v0 : Ref sig .tc := ⟨.hbm, 197, rfl⟩
abbrev main_while0b_call9_c : Ref sig .tc := ⟨.hbm, 198, rfl⟩
abbrev main_while0b_call9_c_0 : Ref sig .tc := ⟨.hbm, 199, rfl⟩
abbrev main_while0b_call9_c_1 : Ref sig .tc := ⟨.hbm, 200, rfl⟩
abbrev main_while0b_call9_c_2 : Ref sig .tc := ⟨.hbm, 201, rfl⟩
abbrev main_while0b_v144 : Ref sig .tc := ⟨.hbm, 202, rfl⟩
abbrev main_while0b_c_14 : Ref sig .tc := ⟨.hbm, 203, rfl⟩
abbrev main_while0b_v145 : Ref sig .tc := ⟨.hbm, 204, rfl⟩
abbrev main_v68 : Ref sig .tc := ⟨.hbm, 205, rfl⟩
abbrev main_v69 : Ref sig .tc := ⟨.hbm, 206, rfl⟩
abbrev main_v70 : Ref sig .tc := ⟨.hbm, 207, rfl⟩
abbrev main_call10_v0 : Ref sig .tc := ⟨.hbm, 208, rfl⟩
abbrev main_call10_v1 : Ref sig .tc := ⟨.hbm, 209, rfl⟩
abbrev main_call10_cst : Ref sig .tc := ⟨.hbm, 210, rfl⟩
abbrev main_call10_v2 : Ref sig .tc := ⟨.hbm, 211, rfl⟩
abbrev main_call10_v3 : Ref sig .tc := ⟨.hbm, 212, rfl⟩
abbrev main_call10_cst_0 : Ref sig .tc := ⟨.hbm, 213, rfl⟩
abbrev main_call10_v4 : Ref sig .tc := ⟨.hbm, 214, rfl⟩
abbrev main_call10_v5 : Ref sig .tc := ⟨.hbm, 215, rfl⟩
abbrev main_v71 : Ref sig .tc := ⟨.hbm, 216, rfl⟩
abbrev main_v72 : Ref sig .tc := ⟨.hbm, 217, rfl⟩
abbrev main_v73 : Ref sig .tc := ⟨.hbm, 218, rfl⟩
abbrev main_v74 : Ref sig .tc := ⟨.hbm, 219, rfl⟩
abbrev main_cst_1 : Ref sig .tc := ⟨.hbm, 220, rfl⟩
abbrev main_v75 : Ref sig .tc := ⟨.hbm, 221, rfl⟩
abbrev main_v76 : Ref sig .tc := ⟨.hbm, 222, rfl⟩
abbrev main_cst_2 : Ref sig .tc := ⟨.hbm, 223, rfl⟩
abbrev main_v77 : Ref sig .tc := ⟨.hbm, 224, rfl⟩
abbrev main_v78 : Ref sig .tc := ⟨.hbm, 225, rfl⟩
abbrev main_cst_3 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_v84 : Ref sig .tc := ⟨.hbm, 232, rfl⟩
abbrev main_v85 : Ref sig .tc := ⟨.hbm, 233, rfl⟩
abbrev main_v86 : Ref sig .tc := ⟨.hbm, 234, rfl⟩
abbrev main_v87 : Ref sig .tc := ⟨.hbm, 235, rfl⟩
abbrev main_v88 : Ref sig .tc := ⟨.hbm, 236, rfl⟩
abbrev main_v89 : Ref sig .tc := ⟨.hbm, 237, rfl⟩
abbrev main_v90 : Ref sig .tc := ⟨.hbm, 238, rfl⟩
abbrev main_v91 : Ref sig .tc := ⟨.hbm, 239, rfl⟩
abbrev main_v92 : Ref sig .tc := ⟨.hbm, 240, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512x1024 : Shape := ⟨2, ![512, 1024]⟩
abbrev S1024 : Shape := ⟨1, ![1024]⟩
abbrev S1024x512 : Shape := ⟨2, ![1024, 512]⟩
abbrev S128 : Shape := ⟨1, ![128]⟩
abbrev S1024x4096 : Shape := ⟨2, ![1024, 4096]⟩
abbrev S4096x1024 : Shape := ⟨2, ![4096, 1024]⟩
abbrev S8x256x512 : Shape := ⟨3, ![8, 256, 512]⟩
abbrev S16384x1024 : Shape := ⟨2, ![16384, 1024]⟩
abbrev S16384x512 : Shape := ⟨2, ![16384, 512]⟩
abbrev S512x512 : Shape := ⟨2, ![512, 512]⟩
abbrev S1x256x512 : Shape := ⟨3, ![1, 256, 512]⟩
abbrev S512 : Shape := ⟨1, ![512]⟩
abbrev S512x1 : Shape := ⟨2, ![512, 1]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 39
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x256x4x128, .f32⟩
  | .hbm, ⟨4, _⟩ => ⟨S8x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1x512x1024, .f32⟩
  | .hbm, ⟨10, _⟩ => ⟨S1x1024, .f32⟩
  | .hbm, ⟨11, _⟩ => ⟨S1x1024x4096, .f32⟩
  | .hbm, ⟨12, _⟩ => ⟨S1x4096x1024, .f32⟩
  | .hbm, ⟨13, _⟩ => ⟨S1024x1024, .f32⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S512x1024, .f32⟩
  | .hbm, ⟨18, _⟩ => ⟨S512x1024, .bf16⟩
  | .hbm, ⟨19, _⟩ => ⟨S1024, .f32⟩
  | .hbm, ⟨20, _⟩ => ⟨S1x1024, .f32⟩
  | .hbm, ⟨21, _⟩ => ⟨S1024x512, .f32⟩
  | .hbm, ⟨22, _⟩ => ⟨S1024x512, .bf16⟩
  | .hbm, ⟨23, _⟩ => ⟨S128, .f32⟩
  | .hbm, ⟨24, _⟩ => ⟨S1x128, .f32⟩
  | .hbm, ⟨25, _⟩ => ⟨S512x1024, .f32⟩
  | .hbm, ⟨26, _⟩ => ⟨S512x1024, .bf16⟩
  | .hbm, ⟨27, _⟩ => ⟨S1024, .f32⟩
  | .hbm, ⟨28, _⟩ => ⟨S1x1024, .f32⟩
  | .hbm, ⟨29, _⟩ => ⟨S1024x4096, .f32⟩
  | .hbm, ⟨30, _⟩ => ⟨S1024x4096, .bf16⟩
  | .hbm, ⟨31, _⟩ => ⟨S4096x1024, .f32⟩
  | .hbm, ⟨32, _⟩ => ⟨S4096x1024, .bf16⟩
  | .hbm, ⟨33, _⟩ => ⟨S8x256x512, .f32⟩
  | .hbm, ⟨34, _⟩ => ⟨S8x256x512, .f32⟩
  | .hbm, ⟨35, _⟩ => ⟨S16384x1024, .f32⟩
  | .hbm, ⟨36, _⟩ => ⟨S16384x512, .bf16⟩
  | .hbm, ⟨37, _⟩ => ⟨S16384x512, .bf16⟩
  | .hbm, ⟨38, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x512, .bf16⟩
  | .local _ .vmem, ⟨14, _⟩ => ⟨S1x128, .f32⟩
  | .local _ .vmem, ⟨15, _⟩ => ⟨S512x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S512x1024, .f32⟩
  | .local _ .vmem, ⟨20, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x2048x1024 : Shape := ⟨3, ![8, 2048, 1024]⟩
abbrev S8x2048x512 : Shape := ⟨3, ![8, 2048, 512]⟩
abbrev S8x256x4x128 : Shape := ⟨4, ![8, 256, 4, 128]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x512 : Shape := ⟨2, ![1024, 512]⟩
abbrev S8x2048x4x128 : Shape := ⟨4, ![8, 2048, 4, 128]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S512x1024 : Shape := ⟨2, ![512, 1024]⟩
abbrev S1024x4096 : Shape := ⟨2, ![1024, 4096]⟩
abbrev S8x2048x4096 : Shape := ⟨3, ![8, 2048, 4096]⟩
abbrev S4096x1024 : Shape := ⟨2, ![4096, 1024]⟩
abbrev S16384x1024 : Shape := ⟨2, ![16384, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x256x4x128, .f32⟩
  | .hbm, ⟨4, _⟩ => ⟨S8x256x4x128, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1x512x1024, .f32⟩
  | .hbm, ⟨10, _⟩ => ⟨S1x1024, .f32⟩
  | .hbm, ⟨11, _⟩ => ⟨S1x1024x4096, .f32⟩
  | .hbm, ⟨12, _⟩ => ⟨S1x4096x1024, .f32⟩
  | .hbm, ⟨13, _⟩ => ⟨S8x2048x1024, .bf16⟩
  | .hbm, ⟨14, _⟩ => ⟨S8x2048x1024, .f32⟩
  | .hbm, ⟨15, _⟩ => ⟨S1024x1024, .f32⟩
  | .hbm, ⟨16, _⟩ => ⟨S8x2048x1024, .f32⟩
  | .hbm, ⟨17, _⟩ => ⟨S8x2048x1024, .f32⟩
  | .hbm, ⟨18, _⟩ => ⟨S1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S1024x512, .f32⟩
  | .hbm, ⟨36, _⟩ => ⟨S8x2048x512, .f32⟩
  | .hbm, ⟨37, _⟩ => ⟨S8x2048x4x128, .f32⟩
  | .hbm, ⟨38, _⟩ => ⟨S128, .f32⟩
  | .hbm, ⟨39, _⟩ => ⟨S8x2048x4x128, .f32⟩
  | .hbm, ⟨40, _⟩ => ⟨S_, .f32⟩
  | .hbm, ⟨41, _⟩ => ⟨S8x2048x4, .f32⟩
  | .hbm, ⟨42, _⟩ => ⟨S8x2048x4x1, .f32⟩
  | .hbm, ⟨43, _⟩ => ⟨S_, .f32⟩
  | .hbm, ⟨44, _⟩ => ⟨S8x2048x4x1, .f32⟩
  | .hbm, ⟨45, _⟩ => ⟨S8x2048x4x1, .f32⟩
  | .hbm, ⟨46, _⟩ => ⟨S_, .f32⟩
  | .hbm, ⟨47, _⟩ => ⟨S8x2048x4x1, .f32⟩
  | .hbm, ⟨48, _⟩ => ⟨S8x2048x4x1, .f32⟩
  | .hbm, ⟨49, _⟩ => ⟨S8x2048x4x1, .f32⟩
  | .hbm, ⟨50, _⟩ => ⟨S8x2048x4x128, .f32⟩
  | .hbm, ⟨51, _⟩ => ⟨S8x2048x4x128, .f32⟩
  | .hbm, ⟨52, _⟩ => ⟨S1x1x1x128, .f32⟩
  | .hbm, ⟨53, _⟩ => ⟨S8x2048x4x128, .f32⟩
  | .hbm, ⟨54, _⟩ => ⟨S8x2048x4x128, .f32⟩
  | .hbm, ⟨55, _⟩ => ⟨S8x4x2048x256, .f32⟩
  | .hbm, ⟨56, _⟩ => ⟨S_, .f32⟩
  | .hbm, ⟨57, _⟩ => ⟨S8x4x2048x256, .f32⟩
  | .hbm, ⟨58, _⟩ => ⟨S8x4x2048x256, .f32⟩
  | .hbm, ⟨59, _⟩ => ⟨S_, .f32⟩
  | .hbm, ⟨60, _⟩ => ⟨S8x4x2048, .f32⟩
  | .hbm, ⟨61, _⟩ => ⟨S_, .f32⟩
  | .hbm, ⟨62, _⟩ => ⟨S8x4x2048, .f32⟩
  | .hbm, ⟨63, _⟩ => ⟨S8x4x2048, .f32⟩
  | .hbm, ⟨64, _⟩ => ⟨S8x4x2048x1, .f32⟩
  | .hbm, ⟨65, _⟩ => ⟨S8x4x2048x256, .f32⟩
  | .hbm, ⟨66, _⟩ => ⟨S8x4x2048x256, .f32⟩
  | .hbm, ⟨67, _⟩ => ⟨S8x4x2048x256, .f32⟩
  | .hbm, ⟨68, _⟩ => ⟨S_, .f32⟩
  | .hbm, ⟨69, _⟩ => ⟨S8x4x2048, .f32⟩
  | .hbm, ⟨70, _⟩ => ⟨S8x4x2048x1, .f32⟩
  | .hbm, ⟨71, _⟩ => ⟨S8x4x2048x256, .f32⟩
  | .hbm, ⟨72, _⟩ => ⟨S8x4x2048x256, .f32⟩
  | .hbm, ⟨73, _⟩ => ⟨S8x4x128x2048, .f32⟩
  | .hbm, ⟨74, _⟩ => ⟨S8x2048x4x128, .f32⟩
  | .hbm, ⟨75, _⟩ => ⟨S8x2048x512, .f32⟩
  | .hbm, ⟨76, _⟩ => ⟨S512x1024, .f32⟩
  | .hbm, ⟨77, _⟩ => ⟨S8x2048x1024, .f32⟩
  | .hbm, ⟨78, _⟩ => ⟨S8x2048x1024, .f32⟩
  | .hbm, ⟨79, _⟩ => ⟨S1024, .f32⟩
  | .hbm, ⟨80, _⟩ => ⟨S8x2048x1024, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S_, .f32⟩
  | .hbm, ⟨88, _⟩ => ⟨S8x2048x1, .f32⟩
  | .hbm, ⟨89, _⟩ => ⟨S8x2048x1, .f32⟩
  | .hbm, ⟨90, _⟩ => ⟨S8x2048x1, .f32⟩
  | .hbm, ⟨91, _⟩ => ⟨S8x2048x1024, .f32⟩
  | .hbm, ⟨92, _⟩ => ⟨S8x2048x1024, .f32⟩
  | .hbm, ⟨93, _⟩ => ⟨S1x1x1024, .f32⟩
  | .hbm, ⟨94, _⟩ => ⟨S8x2048x1024, .f32⟩
  | .hbm, ⟨95, _⟩ => ⟨S8x2048x1024, .f32⟩
  | .hbm, ⟨96, _⟩ => ⟨S1024x4096, .f32⟩
  | .hbm, ⟨97, _⟩ => ⟨S8x2048x4096, .f32⟩
  | .hbm, ⟨98, _⟩ => ⟨S_, .f32⟩
  | .hbm, ⟨99, _⟩ => ⟨S8x2048x4096, .f32⟩
  | .hbm, ⟨100, _⟩ => ⟨S8x2048x4096, .f32⟩
  | .hbm, ⟨101, _⟩ => ⟨S8x2048x4096, .f32⟩
  | .hbm, ⟨102, _⟩ => ⟨S4096x1024, .f32⟩
  | .hbm, ⟨103, _⟩ => ⟨S8x2048x1024, .f32⟩
  | .hbm, ⟨104, _⟩ => ⟨S8x2048x1024, .f32⟩
  | .hbm, ⟨105, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call0_cst : Ref sig .tc := ⟨.hbm, 98, rfl⟩
abbrev main_call0_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Kernel3.lean ====
abbrev S8x256x1024 : Shape := ⟨3, ![8, 256, 1024]⟩
abbrev S1x1024 : Shape := ⟨2, ![1, 1024]⟩
abbrev S1x1024x512 : Shape := ⟨3, ![1, 1024, 512]⟩
abbrev S1x128 : Shape := ⟨2, ![1, 128]⟩
abbrev S2048x1024 : Shape := ⟨2, ![2048, 1024]⟩
abbrev S1024 : Shape := ⟨1, ![1024]⟩
abbrev S1024x512 : Shape := ⟨2, ![1024, 512]⟩
abbrev S128 : Shape := ⟨1, ![128]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 16
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1x128, .f32⟩
  | .hbm, ⟨5, _⟩ => ⟨S2048x1024, .f32⟩
  | .hbm, ⟨6, _⟩ => ⟨S1024, .f32⟩
  | .hbm, ⟨7, _⟩ => ⟨S1x1024, .f32⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S128, .f32⟩
  | .hbm, ⟨13, _⟩ => ⟨S1x128, .f32⟩
  | .hbm, ⟨14, _⟩ => ⟨S2048x512, .f32⟩
  | .hbm, ⟨15, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x256x1024 : Shape := ⟨3, ![8, 256, 1024]⟩
abbrev S1x1024 : Shape := ⟨2, ![1, 1024]⟩
abbrev S1x1024x512 : Shape := ⟨3, ![1, 1024, 512]⟩
abbrev S1x128 : Shape := ⟨2, ![1, 128]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x512 : Shape := ⟨2, ![1024, 512]⟩
abbrev S8x256x512 : Shape := ⟨3, ![8, 256, 512]⟩
abbrev S8x256x4x128 : Shape := ⟨4, ![8, 256, 4, 128]⟩
abbrev S128 : Shape := ⟨1, ![128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S2048x512 : Shape := ⟨2, ![2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1x128, .f32⟩
  | .hbm, ⟨5, _⟩ => ⟨S1024, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S1024x512, .f32⟩
  | .hbm, ⟨23, _⟩ => ⟨S8x256x512, .f32⟩
  | .hbm, ⟨24, _⟩ => ⟨S8x256x4x128, .f32⟩
  | .hbm, ⟨25, _⟩ => ⟨S128, .f32⟩
  | .hbm, ⟨26, _⟩ => ⟨S8x256x4x128, .f32⟩
  | .hbm, ⟨27, _⟩ => ⟨S_, .f32⟩
  | .hbm, ⟨28, _⟩ => ⟨S8x256x4, .f32⟩
  | .hbm, ⟨29, _⟩ => ⟨S8x256x4x1, .f32⟩
  | .hbm, ⟨30, _⟩ => ⟨S_, .f32⟩
  | .hbm, ⟨31, _⟩ => ⟨S8x256x4x1, .f32⟩
  | .hbm, ⟨32, _⟩ => ⟨S8x256x4x1, .f32⟩
  | .hbm, ⟨33, _⟩ => ⟨S_, .f32⟩
  | .hbm, ⟨34, _⟩ => ⟨S8x256x4x1, .f32⟩
  | .hbm, ⟨35, _⟩ => ⟨S8x256x4x1, .f32⟩
  | .hbm, ⟨36, _⟩ => ⟨S8x256x4x1, .f32⟩
  | .hbm, ⟨37, _⟩ => ⟨S8x256x4x128, .f32⟩
  | .hbm, ⟨38, _⟩ => ⟨S8x256x4x128, .f32⟩
  | .hbm, ⟨39, _⟩ => ⟨S1x1x1x128, .f32⟩
  | .hbm, ⟨40, _⟩ => ⟨S8x256x4x128, .f32⟩
  | .hbm, ⟨41, _⟩ => ⟨S8x256x4x128, .f32⟩
  | .hbm, ⟨42, _⟩ => ⟨S1024x512, .f32⟩
  | .hbm, ⟨43, _⟩ => ⟨S8x256x512, .f32⟩
  | .hbm, ⟨44, _⟩ => ⟨S8x256x4x128, .f32⟩
  | .hbm, ⟨45, _⟩ => ⟨S2048x512, .f32⟩
  | .hbm, ⟨46, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel4.lean ====
abbrev S8x2048x1024 : Shape := ⟨3, ![8, 2048, 1024]⟩
abbrev S1x1024 : Shape := ⟨2, ![1, 1024]⟩
abbrev S1x1024x3080 : Shape := ⟨3, ![1, 1024, 3080]⟩
abbrev S1x64 : Shape := ⟨2, ![1, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S32x2048 : Shape := ⟨2, ![32, 2048]⟩
abbrev S16384x1024 : Shape := ⟨2, ![16384, 1024]⟩
abbrev S1024 : Shape := ⟨1, ![1024]⟩
abbrev S1024x3080 : Shape := ⟨2, ![1024, 3080]⟩
abbrev S1024x1536 : Shape := ⟨2, ![1024, 1536]⟩
abbrev S1536x1024 : Shape := ⟨2, ![1536, 1024]⟩
abbrev S1024x8 : Shape := ⟨2, ![1024, 8]⟩
abbrev S8x1024 : Shape := ⟨2, ![8, 1024]⟩
abbrev S128x1024 : Shape := ⟨2, ![128, 1024]⟩
abbrev S64 : Shape := ⟨1, ![64]⟩
abbrev S64x1 : Shape := ⟨2, ![64, 1]⟩
abbrev S64x128 : Shape := ⟨2, ![64, 128]⟩
abbrev S8x512x2048 : Shape := ⟨3, ![8, 512, 2048]⟩
abbrev S16384x512 : Shape := ⟨2, ![16384, 512]⟩
abbrev S16384x128 : Shape := ⟨2, ![16384, 128]⟩
abbrev S512x1024 : Shape := ⟨2, ![512, 1024]⟩
abbrev S32x512 : Shape := ⟨2, ![32, 512]⟩
abbrev S1x512x512 : Shape := ⟨3, ![1, 512, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S8x64x512 : Shape := ⟨3, ![8, 64, 512]⟩
abbrev S8x512 : Shape := ⟨2, ![8, 512]⟩
abbrev S8x1x512 : Shape := ⟨3, ![8, 1, 512]⟩
abbrev S1x64x1 : Shape := ⟨3, ![1, 64, 1]⟩
abbrev S8x32x512 : Shape := ⟨3, ![8, 32, 512]⟩
abbrev S1x32x512 : Shape := ⟨3, ![1, 32, 512]⟩
abbrev S1024x1024 : Shape := ⟨2, ![1024, 1024]⟩

abbrev nBuf : Space → Nat
  | .hbm => 54
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3080, .f32⟩
  | .hbm, ⟨3, _⟩ => ⟨S1x64, .f32⟩
  | .hbm, ⟨4, _⟩ => ⟨S1x64, .f32⟩
  | .hbm, ⟨5, _⟩ => ⟨S2048, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S32x2048, .f32⟩
  | .hbm, ⟨22, _⟩ => ⟨S2048x32, .f32⟩
  | .hbm, ⟨23, _⟩ => ⟨S32x2048, .f32⟩
  | .hbm, ⟨24, _⟩ => ⟨S16384x1024, .f32⟩
  | .hbm, ⟨25, _⟩ => ⟨S1024, .f32⟩
  | .hbm, ⟨26, _⟩ => ⟨S1x1024, .f32⟩
  | .hbm, ⟨27, _⟩ => ⟨S1024x3080, .f32⟩
  | .hbm, ⟨28, _⟩ => ⟨S1024x1536, .f32⟩
  | .hbm, ⟨29, _⟩ => ⟨S1536x1024, .f32⟩
  | .hbm, ⟨30, _⟩ => ⟨S1536x1024, .bf16⟩
  | .hbm, ⟨31, _⟩ => ⟨S1024x3080, .f32⟩
  | .hbm, ⟨32, _⟩ => ⟨S1024x1536, .f32⟩
  | .hbm, ⟨33, _⟩ => ⟨S1536x1024, .f32⟩
  | .hbm, ⟨34, _⟩ => ⟨S1536x1024, .bf16⟩
  | .hbm, ⟨35, _⟩ => ⟨S1024x3080, .f32⟩
  | .hbm, ⟨36, _⟩ => ⟨S1024x8, .f32⟩
  | .hbm, ⟨37, _⟩ => ⟨S8x1024, .f32⟩
  | .hbm, ⟨38, _⟩ => ⟨S_, .i32⟩
  | .hbm, ⟨39, _⟩ => ⟨S_, .f32⟩
  | .hbm, ⟨40, _⟩ => ⟨S128x1024, .f32⟩
  | .hbm, ⟨41, _⟩ => ⟨S128x1024, .bf16⟩
  | .hbm, ⟨42, _⟩ => ⟨S64, .f32⟩
  | .hbm, ⟨43, _⟩ => ⟨S64x1, .f32⟩
  | .hbm, ⟨44, _⟩ => ⟨S64x128, .f32⟩
  | .hbm, ⟨45, _⟩ => ⟨S64, .f32⟩
  | .hbm, ⟨46, _⟩ => ⟨S64x1, .f32⟩
  | .hbm, ⟨47, _⟩ => ⟨S64x128, .f32⟩
  | .hbm, ⟨48, _⟩ => ⟨S8x512x2048, .f32⟩
  | .hbm, ⟨49, _⟩ => ⟨S8x512x2048, .f32⟩
  | .hbm, ⟨50, _⟩ => ⟨S8x512x2048, .f32⟩
  | .hbm, ⟨51, _⟩ => ⟨S16384x512, .f32⟩
  | .hbm, ⟨52, _⟩ => ⟨S16384x1024, .f32⟩
  | .hbm, ⟨53, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S1536x1024, .bf16⟩
  | .local _ .vmem, ⟨5, _⟩ => ⟨S128x1024, .bf16⟩
  | .local _ .vmem, ⟨6, _⟩ => ⟨S64x128, .f32⟩
  | .local _ .vmem, ⟨7, _⟩ => ⟨S64x128, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S512x512, .f32⟩
  | .local _ .vmem, ⟨19, _⟩ => ⟨S512x512, .f32⟩
  | .local _ .vmem, ⟨20, _⟩ => ⟨S512x1024, .f32⟩
  | .local _ .vmem, ⟨21, _⟩ => ⟨S512x1024, .f32⟩
  | .local _ .vmem, ⟨22, _⟩ => ⟨S512x128, .f32⟩
  | .local _ .vmem, ⟨23, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_call0_v0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev main_v39_4 : Ref sig .tc := ⟨.hbm, 52, rfl⟩
abbrev main_v39_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8x2048x1024 : Shape := ⟨3, ![8, 2048, 1024]⟩
abbrev S1x1024 : Shape := ⟨2, ![1, 1024]⟩
abbrev S1x1024x3080 : Shape := ⟨3, ![1, 1024, 3080]⟩
abbrev S1x64 : Shape := ⟨2, ![1, 64]⟩
abbrev S2048 : Shape := ⟨1, ![2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3080 : Shape := ⟨2, ![1024, 3080]⟩
abbrev S8x2048x3080 : Shape := ⟨3, ![8, 2048, 3080]⟩
abbrev S8x2048x512 : Shape := ⟨3, ![8, 2048, 512]⟩
abbrev S8x2048x8 : Shape := ⟨3, ![8, 2048, 8]⟩
abbrev S8x2048x8x64 : Shape := ⟨4, ![8, 2048, 8, 64]⟩
abbrev S64 : Shape := ⟨1, ![64]⟩
abbrev S8x2048x8x1 : Shape := ⟨4, ![8, 2048, 8, 1]⟩
abbrev S1x1x1x64 : Shape := ⟨4, ![1, 1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x512x2048 : Shape := ⟨3, ![8, 512, 2048]⟩
abbrev S16384x512 : Shape := ⟨2, ![16384, 512]⟩
abbrev S16384x1024 : Shape := ⟨2, ![16384, 1024]⟩
abbrev S16384x8 : Shape := ⟨2, ![16384, 8]⟩
abbrev S16384x128 : Shape := ⟨2, ![16384, 128]⟩

abbrev nBuf : Space → Nat
  | .hbm => 140
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x3080, .f32⟩
  | 3 => ⟨S1x64, .f32⟩
  | 4 => ⟨S1x64, .f32⟩
  | 5 => ⟨S2048, .i32⟩
  | 6 => ⟨S1024, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S1024x3080, .f32⟩
  | 24 => ⟨S8x2048x3080, .f32⟩
  | 25 => ⟨S8x2048x512, .f32⟩
  | 26 => ⟨S8x2048x512, .f32⟩
  | 27 => ⟨S8x2048x512, .f32⟩
  | 28 => ⟨S8x2048x512, .f32⟩
  | 29 => ⟨S8x2048x1024, .f32⟩
  | 30 => ⟨S8x2048x8, .f32⟩
  | 31 => ⟨S8x2048x8x64, .f32⟩
  | 32 => ⟨S64, .f32⟩
  | 33 => ⟨S8x2048x8x64, .f32⟩
  | 34 => ⟨S_, .f32⟩
  | 35 => ⟨S8x2048x8, .f32⟩
  | 36 => ⟨S8x2048x8x1, .f32⟩
  | 37 => ⟨S_, .f32⟩
  | 38 => ⟨S8x2048x8x1, .f32⟩
  | 39 => ⟨S8x2048x8x1, .f32⟩
  | 40 => ⟨S_, .f32⟩
  | 41 => ⟨S8x2048x8x1, .f32⟩
  | 42 => ⟨S8x2048x8x1, .f32⟩
  | 43 => ⟨S8x2048x8x1, .f32⟩
  | 44 => ⟨S8x2048x8x64, .f32⟩
  | 45 => ⟨S8x2048x8x64, .f32⟩
  | 46 => ⟨S1x1x1x64, .f32⟩
  | 47 => ⟨S8x2048x8x64, .f32⟩
  | 48 => ⟨S8x2048x8x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x32, .f32⟩
  | 64 => ⟨S1x2048x1x32, .f32⟩
  | 65 => ⟨S2048x32, .f32⟩
  | 66 => ⟨S1x2048x1x32, .f32⟩
  | 67 => ⟨S8x2048x8x32, .f32⟩
  | 68 => ⟨S8x2048x8x32, .f32⟩
  | 69 => ⟨S8x2048x8x32, .f32⟩
  | 70 => ⟨S8x2048x8x32, .f32⟩
  | 71 => ⟨S8x2048x8x32, .f32⟩
  | 72 => ⟨S8x2048x8x32, .f32⟩
  | 73 => ⟨S8x2048x8x32, .f32⟩
  | 74 => ⟨S8x2048x8x32, .f32⟩
  | 75 => ⟨S8x2048x8x32, .f32⟩
  | 76 => ⟨S8x2048x8x32, .f32⟩
  | 77 => ⟨S8x2048x8x32, .f32⟩
  | 78 => ⟨S8x2048x8x32, .f32⟩
  | 79 => ⟨S8x2048x8x64, .f32⟩
  | 80 => ⟨S8x2048x8x64, .f32⟩
  | 81 => ⟨S64, .f32⟩
  | 82 => ⟨S8x2048x8x64, .f32⟩
  | 83 => ⟨S_, .f32⟩
  | 84 => ⟨S8x2048x8, .f32⟩
  | 85 => ⟨S8x2048x8x1, .f32⟩
  | 86 => ⟨S_, .f32⟩
  | 87 => ⟨S8x2048x8x1, .f32⟩
  | 88 => ⟨S8x2048x8x1, .f32⟩
  | 89 => ⟨S_, .f32⟩
  | 90 => ⟨S8x2048x8x1, .f32⟩
  | 91 => ⟨S8x2048x8x1, .f32⟩
  | 92 => ⟨S8x2048x8x1, .f32⟩
  | 93 => ⟨S8x2048x8x64, .f32⟩
  | 94 => ⟨S8x2048x8x64, .f32⟩
  | 95 => ⟨S1x1x1x64, .f32⟩
  | 96 => ⟨S8x2048x8x64, .f32⟩
  | 97 => ⟨S8x2048x8x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S2048, .f32⟩
  | 107 => ⟨S2048x1, .f32⟩
  | 108 => ⟨S1x32, .f32⟩
  | 109 => ⟨S2048x32, .f32⟩
  | 110 => ⟨S2048x32, .f32⟩
  | 111 => ⟨S2048x32, .f32⟩
  | 112 => ⟨S2048x32, .f32⟩
  | 113 => ⟨S1x2048x1x32, .f32⟩
  | 114 => ⟨S2048x32, .f32⟩
  | 115 => ⟨S1x2048x1x32, .f32⟩
  | 116 => ⟨S8x2048x8x32, .f32⟩
  | 117 => ⟨S8x2048x8x32, .f32⟩
  | 118 => ⟨S8x2048x8x32, .f32⟩
  | 119 => ⟨S8x2048x8x32, .f32⟩
  | 120 => ⟨S8x2048x8x32, .f32⟩
  | 121 => ⟨S8x2048x8x32, .f32⟩
  | 122 => ⟨S8x2048x8x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x64, .f32⟩
  | 1 => ⟨S8x2048x512, .f32⟩
  | 2 => ⟨S8x512x2048, .f32⟩
  | 3 => ⟨S8x2048x512, .f32⟩
  | 4 => ⟨S8x512x2048, .f32⟩
  | 5 => ⟨S8x512x2048, .f32⟩
  | 6 => ⟨S16384x512, .f32⟩
  | 7 => ⟨S16384x1024, .f32⟩
  | 8 => ⟨S16384x8, .f32⟩
  | 9 => ⟨S_, .i32⟩
  | 10 => ⟨S_, .f32⟩
  | 11 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_cst_8 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_cst_11 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_c : Ref sig .tc := ⟨.hbm, 137, rfl⟩
abbrev main_call0_v0 : Ref sig .tc := ⟨.hbm, 138, rfl⟩
abbrev main_v119 : Ref sig .tc := ⟨.hbm, 139, rfl⟩

abbrev nD : Nat := 1
abbrev τ : Topo := Topo.v7x

variable {F : FTy → Type} [FloatOps F]
-- ==== Proof.RefRun.lean ====
module

public import proofs.«01_k».proof.Proof.Gen.ReferenceIdeal.Run
public import proofs.«01_k».proof.Proof.Gen.ReferenceIdeal.Step

/-! The reference's run, its loop written as the step of the `Step` module. -/

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The buffers' contents before the `j`-th trip are those of state `s`. -/
structure Carries : Prop where
  hid : V0 (Proc.devRef .tc main_v67_8) = s.main_v67_8
  ys : V0 (Proc.devRef .tc main_v67_9) = s.main_v67_9
  xs : V0 (Proc.devRef .tc main_v67_0) = s.main_v67_0
  dt : V0 (Proc.devRef .tc main_v67_1) = s.main_v67_1
  bs : V0 (Proc.devRef .tc main_v67_2) = s.main_v67_2
  cs : V0 (Proc.devRef .tc main_v67_3) = s.main_v67_3
  al : V0 (Proc.devRef .tc main_v67_4) = s.main_v67_4
  sk : V0 (Proc.devRef .tc main_v67_6) = s.main_v67_6
  num : V0 (Proc.devRef .tc main_v67_7) = constantI S_ 32 (BitVec.ofNat 32 j)
  mask : V0 (Proc.devRef .tc main_v67_5) = Cert.ReferenceIdeal.Step.K_main_v57 (F := F)

variable {V0 s j}

/-- The hidden state after one trip. -/
theorem hid_step (h : Carries V0 s j) : step_main_v67_8 V0 = (step j s).main_v67_8 := by
  unfold step_main_v67_8 res_main_while0b_v99 res_main_while0b_v103 res_main_while0b_v95
    res_main_while0b_v94 res_main_while0b_v93
  rw [h.hid, h.xs, h.dt, h.bs, h.al, h.num]
  rfl

/-- The outputs written so far after one trip. -/
theorem ys_step (h : Carries V0 s j) : step_main_v67_9 V0 = (step j s).main_v67_9 := by
  unfold step_main_v67_9 res_main_while0b_v99 res_main_while0b_v103 res_main_while0b_v96 res_main_while0b_v95
    res_main_while0b_v94 res_main_while0b_v93
  rw [h.hid, h.ys, h.xs, h.dt, h.bs, h.cs, h.al, h.sk, h.num, h.mask]
  rfl

/-- The trip's number after one trip. -/
theorem num_step (h : Carries V0 s j) : step_main_v67_7 V0 = constantI S_ 32 (BitVec.ofNat 32 (j + 1)) := by
  unfold step_main_v67_7
  rw [h.num]
  funext i
  exact (BitVec.ofNat_add ..).symm

/-- One trip takes the contents of `s` to those of `step j s`. -/
theorem carries_step (h : Carries V0 s j) : Carries (STEP V0) (step j s) (j + 1) :=
  ⟨(STEP_main_v67_8 V0).trans (hid_step h), (STEP_main_v67_9 V0).trans (ys_step h), (STEP_main_v67_0 V0).trans h.xs,
    (STEP_main_v67_1 V0).trans h.dt, (STEP_main_v67_2 V0).trans h.bs, (STEP_main_v67_3 V0).trans h.cs,
    (STEP_main_v67_4 V0).trans h.al, (STEP_main_v67_6 V0).trans h.sk, (STEP_main_v67_7 V0).trans (num_step h),
    (STEP_main_v67_5 V0).trans h.mask⟩

/-- The state before the first trip, of the arguments. -/
abbrev start (m : (ℓ : Loc nD τ sig) → Buf (Elt F) ℓ) (c : Dev nD) : State F :=
  init (m ((c.tc : Thread nD τ).loc main_arg4)) (m ((c.tc : Thread nD τ).loc main_arg9)) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 1000000 in
/-- What the operations before the loop leave. -/
theorem carries_start : Carries (entryContents preI m c) (start m c) 0 := by
  constructor <;> (simp only [entryContents, afterL_cons, afterL_nil]; after_reads_simp) <;> rfl

/-- The states one after another. -/
def states : ℕ → State F
  | 0 => start m c
  | k + 1 => step k (states k)

/-- Before trip `k` the buffers hold state `k`. -/
theorem carries_states : ∀ k, Carries (STEP^[k] (entryContents preI m c)) (states m c k) k
  | 0 => carries_start m c
  | k + 1 => by
    rw [Function.iterate_succ_apply']
    exact carries_step (carries_states k)

/-- The reference's run: it ends with the three results read off state 16 and the arguments as they were. -/
theorem run_states (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v91) = Cert.ReferenceIdeal.Step.R_main_v91 (states m c 16) (m ((c.tc : Thread nD τ).loc main_arg2)) (m ((c.tc : Thread nD τ).loc main_arg10))
      ∧ r.2.mem ((c.tc : Thread nD τ).loc main_v90) = Cert.ReferenceIdeal.Step.R_main_v90 (states m c 16) (m ((c.tc : Thread nD τ).loc main_arg0)) (m ((c.tc : Thread nD τ).loc main_arg3))
      ∧ r.2.mem ((c.tc : Thread nD τ).loc main_v92) = Cert.ReferenceIdeal.Step.R_main_v92 (states m c 16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    have hk := carries_states m c 16
    refine ⟨(h c).1.trans ?_, (h c).2.1.trans ?_, (h c).2.2.1.trans ?_, (h c).2.2.2⟩
    · unfold out_main_v91 Cert.ReferenceIdeal.Step.R_main_v91
      rw [hk.ys, iter_main_arg2 m c 16, iter_main_arg10 m c 16]
      rfl
    · unfold out_main_v90 Cert.ReferenceIdeal.Step.R_main_v90
      rw [iter_main_arg0 m c 16, iter_main_arg3 m c 16]
    · unfold out_main_v92 Cert.ReferenceIdeal.Step.R_main_v92
      rw [hk.hid]
      rfl) (run m ρ)

end Cert.RefRun

end
-- ==== Proof.KDef.lean ====
module

public import proofs.«01_k».proof.Proof.Gen.KernelIdeal.Value

/-! One chunk of one sequence, as the kernel computes it from the values it loads. -/

@[expose] public section

set_option maxRecDepth 16384

noncomputable section

namespace Cert.KChunk

open Idealize.ShloMosaic Idealize.ShloMosaic.TcCoe Idealize.SL.Sem
open Cert.KernelIdeal Cert.KernelIdeal.Gen

variable {F : FTy → Type} [FloatOps F]

/-- A column of a square fits it. -/
theorem col_fits : ∀ k : Fin 8, S128x128.Slices ![0, k.val] S128x1 := by decide
/-- A row of a square fits it. -/
theorem row_fits : ∀ k : Fin 8, S128x128.Slices ![k.val, 0] S1x128 := by decide
/-- An entry of a row fits it. -/
theorem ent_fits : ∀ k : Fin 8, S1x128.Slices ![0, k.val] S1x1 := by decide
/-- A pair of heads' lanes fit the heads' lanes. -/
theorem pair_fits : ∀ p : Fin 4, S128x512.Slices ![0, 128 * p.val] S128x128 := by decide
/-- A group's lanes fit the convolution's. -/
theorem grp_fits : ∀ g : Fin 4, S128x1024.Slices ![0, 512 + 128 * g.val] S128x128 := by decide

/-- The first head of a pair. -/
abbrev h0 (p : Fin 4) : Fin 8 := ⟨2 * p.val, by omega⟩
/-- The second head of a pair. -/
abbrev h1 (p : Fin 4) : Fin 8 := ⟨2 * p.val + 1, by omega⟩
/-- The `B` lanes of a pair's group, among the four groups of 128 lanes. -/
abbrev gB (p : Fin 4) : Fin 4 := ⟨p.val / 2, by omega⟩
/-- The `C` lanes of a pair's group, among the four groups of 128 lanes. -/
abbrev gC (p : Fin 4) : Fin 4 := ⟨2 + p.val / 2, by omega⟩

/-- The convolution with its gate. -/
def act (cv : FVec F S128x1024 .f32) : FVec F S128x1024 .f32 :=
  mulf cv (divf (broadcast S128x1024 (Scalar.ofBits .f32 0x3F800000#32))
    (addf (broadcast S128x1024 (Scalar.ofBits .f32 0x3F800000#32))
      (exp (subf (broadcast S128x1024 (Scalar.ofBits .f32 0x00000000#32)) cv))))

/-- The lanes of the inputs of a pair of heads. -/
def xsP (cv : FVec F S128x1024 .f32) (p : Fin 4) : FVec F S128x128 .f32 :=
  extractStridedSlice S128x128 ![0, 128 * p.val]
    (extractStridedSlice S128x512 ![0, 0] (act cv) slices_S128x1024_o0_0_S128x512) (pair_fits p)

/-- The lanes of a group. -/
def grp (cv : FVec F S128x1024 .f32) (g : Fin 4) : FVec F S128x128 .bf16 :=
  truncf .bf16 (extractStridedSlice S128x128 ![0, 512 + 128 * g.val] (act cv) (grp_fits g)) bitsLt_bf16_f32

/-- One doubling step of the running sum along the rows. -/
def cumStep (k : BitVec 32) (v : FVec F S128x128 .f32) : FVec F S128x128 .f32 :=
  addf v (select (cmpi .sge (iota .tc S128x128 32 [0] iota_S128x128_d0_w32) (broadcast S128x128 k))
    (dynamicRotate 0 k none v rotates_S128x128_d0) (broadcast S128x128 (Scalar.ofBits .f32 0x00000000#32)))

/-- The running sum of the decay exponents along the rows. -/
def cumOf (dt : FVec F S128x128 .f32) (alog : Vec F S1x128 .f32) : FVec F S128x128 .f32 :=
  cumStep 64#32 (cumStep 32#32 (cumStep 16#32 (cumStep 8#32 (cumStep 4#32 (cumStep 2#32 (cumStep 1#32
    (mulf dt (broadcastTo S128x128 (subf (broadcast S1x128 (Scalar.ofBits .f32 0x00000000#32))
      (exp (shapeCast S1x128 alog shapeCasts_S1x128_S1x128))) broadcasts_S1x128_S128x128))))))))

/-- Column `k` along the lanes. -/
def colB (v : FVec F S128x128 .f32) (k : Fin 8) : FVec F S128x128 .f32 :=
  broadcastTo S128x128 (extractStridedSlice S128x1 ![0, k.val] v (col_fits k)) broadcasts_S128x1_S128x128

/-- The columns of a pair's two heads, each along its head's lanes. -/
def pick (v : FVec F S128x128 .f32) (p : Fin 4) : FVec F S128x128 .f32 :=
  select k0_pay56
    (broadcastTo S128x128 (shapeCast S128x1 (extractStridedSlice S128x1 ![0, (h0 p).val] v (col_fits (h0 p))) shapeCasts_S128x1_S128x1) broadcasts_S128x1_S128x128)
    (broadcastTo S128x128 (shapeCast S128x1 (extractStridedSlice S128x1 ![0, (h1 p).val] v (col_fits (h1 p))) shapeCasts_S128x1_S128x1) broadcasts_S128x1_S128x128)

/-- The decays between the rows, of head `k`. -/
def decay (cum : FVec F S128x128 .f32) (k : Fin 8) : FVec F S128x128 .f32 :=
  select k0_pay55
    (exp (minimumf
      (subf (colB cum k)
        (broadcastTo S128x128 (extractStridedSlice S1x128 ![k.val, 0]
          (transpose S128x128 [1, 0] cum transposes_S128x128_p1_0_S128x128) (row_fits k)) broadcasts_S1x128_S128x128))
      (broadcast S128x128 (Scalar.ofBits .f32 0x00000000#32))))
    (broadcast S128x128 (Scalar.ofBits .f32 0x00000000#32))

/-- The inputs of a pair of heads times their step sizes. -/
def xdtP (cv : FVec F S128x1024 .f32) (dt : FVec F S128x128 .f32) (p : Fin 4) : FVec F S128x128 .f32 :=
  mulf (xsP cv p) (pick dt p)

/-- What the chunk's own rows give head `k` of a pair. -/
def inner (cv : FVec F S128x1024 .f32) (dt cum : FVec F S128x128 .f32) (p : Fin 4) (k : Fin 8) : FVec F S128x128 .f32 :=
  matmul dot_S128x128_S128x128_S128x128_1_0_0_1_n_n none
    (truncf .bf16 (mulf (matmul dot_S128x128_S128x128_S128x128_1_1_0_0_n_n none (grp cv (gC p)) (grp cv (gB p))
      (constant S128x128 .f32 0x00000000#32)) (decay cum k)) bitsLt_bf16_f32)
    (truncf .bf16 (xdtP cv dt p) bitsLt_bf16_f32) (constant S128x128 .f32 0x00000000#32)

/-- The outputs of a pair of heads. -/
def yPair (cv : FVec F S128x1024 .f32) (dt cum : FVec F S128x128 .f32) (p : Fin 4) (hp : Vec F S1x128x128 .f32)
    (dsk : Vec F S1x128 .f32) : FVec F S128x128 .f32 :=
  addf (addf (select k0_pay56 (inner cv dt cum p (h0 p)) (inner cv dt cum p (h1 p)))
      (mulf (matmul dot_S128x128_S128x128_S128x128_1_1_0_0_n_n none (grp cv (gC p))
        (truncf .bf16 (shapeCast S128x128 hp shapeCasts_S1x128x128_S128x128) bitsLt_bf16_f32)
        (constant S128x128 .f32 0x00000000#32)) (pick (exp cum) p)))
    (mulf (broadcastTo S128x128 (shapeCast S1x128 dsk shapeCasts_S1x128_S1x128) broadcasts_S1x128_S128x128) (xsP cv p))

/-- The last row of the running sum. -/
def lastRow (cum : FVec F S128x128 .f32) : FVec F S1x128 .f32 :=
  extractStridedSlice S1x128 ![127, 0] cum slices_S128x128_o127_0_S1x128

/-- The hidden state of a pair of heads after the chunk. -/
def hPair (cv : FVec F S128x1024 .f32) (dt cum : FVec F S128x128 .f32) (p : Fin 4) (hp : Vec F S1x128x128 .f32) :
    FVec F S1x128x128 .f32 :=
  shapeCast S1x128x128 (addf
    (mulf (shapeCast S128x128 hp shapeCasts_S1x128x128_S128x128)
      (broadcastTo S128x128 (select k0_pay57
        (broadcastTo S128x1 (shapeCast S1x1 (extractStridedSlice S1x1 ![0, (h0 p).val] (exp (lastRow cum)) (ent_fits (h0 p))) shapeCasts_S1x1_S1x1) broadcasts_S1x1_S128x1)
        (broadcastTo S128x1 (shapeCast S1x1 (extractStridedSlice S1x1 ![0, (h1 p).val] (exp (lastRow cum)) (ent_fits (h1 p))) shapeCasts_S1x1_S1x1) broadcasts_S1x1_S128x1))
        broadcasts_S128x1_S128x128))
    (matmul dot_S128x128_S128x128_S128x128_0_0_1_1_n_n none
      (truncf .bf16 (mulf (xdtP cv dt p)
        (pick (exp (subf (broadcastTo S128x128 (lastRow cum) broadcasts_S1x128_S128x128) cum)) p)) bitsLt_bf16_f32)
      (grp cv (gB p)) (constant S128x128 .f32 0x00000000#32))) shapeCasts_S128x128_S1x128x128

/-- One group's lanes over their root mean square. -/
def normed (v : FVec F S128x256 .f32) : FVec F S128x256 .f32 :=
  mulf v (broadcastTo S128x256 (rsqrt (addf
    (divf (shapeCast S128x1 (multiReduction .add [1] S128 (mulf v v) 0x00000000#32 reduces_S128x256_S128 (.inl rfl) rfl) shapeCasts_S128_S128x1)
      (broadcast S128x1 (Scalar.ofBits .f32 0x43800000#32)))
    (broadcast S128x1 (Scalar.ofBits .f32 0x358637BD#32)))) broadcasts_S128x1_S128x256)

/-- The outputs gated by `z`. -/
def gated (y : FVec F S128x512 .f32) (z : Vec F S1x128x512 .f32) : FVec F S128x512 .f32 :=
  mulf y (mulf (shapeCast S128x512 z shapeCasts_S1x128x512_S128x512)
    (divf (broadcast S128x512 (Scalar.ofBits .f32 0x3F800000#32))
      (addf (broadcast S128x512 (Scalar.ofBits .f32 0x3F800000#32))
        (exp (subf (broadcast S128x512 (Scalar.ofBits .f32 0x00000000#32)) (shapeCast S128x512 z shapeCasts_S1x128x512_S128x512))))))

/-- The chunk's outputs, gated and normed by group. -/
def yAll (cv : FVec F S128x1024 .f32) (dt cum : FVec F S128x128 .f32) (hp : Fin 4 → Vec F S1x128x128 .f32)
    (dsk : Fin 4 → Vec F S1x128 .f32) (z : Vec F S1x128x512 .f32) (gn : Vec F S1x512 .f32) : FVec F S1x128x512 .bf16 :=
  shapeCast S1x128x512 (truncf .bf16 (mulf
    (concatenate S128x512 1
      [⟨S128x256, normed (extractStridedSlice S128x256 ![0, 0] (gated (concatenate S128x512 1 [⟨S128x128, yPair cv dt cum 0 (hp 0) (dsk 0)⟩, ⟨S128x128, yPair cv dt cum 1 (hp 1) (dsk 1)⟩, ⟨S128x128, yPair cv dt cum 2 (hp 2) (dsk 2)⟩, ⟨S128x128, yPair cv dt cum 3 (hp 3) (dsk 3)⟩] concatenates_S128x128_S128x128_S128x128_S128x128_S128x512_d1) z) slices_S128x512_o0_0_S128x256)⟩,
       ⟨S128x256, normed (extractStridedSlice S128x256 ![0, 256] (gated (concatenate S128x512 1 [⟨S128x128, yPair cv dt cum 0 (hp 0) (dsk 0)⟩, ⟨S128x128, yPair cv dt cum 1 (hp 1) (dsk 1)⟩, ⟨S128x128, yPair cv dt cum 2 (hp 2) (dsk 2)⟩, ⟨S128x128, yPair cv dt cum 3 (hp 3) (dsk 3)⟩] concatenates_S128x128_S128x128_S128x128_S128x128_S128x512_d1) z) slices_S128x512_o0_256_S128x256)⟩]
      concatenates_S128x256_S128x256_S128x512_d1)
    (broadcastTo S128x512 (shapeCast S1x512 gn shapeCasts_S1x512_S1x512) broadcasts_S1x512_S128x512)) bitsLt_bf16_f32)
    shapeCasts_S128x512_S1x128x512

end Cert.KChunk

end
-- ==== Proof.KPieces.lean ====
module

public import proofs.«01_k».proof.Proof.KDef

/-! What the kernel stores at a grid point, sequence by sequence, as functions of what it loads. -/

@[expose] public section

set_option maxRecDepth 16384

noncomputable section

namespace Cert.KChunk

open Idealize.ShloMosaic Idealize.ShloMosaic.TcCoe Idealize.SL.Sem
open Cert.KernelIdeal Cert.KernelIdeal.Gen

variable {F : FTy → Type} [FloatOps F]

/-- The buffers of a grid point and the blocks its inputs hold. -/
structure Ins (F : FTy → Type) where
  a2 : Memref sig .tc .vmem S8x128x1024 .f32
  w2 : a2.IsWhole
  a3 : Memref sig .tc .vmem S8x128x128 .f32
  w3 : a3.IsWhole
  a4 : Memref sig .tc .vmem S8x128x512 .f32
  w4 : a4.IsWhole
  a5 : Memref sig .tc .vmem S8x8x1024 .f32
  w5 : a5.IsWhole
  a6 : Memref sig .tc .vmem S8x512x128 .f32
  w6 : a6.IsWhole
  a7 : Memref sig .tc .vmem S4x1024 .f32
  w7 : a7.IsWhole
  a8 : Memref sig .tc .vmem S1x1024 .f32
  w8 : a8.IsWhole
  a9 : Memref sig .tc .vmem S1x128 .f32
  w9 : a9.IsWhole
  a10 : Memref sig .tc .vmem S1x128 .f32
  w10 : a10.IsWhole
  a11 : Memref sig .tc .vmem S1x512 .f32
  w11 : a11.IsWhole
  a12 : Memref sig .tc .vmem S1x512 .f32
  w12 : a12.IsWhole
  a16 : Memref sig .tc .vmem S8x136x1024 .f32
  w16 : a16.IsWhole
  a17 : Memref sig .tc .vmem S8x512x128 .f32
  w17 : a17.IsWhole
  x0 : Vec F S8x128x1024 .f32
  x1 : Vec F S8x128x128 .f32
  x2 : Vec F S8x128x512 .f32
  x3 : Vec F S8x8x1024 .f32
  x4 : Vec F S8x512x128 .f32
  x5 : Vec F S4x1024 .f32
  x6 : Vec F S1x1024 .f32
  x7 : Vec F S1x128 .f32
  x8 : Vec F S1x128 .f32
  x9 : Vec F S1x512 .f32
  x10 : Vec F S1x512 .f32

/-- A load or store stays inside its buffer. -/
theorem in_x : ∀ b : Fin 8, ∀ a, (![b.val, 0, 0] : Fin 3 → Nat) a + S1x128x1024.size a ≤ S8x128x1024.size a := by decide
/-- A load or store stays inside its buffer. -/
theorem in_dt : ∀ b : Fin 8, ∀ a, (![b.val, 0, 0] : Fin 3 → Nat) a + S1x128x128.size a ≤ S8x128x128.size a := by decide
/-- A load or store stays inside its buffer. -/
theorem in_z : ∀ b : Fin 8, ∀ a, (![b.val, 0, 0] : Fin 3 → Nat) a + S1x128x512.size a ≤ S8x128x512.size a := by decide
/-- A load or store stays inside its buffer. -/
theorem in_c8 : ∀ b : Fin 8, ∀ a, (![b.val, 0, 0] : Fin 3 → Nat) a + S1x8x1024.size a ≤ S8x8x1024.size a := by decide
/-- A load or store stays inside its buffer. -/
theorem in_h0 : ∀ b : Fin 8, ∀ a, (![b.val, 0, 0] : Fin 3 → Nat) a + S1x512x128.size a ≤ S8x512x128.size a := by decide
/-- A load or store stays inside its buffer. -/
theorem in_w : ∀ a, (![0, 0] : Fin 2 → Nat) a + S4x1024.size a ≤ S4x1024.size a := by decide
/-- A load or store stays inside its buffer. -/
theorem in_b : ∀ a, (![0, 0] : Fin 2 → Nat) a + S1x1024.size a ≤ S1x1024.size a := by decide
/-- A load or store stays inside its buffer. -/
theorem in_l : ∀ a, (![0, 0] : Fin 2 → Nat) a + S1x128.size a ≤ S1x128.size a := by decide
/-- A load or store stays inside its buffer. -/
theorem in_g : ∀ a, (![0, 0] : Fin 2 → Nat) a + S1x512.size a ≤ S1x512.size a := by decide
/-- A load or store stays inside its buffer. -/
theorem in_d : ∀ p : Fin 4, ∀ a, (![0, 128 * p.val] : Fin 2 → Nat) a + S1x128.size a ≤ S1x512.size a := by decide
/-- A load or store stays inside its buffer. -/
theorem in_back : ∀ (b : Fin 8) (k : Fin 9), ∀ a, (![b.val, k.val, 0] : Fin 3 → Nat) a + S1x128x1024.size a ≤ S8x136x1024.size a := by decide
/-- A load or store stays inside its buffer. -/
theorem in_head : ∀ b : Fin 8, ∀ a, (![b.val, 0, 0] : Fin 3 → Nat) a + S1x8x1024.size a ≤ S8x136x1024.size a := by decide
/-- A load or store stays inside its buffer. -/
theorem in_last : ∀ b : Fin 8, ∀ a, (![b.val, 128, 0] : Fin 3 → Nat) a + S1x8x1024.size a ≤ S8x136x1024.size a := by decide
/-- A load or store stays inside its buffer. -/
theorem in_h : ∀ (b : Fin 8) (p : Fin 4), ∀ a, (![b.val, 128 * p.val, 0] : Fin 3 → Nat) a + S1x128x128.size a ≤ S8x512x128.size a := by decide

variable (A : Ins F)

/-- The rows of sequence `b`'s chunk before the convolution. -/
def rX (b : Fin 8) : Vec F S1x128x1024 .f32 :=
  View.readAt (Elt F) A.a2.view (Rect.unit ![b.val, 0, 0] S1x128x1024.size (in_x b) : Rect S8x128x1024).toLoadRect (A.w2.unread A.x0)
/-- The rows of sequence `b`'s step sizes before the softplus. -/
def rDt (b : Fin 8) : Vec F S1x128x128 .f32 :=
  View.readAt (Elt F) A.a3.view (Rect.unit ![b.val, 0, 0] S1x128x128.size (in_dt b) : Rect S8x128x128).toLoadRect (A.w3.unread A.x1)
/-- The rows of sequence `b`'s gate. -/
def rZ (b : Fin 8) : Vec F S1x128x512 .f32 :=
  View.readAt (Elt F) A.a4.view (Rect.unit ![b.val, 0, 0] S1x128x512.size (in_z b) : Rect S8x128x512).toLoadRect (A.w4.unread A.x2)
/-- The convolution's taps. -/
def rW : Vec F S4x1024 .f32 :=
  View.readAt (Elt F) A.a7.view (Rect.unit ![0, 0] S4x1024.size in_w : Rect S4x1024).toLoadRect (A.w7.unread A.x5)
/-- The convolution's bias. -/
def rB : Vec F S1x1024 .f32 :=
  View.readAt (Elt F) A.a8.view (Rect.unit ![0, 0] S1x1024.size in_b : Rect S1x1024).toLoadRect (A.w8.unread A.x6)
/-- The step sizes' bias. -/
def rDtb : Vec F S1x128 .f32 :=
  View.readAt (Elt F) A.a9.view (Rect.unit ![0, 0] S1x128.size in_l : Rect S1x128).toLoadRect (A.w9.unread A.x7)
/-- The decay rates' logarithms. -/
def rAlog : Vec F S1x128 .f32 :=
  View.readAt (Elt F) A.a10.view (Rect.unit ![0, 0] S1x128.size in_l : Rect S1x128).toLoadRect (A.w10.unread A.x8)
/-- The skip weights of a pair of heads, one per lane. -/
def rDsk (p : Fin 4) : Vec F S1x128 .f32 :=
  View.readAt (Elt F) A.a11.view (Rect.unit ![0, 128 * p.val] S1x128.size (in_d p) : Rect S1x512).toLoadRect (A.w11.unread A.x9)
/-- The norm's weights. -/
def rGn : Vec F S1x512 .f32 :=
  View.readAt (Elt F) A.a12.view (Rect.unit ![0, 0] S1x512.size in_g : Rect S1x512).toLoadRect (A.w12.unread A.x10)

/-- Where the rows `k … k + 127` of sequence `b` lie in the padded chunk. -/
def backRect (b : Fin 8) (k : Fin 9) : Rect S8x136x1024 := Rect.unit ![b.val, k.val, 0] S1x128x1024.size (in_back b k)
/-- Where the rows of the chunk before lie. -/
def headRect (b : Fin 8) : Rect S8x136x1024 := Rect.unit ![b.val, 0, 0] S1x8x1024.size (in_head b)
/-- Where the last rows of the chunk lie. -/
def lastRect (b : Fin 8) : Rect S8x136x1024 := Rect.unit ![b.val, 128, 0] S1x8x1024.size (in_last b)
/-- Where the state of a pair of heads lies. -/
def hRect (b : Fin 8) (p : Fin 4) : Rect S8x512x128 := Rect.unit ![b.val, 128 * p.val, 0] S1x128x128.size (in_h b p)
/-- Where the outputs of a sequence lie. -/
def yRect (b : Fin 8) : Rect S8x128x512 := Rect.unit ![b.val, 0, 0] S1x128x512.size (in_z b)

/-- The store of sequence `b`'s rows into the padded chunk. -/
def xPc (b : Fin 8) : View.Piece (Elt F) S8x136x1024 .f32 := ⟨backRect b 8, k0_pay35 (rX A b)⟩
/-- The store of sequence `b`'s last rows in front, for the next chunk. -/
def cPc (L : List (View.Piece (Elt F) S8x136x1024 .f32)) (b : Fin 8) : View.Piece (Elt F) S8x136x1024 .f32 :=
  ⟨headRect b, k0_pay37 (View.readCov A.a16.view L (lastRect b).toLoadRect)⟩

/-- The stores into the padded chunk when sequence `n` is convolved. -/
def hs0 (L0 : List (View.Piece (Elt F) S8x136x1024 .f32)) : (n : ℕ) → n < 8 → List (View.Piece (Elt F) S8x136x1024 .f32)
  | 0, h => xPc A ⟨0, h⟩ :: L0
  | n + 1, h => xPc A ⟨n + 1, h⟩ :: cPc A (hs0 L0 n (by omega)) ⟨n, by omega⟩ :: hs0 L0 n (by omega)

/-- The stores into the padded chunk at the end of the point. -/
def hs0End (L0 : List (View.Piece (Elt F) S8x136x1024 .f32)) : List (View.Piece (Elt F) S8x136x1024 .f32) :=
  cPc A (hs0 A L0 7 (by decide)) 7 :: hs0 A L0 7 (by decide)

/-- The convolution of sequence `b`, over what the padded chunk holds. -/
def cvOf (b : Fin 8) (buf : A.a16.view.ty.Contents (Elt F)) : FVec F S128x1024 .f32 :=
  k0_pay36 (rX A b) (rW A) (rB A) (View.readAt (Elt F) A.a16.view (backRect b 7).toLoadRect buf)
    (View.readAt (Elt F) A.a16.view (backRect b 6).toLoadRect buf) (View.readAt (Elt F) A.a16.view (backRect b 5).toLoadRect buf)

/-- The step sizes of sequence `b`. -/
def dtOf (b : Fin 8) : FVec F S128x128 .f32 := k0_pay44 (rDt A b) (rDtb A)
/-- The running decay exponents of sequence `b`. -/
def cmOf (b : Fin 8) : FVec F S128x128 .f32 := cumOf (dtOf A b) (rAlog A)

/-- The store of sequence `b`'s outputs. -/
def yPc (b : Fin 8) (cv : FVec F S128x1024 .f32) (hp : Fin 4 → Vec F S1x128x128 .f32) : View.Piece (Elt F) S8x128x512 .bf16 :=
  ⟨yRect b, yAll cv (dtOf A b) (cmOf A b) hp (rDsk A) (rZ A b) (rGn A)⟩
/-- The store of the state of sequence `b`'s pair `p` of heads. -/
def hPc (b : Fin 8) (p : Fin 4) (cv : FVec F S128x1024 .f32) (hp : Vec F S1x128x128 .f32) : View.Piece (Elt F) S8x512x128 .f32 :=
  ⟨hRect b p, hPair cv (dtOf A b) (cmOf A b) p hp⟩

/-- The padded chunk when sequence `b` is convolved, carried from the point before. -/
def bufB (xs0 : Vec F S8x136x1024 .f32) (b : Fin 8) : A.a16.view.ty.Contents (Elt F) :=
  A.a16.view.writes (Elt F) (A.w16.unread xs0) (hs0 A [] b.val b.isLt)
/-- The state read for a pair of heads, carried from the point before. -/
def hpB (xs1 : Vec F S8x512x128 .f32) (b : Fin 8) (p : Fin 4) : Vec F S1x128x128 .f32 :=
  View.readAt (Elt F) A.a17.view (hRect b p).toLoadRect (A.w17.unread xs1)

/-- The output stores of a middle point, last first. -/
def ysB (xs0 : Vec F S8x136x1024 .f32) (xs1 : Vec F S8x512x128 .f32) : List (View.Piece (Elt F) S8x128x512 .bf16) :=
  ([7, 6, 5, 4, 3, 2, 1, 0] : List (Fin 8)).map fun b => yPc A b (cvOf A b (bufB A xs0 b)) (hpB A xs1 b)
/-- The state stores of a middle point, last first. -/
def hsB (xs0 : Vec F S8x136x1024 .f32) (xs1 : Vec F S8x512x128 .f32) : List (View.Piece (Elt F) S8x512x128 .f32) :=
  ([7, 6, 5, 4, 3, 2, 1, 0] : List (Fin 8)).flatMap fun b => ([3, 2, 1, 0] : List (Fin 4)).map fun p =>
    hPc A b p (cvOf A b (bufB A xs0 b)) (hpB A xs1 b p)

/-- The stores that bring the rows before the first chunk, last first. -/
def initX : List (View.Piece (Elt F) S8x136x1024 .f32) :=
  ([7, 6, 5, 4, 3, 2, 1, 0] : List (Fin 8)).map fun b => ⟨headRect b, shapeCast S1x8x1024 (shapeCast S8x1024
    (View.readAt (Elt F) A.a5.view (Rect.unit ![b.val, 0, 0] S1x8x1024.size (in_c8 b) : Rect S8x8x1024).toLoadRect (A.w5.unread A.x3))
    shapeCasts_S1x8x1024_S8x1024) shapeCasts_S8x1024_S1x8x1024⟩
/-- The stores that bring the state before the first chunk, last first. -/
def initH : List (View.Piece (Elt F) S8x512x128 .f32) :=
  ([7, 6, 5, 4, 3, 2, 1, 0] : List (Fin 8)).map fun b => ⟨Rect.unit ![b.val, 0, 0] S1x512x128.size (in_h0 b), shapeCast S1x512x128 (shapeCast S512x128
    (View.readAt (Elt F) A.a6.view (Rect.unit ![b.val, 0, 0] S1x512x128.size (in_h0 b) : Rect S8x512x128).toLoadRect (A.w6.unread A.x4))
    shapeCasts_S1x512x128_S512x128) shapeCasts_S512x128_S1x512x128⟩
/-- The padded chunk when sequence `b` is convolved, at the first point. -/
def bufA (b : Fin 8) : A.a16.view.ty.Contents (Elt F) :=
  A.a16.view.writes (Elt F) A.a16.view.junk (hs0 A (initX A) b.val b.isLt)
/-- The state read for a pair of heads after the stores `L`. -/
def hpL (L : List (View.Piece (Elt F) S8x512x128 .f32)) (b : Fin 8) (p : Fin 4) : Vec F S1x128x128 .f32 :=
  View.readCov A.a17.view L (hRect b p).toLoadRect
/-- The first `n` state stores of the first point, after those that bring the state. -/
def hs1 : (n : ℕ) → n ≤ 32 → List (View.Piece (Elt F) S8x512x128 .f32)
  | 0, _ => initH A
  | n + 1, h => hPc A ⟨n / 4, by omega⟩ ⟨n % 4, by omega⟩ (cvOf A ⟨n / 4, by omega⟩ (bufA A ⟨n / 4, by omega⟩))
      (hpL A (hs1 n (by omega)) ⟨n / 4, by omega⟩ ⟨n % 4, by omega⟩) :: hs1 n (by omega)
/-- The output stores of the first point, last first. -/
def ysA : List (View.Piece (Elt F) S8x128x512 .bf16) :=
  ([7, 6, 5, 4, 3, 2, 1, 0] : List (Fin 8)).map fun b => yPc A b (cvOf A b (bufA A b))
    fun p => hpL A (hs1 A (4 * b.val + p.val) (by omega)) b p

/-- A load or store stays inside its buffer. -/
theorem in_conv : ∀ b : Fin 8, ∀ a, (![b.val, 133, 0] : Fin 3 → Nat) a + S1x3x1024.size a ≤ S8x136x1024.size a := by decide
/-- A load or store stays inside its buffer. -/
theorem in_conv' : ∀ b : Fin 8, ∀ a, (![b.val, 0, 0] : Fin 3 → Nat) a + S1x3x1024.size a ≤ S8x3x1024.size a := by decide

/-- The stores of the last rows of the chunk at the last point, last first. -/
def convC : List (View.Piece (Elt F) S8x3x1024 .f32) :=
  ([7, 6, 5, 4, 3, 2, 1, 0] : List (Fin 8)).map fun b => ⟨Rect.unit ![b.val, 0, 0] S1x3x1024.size (in_conv' b),
    shapeCast S1x3x1024 (shapeCast S3x1024 (View.readCov A.a16.view (hs0End A []) (Rect.unit ![b.val, 133, 0] S1x3x1024.size (in_conv b) : Rect S8x136x1024).toLoadRect)
      shapeCasts_S1x3x1024_S3x1024) shapeCasts_S3x1024_S1x3x1024⟩
/-- The stores of the state at the last point, last first. -/
def houtC (xs0 : Vec F S8x136x1024 .f32) (xs1 : Vec F S8x512x128 .f32) : List (View.Piece (Elt F) S8x512x128 .f32) :=
  ([7, 6, 5, 4, 3, 2, 1, 0] : List (Fin 8)).map fun b => ⟨Rect.unit ![b.val, 0, 0] S1x512x128.size (in_h0 b),
    shapeCast S1x512x128 (shapeCast S512x128 (View.readCov A.a17.view (hsB A xs0 xs1)
      (Rect.unit ![b.val, 0, 0] S1x512x128.size (in_h0 b) : Rect S8x512x128).toLoadRect)
    shapeCasts_S1x512x128_S512x128) shapeCasts_S512x128_S1x512x128⟩

end Cert.KChunk

end
-- ==== Proof.Spec.lean ====
module

public import Idealize.ShloMosaic.PureOps.Ideal

/-! The state space layer on one chunk of one sequence, as equations between extended reals. -/

@[expose] public section

set_option maxRecDepth 16384

noncomputable section

namespace Cert.Spec

open Idealize.ShloMosaic

/-- The gate `x / (1 + exp (-x))`. -/
def silu (x : EReal) : EReal := x * Ideal.div 1 (1 + Idealize.ShloMosaic.Ideal.exp (-x))

/-- The step size of the value before the softplus. -/
def softplus (x : EReal) : EReal :=
  max x 0 + Idealize.ShloMosaic.Ideal.log1p (Idealize.ShloMosaic.Ideal.exp (-(max x (-x))))

/-- What one chunk of one sequence is computed from: the convolution's rows, the step sizes, the decay rates and the
    state before the chunk. -/
structure Chunk where
  cv : Fin 128 → Fin 1024 → EReal
  dt : Fin 128 → Fin 8 → EReal
  a : Fin 8 → EReal
  H : Fin 8 → Fin 64 → Fin 128 → EReal

variable (q : Chunk)

/-- The input of head `h` at row `r`. -/
def X (r : Fin 128) (h : Fin 8) (p : Fin 64) : EReal := silu (q.cv r ⟨64 * h.val + p.val, by omega⟩)
/-- The input map of head `h`'s group at row `r`. -/
def Bm (r : Fin 128) (h : Fin 8) (n : Fin 128) : EReal := silu (q.cv r ⟨512 + 128 * (h.val / 4) + n.val, by omega⟩)
/-- The output map of head `h`'s group at row `r`. -/
def Cm (r : Fin 128) (h : Fin 8) (n : Fin 128) : EReal := silu (q.cv r ⟨768 + 128 * (h.val / 4) + n.val, by omega⟩)
/-- The running decay exponent of head `h` at row `r`. -/
def cum (r : Fin 128) (h : Fin 8) : EReal := ∑ i : Fin 128 with i ≤ r, q.dt i h * q.a h
/-- The decay of head `h` from row `s` to row `l`. -/
def dec (l s : Fin 128) (h : Fin 8) : EReal := if s ≤ l then Idealize.ShloMosaic.Ideal.exp (cum q l h - cum q s h) else 0
/-- The input times the step size. -/
def U (r : Fin 128) (h : Fin 8) (p : Fin 64) : EReal := X q r h p * q.dt r h
/-- The output of head `h` at row `l`, before the gate; `d` is the head's skip weight. -/
def Y (d : EReal) (l : Fin 128) (h : Fin 8) (p : Fin 64) : EReal :=
  ((∑ s : Fin 128, (∑ n : Fin 128, Cm q l h n * Bm q s h n) * dec q l s h * U q s h p)
    + (∑ n : Fin 128, Cm q l h n * q.H h p n) * Idealize.ShloMosaic.Ideal.exp (cum q l h)) + d * X q l h p
/-- The state after the chunk. -/
def Hn (h : Fin 8) (p : Fin 64) (n : Fin 128) : EReal :=
  q.H h p n * Idealize.ShloMosaic.Ideal.exp (cum q 127 h)
    + ∑ s : Fin 128, U q s h p * Idealize.ShloMosaic.Ideal.exp (cum q 127 h - cum q s h) * Bm q s h n

/-- A row of outputs gated by `z`, one lane. -/
def gate (y z : EReal) : EReal := y * silu z
/-- The reciprocal root mean square of a group of 256 lanes. -/
def scale (v : Fin 256 → EReal) : EReal :=
  Idealize.ShloMosaic.Ideal.rsqrt (Ideal.div (∑ k : Fin 256, v k * v k) (Idealize.ShloMosaic.Ideal.ofBits .f32 0x43800000#32)
    + Idealize.ShloMosaic.Ideal.ofBits .f32 0x358637BD#32)

/-- A row of outputs, one lane per head's lane. -/
def row (d : Fin 8 → EReal) (r : Fin 128) (c : Fin 512) : EReal :=
  Y q (d ⟨c.val / 64, by omega⟩) r ⟨c.val / 64, by omega⟩ ⟨c.val % 64, by omega⟩
/-- A gated row, normed by group and weighted by `g`. -/
def out (v g : Fin 512 → EReal) (c : Fin 512) : EReal :=
  v c * scale (fun k => v ⟨256 * (c.val / 256) + k.val, by omega⟩) * g c

end Cert.Spec

end
-- ==== Proof.KVal.lean ====
module

public import proofs.«01_k».proof.Proof.KDef
public import proofs.«01_k».proof.Proof.Spec
public import Idealize.ShloMosaic.Lib.Pointwise

/-! The kernel's chunk at an index, at the extended reals. -/

@[expose] public section

set_option maxRecDepth 16384

noncomputable section

namespace Cert.KVal

open Idealize.ShloMosaic Idealize.ShloMosaic.TcCoe Idealize.SL.Sem
open Cert.KernelIdeal Cert.KernelIdeal.Gen Cert.KChunk Cert.Spec

/-- The exact values. -/
abbrev I := Idealize.ShloMosaic.Ideal

/-- A choice by a comparison of small numbers. -/
theorem sel_slt (a b : ℕ) (ha : a < 2 ^ 31) (hb : b < 2 ^ 31) (x y : EReal) :
    Scalar.select (IntOp.cmpi .slt (BitVec.ofNat 32 a) (BitVec.ofNat 32 b)) x y = if a < b then x else y := by
  rw [WordCmp.cmpi_slt_ofNat (by simpa using ha) (by simpa using hb)]
  by_cases h : a < b <;> simp [h, Scalar.select]
/-- A choice by a comparison of small numbers. -/
theorem sel_sle (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat (by simpa using ha) (by simpa using hb)]
  by_cases h : a ≤ b <;> simp [h, Scalar.select]
/-- A choice by a comparison of small numbers. -/
theorem sel_sge (a b : ℕ) (ha : a < 2 ^ 31) (hb : b < 2 ^ 31) (x y : EReal) :
    Scalar.select (IntOp.cmpi .sge (BitVec.ofNat 32 a) (BitVec.ofNat 32 b)) x y = if b ≤ a then x else y := by
  rw [WordCmp.cmpi_sge_ofNat (by simpa using ha) (by simpa using hb)]
  by_cases h : b ≤ a <;> simp [h, Scalar.select]

/-- The activated convolution. -/
theorem act_apply (cv : FVec I S128x1024 .f32) (r : Fin 128) (c : Fin 1024) :
    act cv (ix2 r c) = silu (cv (ix2 r c)) := by
  pointwise [act, silu]
  rw [zero_sub]

/-- The head of a lane of a pair. -/
abbrev hd (p : Fin 4) (l : Fin 128) : Fin 8 := ⟨2 * p.val + l.val / 64, by omega⟩
/-- The head's lane of a lane of a pair. -/
abbrev ln (l : Fin 128) : Fin 64 := ⟨l.val % 64, by omega⟩
/-- A head's place among the lanes of a step-size row. -/
abbrev hl (h : Fin 8) : Fin 128 := ⟨h.val, by omega⟩

/-- The chunk the kernel works on. -/
def qOf (cv : FVec I S128x1024 .f32) (dt : FVec I S128x128 .f32) (alog : Vec I S1x128 .f32)
    (hp : Fin 4 → Vec I S1x128x128 .f32) : Chunk where
  cv r c := cv (ix2 r c)
  dt r h := dt (ix2 r (hl h))
  a h := -Idealize.ShloMosaic.Ideal.exp (alog (ix2 0 (hl h)))
  H h p n := hp ⟨h.val / 2, by omega⟩ (ix3 0 ⟨64 * (h.val % 2) + p.val, by omega⟩ n)

/-- A pair of heads' inputs. -/
theorem xsP_apply (cv : FVec I S128x1024 .f32) (p : Fin 4) (r l : Fin 128) :
    xsP cv p (ix2 r l) = silu (cv (ix2 r ⟨128 * p.val + l.val, by omega⟩)) := by
  pointwise [xsP]
  rw [act_apply]

/-- A group's projections. -/
theorem grp_apply (cv : FVec I S128x1024 .f32) (g : Fin 4) (r n : Fin 128) :
    grp cv g (ix2 r n) = silu (cv (ix2 r ⟨512 + 128 * g.val + n.val, by omega⟩)) := by
  pointwise [grp]
  rw [act_apply]

/-- The lane of the head a lane belongs to. -/
theorem pick_apply (v : FVec I S128x128 .f32) (p : Fin 4) (r l : Fin 128) :
    pick v p (ix2 r l) = v (ix2 r (hl (hd p l))) := by
  pointwise [pick, k0_pay56]
  rw [sel_slt _ _ (by omega) (by omega)]
  split
  · congr 2; ext; simp; omega
  · congr 2; ext; simp; omega

/-- The choice of a lane's head out of a pair. -/
theorem pick57_apply (x y : EReal) (l : Fin 128) :
    Scalar.select (k0_pay57 (ix2 l 0)) x y = if l.val < 64 then x else y := by
  pointwise [k0_pay57]
  rw [sel_slt _ _ (by omega) (by omega)]

/-- The decay between two rows, zero above the diagonal. -/
theorem decay_apply (v : FVec I S128x128 .f32) (k : Fin 8) (r l : Fin 128) :
    decay v k (ix2 r l) = if l ≤ r then Idealize.ShloMosaic.Ideal.exp (min (v (ix2 r (hl k)) - v (ix2 l (hl k))) 0) else 0 := by
  pointwise [decay, k0_pay55, colB]
  rw [sel_sle _ _ (by omega) (by omega)]
  rfl

/-- The sum of `f` over the last `k` places up to `r`. -/
def win (f : Fin 128 → EReal) (k : ℕ) (r : Fin 128) : EReal := ∑ i : Fin 128 with i ≤ r ∧ r.val < i.val + k, f i

/-- Doubling a window of a running sum. -/
theorem win_double (f : Fin 128 → EReal) (k : ℕ) (r : Fin 128) :
    win f k r + (if h : k ≤ r.val then win f k ⟨r.val - k, by omega⟩ else 0) = win f (2 * k) r := by
  unfold win
  split
  · rename_i h
    rw [← Finset.sum_union]
    · congr 1; ext i; simp only [Finset.mem_union, Finset.mem_filter, Finset.mem_univ, true_and, Fin.le_def]; omega
    · rw [Finset.disjoint_left]; intro i; simp only [Finset.mem_filter, Finset.mem_univ, true_and, Fin.le_def]; omega
  · rename_i h
    rw [add_zero]
    congr 1; ext i; simp only [Finset.mem_filter, Finset.mem_univ, true_and, Fin.le_def]; omega

/-- One doubling step of the running sum. -/
theorem cumStep_apply (v : FVec I S128x128 .f32) (f : Fin 128 → EReal) (k : ℕ) (hk : k < 128) (l : Fin 128)
    (hv : ∀ r, v (ix2 r l) = win f k r) (r : Fin 128) :
    cumStep (BitVec.ofNat 32 k) v (ix2 r l) = win f (2 * k) r := by
  rw [← win_double]
  pointwise [cumStep]
  rw [sel_sge _ _ (by omega) (by omega), hv, hv]
  congr 1
  have e : (BitVec.ofNat 32 k).toNat = k := by simp; omega
  by_cases h : k ≤ r.val
  · simp only [h, if_true, dite_true]
    congr 2
    rw [e]; omega
  · simp only [h, if_false, dite_false]

/-- The running sum of the log decays. -/
theorem cumOf_apply (cv : FVec I S128x1024 .f32) (dt : FVec I S128x128 .f32) (alog : Vec I S1x128 .f32)
    (hp : Fin 4 → Vec I S1x128x128 .f32) (r : Fin 128) (h : Fin 8) :
    cumOf dt alog (ix2 r (hl h)) = cum (qOf cv dt alog hp) r h := by
  have e : cum (qOf cv dt alog hp) r h = win (fun i => (qOf cv dt alog hp).dt i h * (qOf cv dt alog hp).a h) (2 * 64) r := by
    unfold cum win
    congr 1; ext i; simp only [Finset.mem_filter, Finset.mem_univ, true_and, Fin.le_def]; omega
  rw [e]
  unfold cumOf
  refine cumStep_apply _ _ 64 (by omega) _ (cumStep_apply _ _ 32 (by omega) _ (cumStep_apply _ _ 16 (by omega) _
    (cumStep_apply _ _ 8 (by omega) _ (cumStep_apply _ _ 4 (by omega) _ (cumStep_apply _ _ 2 (by omega) _
    (cumStep_apply _ _ 1 (by omega) _ ?_)))))) r
  intro r
  have e1 : win (fun i => (qOf cv dt alog hp).dt i h * (qOf cv dt alog hp).a h) 1 r
      = (qOf cv dt alog hp).dt r h * (qOf cv dt alog hp).a h := by
    unfold win
    rw [Finset.sum_eq_single r]
    · intro b hb hne
      simp only [Finset.mem_filter, Finset.mem_univ, true_and, Fin.le_def] at hb
      exact absurd (Fin.ext (by omega)) hne
    · intro hh; exact absurd (by simp) hh
  rw [e1]
  pointwise [qOf]
  rw [zero_sub]

section
variable (cv : FVec I S128x1024 .f32) (dt : FVec I S128x128 .f32) (alog : Vec I S1x128 .f32) (hp : Fin 4 → Vec I S1x128x128 .f32)

/-- The exponential is not negative. -/
theorem ideal_exp_nonneg (x : EReal) : 0 ≤ Idealize.ShloMosaic.Ideal.exp x := by
  induction x using EReal.rec with
  | bot => simp
  | top => simp
  | coe r => simpa using (Real.exp_pos r).le

/-- A softplus is not negative. -/
theorem softplus_nonneg (x : EReal) : 0 ≤ softplus x := by
  unfold softplus
  refine add_nonneg (le_max_right _ _) ?_
  have h := ideal_exp_nonneg (-(max x (-x)))
  generalize Idealize.ShloMosaic.Ideal.exp (-(max x (-x))) = y at h
  unfold Idealize.ShloMosaic.Ideal.log1p
  induction y using EReal.rec with
  | bot => simp at h
  | top =>
    show 0 ≤ Idealize.ShloMosaic.Ideal.log (1 + ⊤)
    rw [EReal.add_top_of_ne_bot (by exact_mod_cast EReal.coe_ne_bot 1)]
    exact le_top
  | coe r =>
    have h' : (0 : ℝ) ≤ r := by exact_mod_cast h
    show 0 ≤ Idealize.ShloMosaic.Ideal.log ((1 + r : ℝ) : EReal)
    rw [show Idealize.ShloMosaic.Ideal.log ((1 + r : ℝ) : EReal) = if 1 + r ≤ 0 then ⊥ else (Real.log (1 + r) : EReal) from rfl,
      if_neg (by linarith)]
    exact_mod_cast Real.log_nonneg (by linarith)

/-- A log decay is not positive. -/
theorem term_nonpos (hdt : ∀ r h, 0 ≤ dt (ix2 r h)) (i : Fin 128) (h : Fin 8) :
    (qOf cv dt alog hp).dt i h * (qOf cv dt alog hp).a h ≤ 0 :=
  EReal.mul_nonpos_iff.2 (.inl ⟨hdt _ _, (by
    show -Idealize.ShloMosaic.Ideal.exp _ ≤ 0
    rw [EReal.neg_le, neg_zero]; exact ideal_exp_nonneg _)⟩)

/-- The running sum does not grow. -/
theorem cum_le (hdt : ∀ r h, 0 ≤ dt (ix2 r h)) (l s : Fin 128) (h : Fin 8) (hs : s ≤ l) :
    cum (qOf cv dt alog hp) l h ≤ cum (qOf cv dt alog hp) s h := by
  unfold cum
  rw [← Finset.sum_sdiff (s₁ := Finset.univ.filter fun i : Fin 128 => i ≤ s) (fun i hi => by
    simp only [Finset.mem_filter, Finset.mem_univ, true_and] at hi ⊢; exact hi.trans hs)]
  exact add_le_of_nonpos_left (Finset.sum_nonpos fun i _ => term_nonpos cv dt alog hp hdt i h)

/-- The clamped decay is the decay. -/
theorem decay_cum (hdt : ∀ r h, 0 ≤ dt (ix2 r h)) (l s : Fin 128) (h : Fin 8) :
    decay (cumOf dt alog) h (ix2 l s) = dec (qOf cv dt alog hp) l s h := by
  rw [decay_apply, cumOf_apply cv dt alog hp, cumOf_apply cv dt alog hp]
  unfold dec
  split
  · rename_i hs
    rw [min_eq_left]
    exact EReal.sub_nonpos.2 (cum_le cv dt alog hp hdt l s h hs)
  · rfl

/-- A pair's inputs are the heads'. -/
theorem X_pair (p : Fin 4) (r l : Fin 128) : xsP cv p (ix2 r l) = X (qOf cv dt alog hp) r (hd p l) (ln l) := by
  rw [xsP_apply]
  show silu (cv _) = silu (cv _)
  congr 3; ext; simp; omega

/-- A pair's scaled inputs are the heads'. -/
theorem U_pair (p : Fin 4) (r l : Fin 128) : xdtP cv dt p (ix2 r l) = U (qOf cv dt alog hp) r (hd p l) (ln l) := by
  pointwise [xdtP]
  rw [X_pair cv dt alog hp, pick_apply]
  rfl

/-- A pair's input projections are the heads'. -/
theorem B_pair (p : Fin 4) (r n l : Fin 128) : grp cv (gB p) (ix2 r n) = Bm (qOf cv dt alog hp) r (hd p l) n := by
  rw [grp_apply]
  show silu (cv _) = silu (cv _)
  congr 3; ext; simp; omega

/-- A pair's output projections are the heads'. -/
theorem C_pair (p : Fin 4) (r n l : Fin 128) : grp cv (gC p) (ix2 r n) = Cm (qOf cv dt alog hp) r (hd p l) n := by
  rw [grp_apply]
  show silu (cv _) = silu (cv _)
  congr 3; ext; simp; omega

/-- A head's sum over the chunk's rows. -/
theorem inner_apply (hdt : ∀ r h, 0 ≤ dt (ix2 r h)) (p : Fin 4) (k : Fin 8) (r l : Fin 128) (hk : hd p l = k) :
    inner cv dt (cumOf dt alog) p k (ix2 r l)
      = ∑ s : Fin 128, (∑ n : Fin 128, Cm (qOf cv dt alog hp) r k n * Bm (qOf cv dt alog hp) s k n)
          * dec (qOf cv dt alog hp) r s k * U (qOf cv dt alog hp) s k (ln l) := by
  subst hk
  pointwise [KChunk.inner]
  refine Finset.sum_congr rfl fun s _ => ?_
  rw [decay_cum cv dt alog hp hdt, U_pair cv dt alog hp]
  congr 2
  refine Finset.sum_congr rfl fun n _ => ?_
  rw [B_pair cv dt alog hp p s n l, C_pair cv dt alog hp p r n l]

/-- The choice between a pair's two sums. -/
theorem sel56_apply (x y : EReal) (r l : Fin 128) :
    Scalar.select (k0_pay56 (ix2 r l)) x y = if l.val < 64 then x else y := by
  pointwise [k0_pay56]
  rw [sel_slt _ _ (by omega) (by omega)]

/-- The kernel's outputs of a pair of heads are the chunk's. -/
theorem yPair_apply (hdt : ∀ r h, 0 ≤ dt (ix2 r h)) (p : Fin 4) (dsk : Vec I S1x128 .f32) (r l : Fin 128) :
    yPair cv dt (cumOf dt alog) p (hp p) dsk (ix2 r l)
      = Y (qOf cv dt alog hp) (dsk (ix2 0 l)) r (hd p l) (ln l) := by
  pointwise [yPair]
  rw [sel56_apply, pick_apply, X_pair cv dt alog hp]
  have e : (if l.val < 64 then KChunk.inner cv dt (cumOf dt alog) p (h0 p) (ix2 r l)
      else KChunk.inner cv dt (cumOf dt alog) p (h1 p) (ix2 r l))
      = KChunk.inner cv dt (cumOf dt alog) p (hd p l) (ix2 r l) := by
    split
    · congr 1; ext; simp; omega
    · congr 1; ext; simp; omega
  rw [e, inner_apply cv dt alog hp hdt p _ r l rfl]
  unfold Y
  congr 2
  congr 1
  · refine Finset.sum_congr rfl fun n _ => ?_
    rw [C_pair cv dt alog hp p r n l]
    congr 1
    show _ = hp _ (ix3 0 _ n)
    congr 1
    · congr 1; ext; simp; omega
    · congr 1; ext; simp; omega
  · show Idealize.ShloMosaic.Ideal.exp _ = _
    rw [cumOf_apply cv dt alog hp]

/-- The kernel's state of a pair of heads after the chunk is the chunk's. -/
theorem hPair_apply (p : Fin 4) (l n : Fin 128) :
    hPair cv dt (cumOf dt alog) p (hp p) (ix3 0 l n) = Hn (qOf cv dt alog hp) (hd p l) (ln l) n := by
  pointwise [hPair, lastRow]
  rw [pick57_apply]
  unfold Hn
  congr 1
  · congr 1
    · show _ = hp _ (ix3 0 _ n)
      congr 1
      · congr 1; ext; simp; omega
      · congr 1; ext; simp; omega
    · rw [← cumOf_apply cv dt alog hp]
      split
      · congr 3; ext; simp; omega
      · congr 3; ext; simp; omega
  · refine Finset.sum_congr rfl fun s _ => ?_
    rw [U_pair cv dt alog hp, B_pair cv dt alog hp p s n l, pick_apply]
    congr 2
    pointwise []
    rw [cumOf_apply cv dt alog hp s, ← cumOf_apply cv dt alog hp 127]

/-- A group's lanes, scaled by their root mean square. -/
theorem normed_apply (v : FVec I S128x256 .f32) (r : Fin 128) (c : Fin 256) :
    normed v (ix2 r c) = v (ix2 r c) * scale fun k => v (ix2 r k) := by
  pointwise [normed, scale]

/-- The gated row. -/
theorem gated_apply (y : FVec I S128x512 .f32) (z : Vec I S1x128x512 .f32) (r : Fin 128) (c : Fin 512) :
    gated y z (ix2 r c) = gate (y (ix2 r c)) (z (ix3 0 r c)) := by
  pointwise [gated, gate, silu]
  rw [zero_sub]

/-- The four pairs side by side. -/
theorem cat_apply (y : Fin 4 → FVec I S128x128 .f32) (r : Fin 128) (c : Fin 512) :
    concatenate S128x512 1 [⟨S128x128, y 0⟩, ⟨S128x128, y 1⟩, ⟨S128x128, y 2⟩, ⟨S128x128, y 3⟩]
      concatenates_S128x128_S128x128_S128x128_S128x128_S128x512_d1 (ix2 r c)
      = y ⟨c.val / 128, by omega⟩ (ix2 r ⟨c.val % 128, by omega⟩) := by
  pointwise []
  split
  · congr 1
    · congr 1; ext; simp; omega
    · congr 1; ext; simp; omega
  · split
    · congr 1
      · congr 1; ext; simp; omega
      · congr 1; ext; simp; omega
    · split
      · congr 1
        · congr 1; ext; simp; omega
        · congr 1; ext; simp; omega
      · congr 1
        · congr 1; ext; simp; omega
        · congr 1; ext; simp; omega

/-- The kernel's outputs of a chunk are the chunk's, gated and normed. -/
theorem yAll_apply (hdt : ∀ r h, 0 ≤ dt (ix2 r h)) (dsk : Fin 4 → Vec I S1x128 .f32) (z : Vec I S1x128x512 .f32) (gn : Vec I S1x512 .f32)
    (d : Fin 8 → EReal) (hd' : ∀ p l, dsk p (ix2 0 l) = d (hd p l)) (r : Fin 128) (c : Fin 512) :
    yAll cv dt (cumOf dt alog) hp dsk z gn (ix3 0 r c)
      = out (fun c => gate (row (qOf cv dt alog hp) d r c) (z (ix3 0 r c))) (fun c => gn (ix2 0 c)) c := by
  have hy : ∀ c : Fin 512, gated (concatenate S128x512 1 [⟨S128x128, yPair cv dt (cumOf dt alog) 0 (hp 0) (dsk 0)⟩,
      ⟨S128x128, yPair cv dt (cumOf dt alog) 1 (hp 1) (dsk 1)⟩, ⟨S128x128, yPair cv dt (cumOf dt alog) 2 (hp 2) (dsk 2)⟩,
      ⟨S128x128, yPair cv dt (cumOf dt alog) 3 (hp 3) (dsk 3)⟩]
      concatenates_S128x128_S128x128_S128x128_S128x128_S128x512_d1) z (ix2 r c)
      = gate (row (qOf cv dt alog hp) d r c) (z (ix3 0 r c)) := by
    intro c
    rw [gated_apply, cat_apply (fun p => yPair cv dt (cumOf dt alog) p (hp p) (dsk p)), yPair_apply cv dt alog hp hdt, hd']
    congr 1
    unfold row
    congr 1
    · congr 1; ext; simp; omega
    · ext; simp; omega
    · ext; simp
  pointwise [yAll]
  unfold out
  congr 1
  split
  · rename_i h
    rw [normed_apply]
    pointwise []
    simp only [hy]
    have e : c.val / 256 = 0 := by omega
    simp only [e, Nat.mul_zero, Nat.zero_add]
  · rename_i h
    rw [normed_apply]
    pointwise []
    simp only [hy]
    have e : c.val / 256 = 1 := by omega
    have e' : 256 + (c.val - 256) = c.val := by omega
    simp only [e, e', Nat.mul_one]
end

end Cert.KVal

end
-- ==== Proof.KReads.lean ====
module

public import proofs.«01_k».proof.Proof.KPieces
public import proofs.«01_k».proof.Proof.KVal

/-! What a grid point's stores leave in each buffer, index by index. -/

@[expose] public section

set_option maxRecDepth 16384

noncomputable section

namespace Cert.KChunk

open Idealize.ShloMosaic Idealize.ShloMosaic.TcCoe Idealize.SL.Sem
open Cert.KernelIdeal Cert.KernelIdeal.Gen Cert.Spec
open Cert.KVal

section lists
variable {s : Shape} {e : EltTy}

/-- What a list of stores, last first, leaves over the contents `X`. -/
def over (X : s.Idx → Elt I e) : List (View.Piece (Elt I) s e) → s.Idx → Elt I e
  | [] => X
  | p :: L => p.1.overlay (over X L) p.2

/-- A store reads at its own rectangle what it stored. -/
theorem over_hit (X : s.Idx → Elt I e) (r : Rect s) (w : r.shape.Idx → Elt I e) (L : List (View.Piece (Elt I) s e)) (x : r.shape.Idx)
    (y : s.Idx) (h : r.emb x = y) : over X (⟨r, w⟩ :: L) y = w x := by
  subst h; exact r.overlay_emb _ _ x

/-- A store reads elsewhere what was there. -/
theorem over_miss (X : s.Idx → Elt I e) (p : View.Piece (Elt I) s e) (L : List (View.Piece (Elt I) s e)) {y : s.Idx}
    (h : y ∉ p.1.set) : over X (p :: L) y = over X L y := p.1.overlay_of_not_mem _ _ h

/-- The stores over a buffer read as they lie over what it read before. -/
theorem read_writes_over {sig : RefSig} {κ : Kind} {sp : Space} (v : View sig κ sp s e) (f : v.ty.Contents (Elt I)) (L : List (View.Piece (Elt I) s e)) :
    v.read (Elt I) (v.writes (Elt I) f L) = over (v.read (Elt I) f) L := by
  induction L with
  | nil => rfl
  | cons p L ih =>
    funext y
    by_cases hy : y ∈ p.1.set
    · obtain ⟨x, hx⟩ := p.1.exists_idx_of_mem hy
      rw [← hx]
      exact (View.read_writes_cons_emb v f p.1 p.2 L x).trans (over_hit _ p.1 p.2 L x _ rfl).symm
    · rw [over_miss _ _ _ hy, ← ih]
      exact View.read_slice_write_of_not_mem p.1 _ _ _ (by rwa [Rect.map_emb_univ])

/-- The stores over nothing known. -/
theorem canon_over (L : List (View.Piece (Elt I) s e)) :
    View.canon (Val := Elt I) L = over (fun _ => Classical.arbitrary _) L := by
  induction L with
  | nil => rfl
  | cons p L ih => rw [View.canon_cons, ih]; rfl

/-- Stores that agree with one function leave it where one of them lies. -/
theorem over_of_pieces (X : s.Idx → Elt I e) (G : s.Idx → Elt I e) (L : List (View.Piece (Elt I) s e))
    (hG : ∀ p ∈ L, ∀ x, p.2 x = G (p.1.emb x)) (y : s.Idx) (hy : ∃ p ∈ L, y ∈ p.1.set) : over X L y = G y := by
  induction L with
  | nil => obtain ⟨p, hp, _⟩ := hy; exact absurd hp List.not_mem_nil
  | cons p L ih =>
    by_cases h : y ∈ p.1.set
    · obtain ⟨x, hx⟩ := p.1.exists_idx_of_mem h
      rw [over_hit X p.1 p.2 L x y hx, hG p List.mem_cons_self x]
      exact congrArg G hx
    · rw [over_miss _ _ _ h]
      refine ih (fun q hq => hG q (List.mem_cons_of_mem _ hq)) ?_
      obtain ⟨q, hq, hm⟩ := hy
      rcases List.mem_cons.mp hq with rfl | hq
      · exact absurd hm h
      · exact ⟨q, hq, hm⟩

end lists

/-- A unit rectangle of a three-axis buffer holds the indices between its bounds. -/
theorem mem3 {a b c : ℕ} {off size : Fin 3 → ℕ} {inb} {i : Fin a} {j : Fin b} {k : Fin c} :
    ix3 i j k ∈ (Rect.unit (s := ⟨3, ![a, b, c]⟩) off size inb).set ↔
      (off 0 ≤ i.val ∧ i.val < off 0 + size 0) ∧ (off 1 ≤ j.val ∧ j.val < off 1 + size 1) ∧ (off 2 ≤ k.val ∧ k.val < off 2 + size 2) := by
  rw [Rect.mem_set_unit, Fin.forall_fin_succ, Fin.forall_fin_succ, Fin.forall_fin_succ]
  simp [ix3]

/-- Where a unit rectangle of a three-axis buffer places an index. -/
theorem emb3 {a b c : ℕ} {off size : Fin 3 → ℕ} {inb} (x : (Rect.unit (s := ⟨3, ![a, b, c]⟩) off size inb).shape.Idx) {i : Fin a} {j : Fin b}
    {k : Fin c} (h0 : i.val = off 0 + (x 0).val) (h1 : j.val = off 1 + (x 1).val) (h2 : k.val = off 2 + (x 2).val) :
    (Rect.unit (s := ⟨3, ![a, b, c]⟩) off size inb).emb x = ix3 i j k := by
  funext q
  refine Fin.ext ((show _ = off q + (x q).val from (by show off q + 1 * (x q).val = _; omega)).trans ?_)
  match q with
  | ⟨0, _⟩ => exact h0.symm
  | ⟨1, _⟩ => exact h1.symm
  | ⟨2, _⟩ => exact h2.symm
/-- Where a unit rectangle of a two-axis buffer places an index. -/
theorem emb2 {a b : ℕ} {off size : Fin 2 → ℕ} {inb} (x : (Rect.unit (s := ⟨2, ![a, b]⟩) off size inb).shape.Idx) {i : Fin a} {j : Fin b}
    (h0 : i.val = off 0 + (x 0).val) (h1 : j.val = off 1 + (x 1).val) :
    (Rect.unit (s := ⟨2, ![a, b]⟩) off size inb).emb x = ix2 i j := by
  funext q
  refine Fin.ext ((show _ = off q + (x q).val from (by show off q + 1 * (x q).val = _; omega)).trans ?_)
  match q with
  | ⟨0, _⟩ => exact h0.symm
  | ⟨1, _⟩ => exact h1.symm

variable (A : Ins I)

/-- The load of a sequence's input rows. -/
theorem rX_apply (b : Fin 8) (r : Fin 128) (c : Fin 1024) : rX A b (ix3 0 r c) = A.x0 (ix3 b r c) := by
  refine (congrFun (A.w2.read_unread A.x0) _).trans (congrArg A.x0 (emb3 _ ?_ ?_ ?_)) <;> simp
/-- The load of a sequence's step sizes. -/
theorem rDt_apply (b : Fin 8) (r : Fin 128) (c : Fin 128) : rDt A b (ix3 0 r c) = A.x1 (ix3 b r c) := by
  refine (congrFun (A.w3.read_unread A.x1) _).trans (congrArg A.x1 (emb3 _ ?_ ?_ ?_)) <;> simp
/-- The load of a sequence's gates. -/
theorem rZ_apply (b : Fin 8) (r : Fin 128) (c : Fin 512) : rZ A b (ix3 0 r c) = A.x2 (ix3 b r c) := by
  refine (congrFun (A.w4.read_unread A.x2) _).trans (congrArg A.x2 (emb3 _ ?_ ?_ ?_)) <;> simp
/-- The load of the convolution's weights. -/
theorem rW_apply (r : Fin 4) (c : Fin 1024) : rW A (ix2 r c) = A.x5 (ix2 r c) := by
  refine (congrFun (A.w7.read_unread A.x5) _).trans (congrArg A.x5 (emb2 _ ?_ ?_)) <;> simp
/-- The load of the convolution's bias. -/
theorem rB_apply (c : Fin 1024) : rB A (ix2 0 c) = A.x6 (ix2 0 c) := by
  refine (congrFun (A.w8.read_unread A.x6) _).trans (congrArg A.x6 (emb2 _ ?_ ?_)) <;> simp
/-- The load of the step bias. -/
theorem rDtb_apply (c : Fin 128) : rDtb A (ix2 0 c) = A.x7 (ix2 0 c) := by
  refine (congrFun (A.w9.read_unread A.x7) _).trans (congrArg A.x7 (emb2 _ ?_ ?_)) <;> simp
/-- The load of the log decay. -/
theorem rAlog_apply (c : Fin 128) : rAlog A (ix2 0 c) = A.x8 (ix2 0 c) := by
  refine (congrFun (A.w10.read_unread A.x8) _).trans (congrArg A.x8 (emb2 _ ?_ ?_)) <;> simp
/-- The load of a pair of heads' skip weights. -/
theorem rDsk_apply (p : Fin 4) (c : Fin 128) : rDsk A p (ix2 0 c) = A.x9 (ix2 0 ⟨128 * p.val + c.val, by omega⟩) := by
  refine (congrFun (A.w11.read_unread A.x9) _).trans (congrArg A.x9 (emb2 _ ?_ ?_)) <;> simp
/-- The load of the norm's weights. -/
theorem rGn_apply (c : Fin 512) : rGn A (ix2 0 c) = A.x10 (ix2 0 c) := by
  refine (congrFun (A.w12.read_unread A.x10) _).trans (congrArg A.x10 (emb2 _ ?_ ?_)) <;> simp

/-- A sequence's rows in the padded chunk: the eight rows before the chunk, then the chunk's. -/
def padRow (car : Fin 8 → Fin 8 → Fin 1024 → EReal) (b : Fin 8) (j : Fin 136) (c : Fin 1024) : EReal :=
  if h : j.val < 8 then car b ⟨j.val, h⟩ c else A.x0 (ix3 b ⟨j.val - 8, by omega⟩ c)
/-- The last eight rows of a chunk. -/
def tail8 (b : Fin 8) (j : Fin 8) (c : Fin 1024) : EReal := A.x0 (ix3 b ⟨120 + j.val, by omega⟩ c)

/-- The rows stored to the padded chunk are the input's. -/
theorem pay35_apply (x : Vec I S1x128x1024 .f32) (r : Fin 128) (c : Fin 1024) : k0_pay35 x (ix3 0 r c) = x (ix3 0 r c) := by
  pointwise [k0_pay35, k0_pay34]
/-- The rows moved to the front are those read at the end. -/
theorem pay37_apply (x : Vec I S1x8x1024 .f32) (r : Fin 8) (c : Fin 1024) : k0_pay37 x (ix3 0 r c) = x (ix3 0 r c) := by
  pointwise [k0_pay37]

/-- Once sequence `n` has put its last rows in front, it holds them there and its own rows behind. -/
theorem head_apply (L0 : List (View.Piece (Elt I) S8x136x1024 .f32)) (n : ℕ) (h : n < 8)
    (ih : ∀ (X : Vec I S8x136x1024 .f32) (i : Fin 8) (j : Fin 136) (c : Fin 1024), over X (hs0 A L0 n h) (ix3 i j c)
      = if i.val < n then padRow A (tail8 A) i j c else if hj : i.val = n ∧ 8 ≤ j.val then A.x0 (ix3 i ⟨j.val - 8, by omega⟩ c)
        else over X L0 (ix3 i j c))
    (X : Vec I S8x136x1024 .f32) (i : Fin 8) (j : Fin 136) (c : Fin 1024) :
    over X (cPc A (hs0 A L0 n h) ⟨n, h⟩ :: hs0 A L0 n h) (ix3 i j c)
      = if i.val < n + 1 then padRow A (tail8 A) i j c else over X L0 (ix3 i j c) := by
  by_cases h2 : i.val = n ∧ j.val < 8
  · rw [if_pos (by omega)]
    unfold padRow
    rw [dif_pos h2.2]
    refine (over_hit X _ _ _ (ix3 0 ⟨j.val, h2.2⟩ c) _ (emb3 _ ?_ ?_ ?_)).trans ?_
    · simpa using h2.1
    · simp
    · simp
    · refine (pay37_apply (View.readCov A.a16.view (hs0 A L0 n h) (lastRect ⟨n, h⟩).toLoadRect) _ _).trans ?_
      rw [View.readCov_eq_canon', canon_over]
      have e : (lastRect ⟨n, h⟩).toLoadRect.idx (ix3 0 ⟨j.val, h2.2⟩ c) = ix3 i ⟨128 + j.val, by omega⟩ c := by
        refine emb3 _ ?_ ?_ ?_ <;> simp [h2.1]
      refine (congrArg _ e).trans ((ih _ _ _ _).trans ?_)
      rw [if_neg (by omega), dif_pos ⟨h2.1, by simp; omega⟩]
      unfold tail8
      congr 2
      ext
      simp
      omega
  · refine (over_miss X _ _ fun hm => h2 ?_).trans ?_
    · have := (mem3 (inb := in_head ⟨n, h⟩)).mp hm
      simp at this
      omega
    · rw [ih]
      by_cases h3 : i.val < n
      · rw [if_pos h3, if_pos (by omega)]
      · rw [if_neg h3]
        by_cases h4 : i.val = n
        · rw [if_pos (by omega), dif_pos ⟨h4, by omega⟩]
          unfold padRow
          rw [dif_neg (by omega)]
        · rw [if_neg (by omega), dif_neg (by omega)]

/-- The stores into the padded chunk when sequence `n` is convolved: earlier sequences hold their last rows in front,
    sequence `n` its own rows behind what was there. -/
theorem hs0_apply (L0 : List (View.Piece (Elt I) S8x136x1024 .f32)) :
    ∀ (n : ℕ) (h : n < 8) (X : Vec I S8x136x1024 .f32) (i : Fin 8) (j : Fin 136) (c : Fin 1024), over X (hs0 A L0 n h) (ix3 i j c)
      = if i.val < n then padRow A (tail8 A) i j c else if hj : i.val = n ∧ 8 ≤ j.val then A.x0 (ix3 i ⟨j.val - 8, by omega⟩ c)
        else over X L0 (ix3 i j c) := by
  have first : ∀ (n : ℕ) (h : n < 8) (X : Vec I S8x136x1024 .f32) (L : List (View.Piece (Elt I) S8x136x1024 .f32)) (i : Fin 8) (j : Fin 136)
      (c : Fin 1024), over X (xPc A ⟨n, h⟩ :: L) (ix3 i j c)
        = if hj : i.val = n ∧ 8 ≤ j.val then A.x0 (ix3 i ⟨j.val - 8, by omega⟩ c) else over X L (ix3 i j c) := by
    intro n h X L i j c
    by_cases hj : i.val = n ∧ 8 ≤ j.val
    · rw [dif_pos hj]
      refine (over_hit X _ _ L (ix3 0 ⟨j.val - 8, by omega⟩ c) _ (emb3 _ ?_ ?_ ?_)).trans ?_
      · simpa using hj.1
      · simp; omega
      · simp
      · rw [pay35_apply, rX_apply]
        congr 2
        exact Fin.ext hj.1.symm
    · rw [dif_neg hj]
      refine over_miss X _ L fun hm => hj ?_
      have := (mem3 (inb := in_back ⟨n, h⟩ 8)).mp hm
      simp at this
      omega
  intro n
  induction n with
  | zero =>
    intro h X i j c
    rw [if_neg (by omega)]
    exact first 0 h X L0 i j c
  | succ n ih =>
    intro h X i j c
    refine (first (n + 1) h X _ i j c).trans ?_
    by_cases h1 : i.val = n + 1 ∧ 8 ≤ j.val
    · rw [dif_pos h1, if_neg (by omega), dif_pos h1]
    · rw [dif_neg h1, dif_neg h1]
      exact head_apply A L0 n (by omega) (ih (by omega)) X i j c

/-- The stores into the padded chunk at the end of the point. -/
theorem hs0End_apply (L0 : List (View.Piece (Elt I) S8x136x1024 .f32)) (X : Vec I S8x136x1024 .f32) (i : Fin 8) (j : Fin 136)
    (c : Fin 1024) : over X (hs0End A L0) (ix3 i j c) = padRow A (tail8 A) i j c :=
  (head_apply A L0 7 (by omega) (hs0_apply A L0 7 (by omega)) X i j c).trans (if_pos i.isLt)

/-- The rows a load that starts `k` rows into the padded chunk reads. -/
theorem back_apply (f : A.a16.view.ty.Contents (Elt I)) (G : Fin 136 → Fin 1024 → EReal) (b : Fin 8) (k : Fin 9)
    (hf : ∀ j c, A.a16.view.read (Elt I) f (ix3 b j c) = G j c) (r : Fin 128) (c : Fin 1024) :
    (View.readAt (Elt I) A.a16.view (backRect b k).toLoadRect f : Vec I S1x128x1024 .f32) (ix3 0 r c) = G ⟨k.val + r.val, by omega⟩ c := by
  refine (congrArg (A.a16.view.read (Elt I) f) (emb3 _ ?_ ?_ ?_)).trans (hf ⟨k.val + r.val, by omega⟩ c) <;> simp

/-- The convolution over rows `G`, the last of them the row itself. -/
def convRow (G : Fin 136 → Fin 1024 → EReal) (r : Fin 128) (c : Fin 1024) : EReal :=
  A.x6 (ix2 0 c) + G ⟨5 + r.val, by omega⟩ c * A.x5 (ix2 0 c) + G ⟨6 + r.val, by omega⟩ c * A.x5 (ix2 1 c)
    + G ⟨7 + r.val, by omega⟩ c * A.x5 (ix2 2 c) + G ⟨8 + r.val, by omega⟩ c * A.x5 (ix2 3 c)

/-- The convolution, of the four shifted reads. -/
theorem pay36_apply (x : Vec I S1x128x1024 .f32) (w : Vec I S4x1024 .f32) (b : Vec I S1x1024 .f32) (x7 x6 x5 : Vec I S1x128x1024 .f32)
    (r : Fin 128) (c : Fin 1024) : k0_pay36 x w b x7 x6 x5 (ix2 r c)
      = b (ix2 0 c) + x (ix3 0 r c) * w (ix2 3 c) + x7 (ix3 0 r c) * w (ix2 2 c) + x6 (ix3 0 r c) * w (ix2 1 c) + x5 (ix3 0 r c) * w (ix2 0 c) := by
  pointwise [k0_pay36, k0_pay34]

/-- The convolution the kernel computes is the rows' convolution. -/
theorem cvOf_apply (f : A.a16.view.ty.Contents (Elt I)) (car : Fin 8 → Fin 8 → Fin 1024 → EReal) (b : Fin 8)
    (hf : ∀ j c, A.a16.view.read (Elt I) f (ix3 b j c) = padRow A car b j c) (r : Fin 128) (c : Fin 1024) :
    cvOf A b f (ix2 r c) = convRow A (padRow A car b) r c := by
  have h0 : padRow A car b ⟨8 + r.val, by omega⟩ c = A.x0 (ix3 b r c) := by
    unfold padRow
    rw [dif_neg (by simp)]
    congr 2
    ext; simp
  refine (pay36_apply (rX A b) (rW A) (rB A) (View.readAt (Elt I) A.a16.view (backRect b 7).toLoadRect f)
    (View.readAt (Elt I) A.a16.view (backRect b 6).toLoadRect f) (View.readAt (Elt I) A.a16.view (backRect b 5).toLoadRect f) r c).trans ?_
  rw [rX_apply, rW_apply, rW_apply, rW_apply, rW_apply, rB_apply]
  unfold convRow
  rw [h0]
  have e7 := back_apply A f _ b 7 hf r c
  have e6 := back_apply A f _ b 6 hf r c
  have e5 := back_apply A f _ b 5 hf r c
  refine (congrArg₂ (fun p q => A.x6 (ix2 0 c) + A.x0 (ix3 b r c) * A.x5 (ix2 3 c) + p * A.x5 (ix2 2 c) + q * A.x5 (ix2 1 c) + _) e7 e6).trans ?_
  refine (congrArg (fun p => _ + p * A.x5 (ix2 0 c)) e5).trans ?_
  show _ + padRow A car b ⟨7 + r.val, _⟩ c * _ + padRow A car b ⟨6 + r.val, _⟩ c * _ + padRow A car b ⟨5 + r.val, _⟩ c * _ = _
  abel

/-- The step size at a head's lane. -/
theorem dtOf_apply (b : Fin 8) (r : Fin 128) (l : Fin 128) :
    dtOf A b (ix2 r l) = softplus (A.x1 (ix3 b r l) + A.x7 (ix2 0 l)) := by
  rw [← rDt_apply, ← rDtb_apply]
  unfold dtOf
  pointwise [k0_pay44, softplus]
  rw [zero_sub]
  rfl

/-- The chunk of sequence `b` at a grid point. -/
def qK (car : Fin 8 → Fin 8 → Fin 1024 → EReal) (H : Vec I S8x512x128 .f32) (b : Fin 8) : Chunk where
  cv r c := convRow A (padRow A car b) r c
  dt r h := softplus (A.x1 (ix3 b r (hl h)) + A.x7 (ix2 0 (hl h)))
  a h := -Idealize.ShloMosaic.Ideal.exp (A.x8 (ix2 0 (hl h)))
  H h p n := H (ix3 b ⟨64 * h.val + p.val, by omega⟩ n)

/-- What the kernel loads is the chunk. -/
theorem qOf_eq (f : A.a16.view.ty.Contents (Elt I)) (car : Fin 8 → Fin 8 → Fin 1024 → EReal) (b : Fin 8)
    (hf : ∀ j c, A.a16.view.read (Elt I) f (ix3 b j c) = padRow A car b j c) (H : Vec I S8x512x128 .f32)
    (hp : Fin 4 → Vec I S1x128x128 .f32) (hH : ∀ p l n, hp p (ix3 0 l n) = H (ix3 b ⟨128 * p.val + l.val, by omega⟩ n)) :
    qOf (cvOf A b f) (dtOf A b) (rAlog A) hp = qK A car H b := by
  have e : ∀ h p n, hp ⟨(h : Fin 8).val / 2, by omega⟩ (ix3 0 ⟨64 * (h.val % 2) + (p : Fin 64).val, by omega⟩ n)
      = H (ix3 b ⟨64 * h.val + p.val, by omega⟩ n) := by
    intro h p n
    rw [hH]
    congr 2
    ext
    simp
    omega
  unfold qOf qK
  simp only [cvOf_apply A f car b hf, dtOf_apply, rAlog_apply, e]

/-- The rows before the first chunk, as the point is given them. -/
def car0 (b : Fin 8) (j : Fin 8) (c : Fin 1024) : EReal := A.x3 (ix3 b j c)
/-- The rows before a chunk, as the point before left them. -/
def carOf (xs0 : Vec I S8x136x1024 .f32) (b : Fin 8) (j : Fin 8) (c : Fin 1024) : EReal := xs0 (ix3 b ⟨j.val, by omega⟩ c)

/-- Every sequence is in the list. -/
theorem mem_all : ∀ b : Fin 8, b ∈ ([7, 6, 5, 4, 3, 2, 1, 0] : List (Fin 8)) := by decide
/-- Every pair of heads is in the list. -/
theorem mem_pairs : ∀ p : Fin 4, p ∈ ([3, 2, 1, 0] : List (Fin 4)) := by decide

/-- Dropping and restoring the unit axis of eight rows changes nothing. -/
theorem cast_8 (w : Vec I S1x8x1024 .f32) (r : Fin 8) (c : Fin 1024) : (shapeCast S1x8x1024 (shapeCast S8x1024 w
    shapeCasts_S1x8x1024_S8x1024) shapeCasts_S8x1024_S1x8x1024 : Vec I S1x8x1024 .f32) (ix3 0 r c) = w (ix3 0 r c) := by
  pointwise []
/-- Dropping and restoring the unit axis of three rows changes nothing. -/
theorem cast_3 (w : Vec I S1x3x1024 .f32) (r : Fin 3) (c : Fin 1024) : (shapeCast S1x3x1024 (shapeCast S3x1024 w
    shapeCasts_S1x3x1024_S3x1024) shapeCasts_S3x1024_S1x3x1024 : Vec I S1x3x1024 .f32) (ix3 0 r c) = w (ix3 0 r c) := by
  pointwise []
/-- Dropping and restoring the unit axis of a state changes nothing. -/
theorem cast_h (w : Vec I S1x512x128 .f32) (r : Fin 512) (c : Fin 128) : (shapeCast S1x512x128 (shapeCast S512x128 w
    shapeCasts_S1x512x128_S512x128) shapeCasts_S512x128_S1x512x128 : Vec I S1x512x128 .f32) (ix3 0 r c) = w (ix3 0 r c) := by
  pointwise []

/-- Where a unit rectangle places an index, the other way. -/
theorem inv3 {a b c a' b' c' : ℕ} {off : Fin 3 → ℕ} {inb} {x0 : Fin a'} {x1 : Fin b'} {x2 : Fin c'} {i : Fin a} {j : Fin b}
    {k : Fin c} (h : (Rect.unit (s := ⟨3, ![a, b, c]⟩) off ![a', b', c'] inb).emb (ix3 x0 x1 x2) = ix3 i j k) :
    i.val = off 0 + x0.val ∧ j.val = off 1 + x1.val ∧ k.val = off 2 + x2.val := by
  have e : ∀ q : Fin 3, off q + ((ix3 x0 x1 x2 : Shape.Idx ⟨3, ![a', b', c']⟩) q).val = ((ix3 i j k : Shape.Idx ⟨3, ![a, b, c]⟩) q).val := by
    intro q
    rw [← h]
    show _ = off q + 1 * _
    rw [Nat.one_mul]
  exact ⟨(e 0).symm, (e 1).symm, (e 2).symm⟩

/-- The stores read at one index where every store that reaches it holds one value and some store does. -/
theorem over_at {s : Shape} {e : EltTy} (X : s.Idx → Elt I e) (L : List (View.Piece (Elt I) s e)) (y : s.Idx) (v : Elt I e)
    (hG : ∀ p ∈ L, ∀ x, p.1.emb x = y → p.2 x = v) (hy : ∃ p ∈ L, y ∈ p.1.set) : over X L y = v := by
  induction L with
  | nil => obtain ⟨p, hp, _⟩ := hy; exact absurd hp List.not_mem_nil
  | cons p L ih =>
    by_cases h : y ∈ p.1.set
    · obtain ⟨x, hx⟩ := p.1.exists_idx_of_mem h
      rw [over_hit X p.1 p.2 L x y hx]
      exact hG p List.mem_cons_self x hx
    · rw [over_miss _ _ _ h]
      refine ih (fun q hq => hG q (List.mem_cons_of_mem _ hq)) ?_
      obtain ⟨q, hq, hm⟩ := hy
      rcases List.mem_cons.mp hq with rfl | hq
      · exact absurd hm h
      · exact ⟨q, hq, hm⟩

/-- The first point starts from the rows of the call before. -/
theorem initX_apply (X : Vec I S8x136x1024 .f32) (b : Fin 8) (j : Fin 136) (hj : j.val < 8) (c : Fin 1024) :
    over X (initX A) (ix3 b j c) = car0 A b ⟨j.val, hj⟩ c := by
  refine over_at X (initX A) _ _ ?_ ⟨_, List.mem_map.mpr ⟨b, mem_all b, rfl⟩, (mem3 (inb := in_head b)).mpr (by simp; omega)⟩
  intro p hp
  obtain ⟨i, _, rfl⟩ := List.mem_map.mp hp
  show ∀ x : S1x8x1024.Idx, _
  intro x e
  idx_vars x
  have h := inv3 (inb := in_head i) e
  simp at h
  obtain rfl : b = i := Fin.ext h.1
  obtain rfl : c = x2 := Fin.ext h.2.2
  obtain rfl : x0 = 0 := Subsingleton.elim _ _
  refine (cast_8 _ x1 c).trans ?_
  refine (congrFun (A.w5.read_unread A.x3) _).trans (congrArg A.x3 (emb3 _ ?_ ?_ ?_)) <;> simp [h.2.1]

/-- The first point starts from the given states. -/
theorem initH_apply (X : Vec I S8x512x128 .f32) (b : Fin 8) (j : Fin 512) (c : Fin 128) :
    over X (initH A) (ix3 b j c) = A.x4 (ix3 b j c) := by
  refine over_at X (initH A) _ _ ?_ ⟨_, List.mem_map.mpr ⟨b, mem_all b, rfl⟩, (mem3 (inb := in_h0 b)).mpr (by simp)⟩
  intro p hp
  obtain ⟨i, _, rfl⟩ := List.mem_map.mp hp
  show ∀ x : S1x512x128.Idx, _
  intro x e
  idx_vars x
  have h := inv3 (inb := in_h0 i) e
  simp at h
  obtain rfl : b = i := Fin.ext h.1
  obtain rfl : c = x2 := Fin.ext h.2.2
  obtain rfl : x0 = 0 := Subsingleton.elim _ _
  refine (cast_h _ x1 c).trans ?_
  refine (congrFun (A.w6.read_unread A.x4) _).trans (congrArg A.x4 (emb3 _ ?_ ?_ ?_)) <;> simp [h.2.1]

/-- The padded chunk of a later point. -/
theorem bufB_read (xs0 : Vec I S8x136x1024 .f32) (b : Fin 8) (j : Fin 136) (c : Fin 1024) :
    A.a16.view.read (Elt I) (bufB A xs0 b) (ix3 b j c) = padRow A (carOf xs0) b j c := by
  unfold bufB
  rw [read_writes_over, hs0_apply, if_neg (by omega), A.w16.read_unread]
  unfold padRow carOf
  by_cases h : j.val < 8
  · rw [dif_neg (by omega), dif_pos h]; rfl
  · rw [dif_pos ⟨rfl, by omega⟩, dif_neg h]

/-- The padded chunk of the first point. -/
theorem bufA_read (b : Fin 8) (j : Fin 136) (c : Fin 1024) :
    A.a16.view.read (Elt I) (bufA A b) (ix3 b j c) = padRow A (car0 A) b j c := by
  unfold bufA
  rw [read_writes_over, hs0_apply, if_neg (by omega)]
  unfold padRow
  by_cases h : j.val < 8
  · rw [dif_neg (by omega), dif_pos h, initX_apply A _ b j h]
  · rw [dif_pos ⟨rfl, by omega⟩, dif_neg h]

/-- The load of a pair of heads' states at a later point. -/
theorem hpB_apply (xs1 : Vec I S8x512x128 .f32) (b : Fin 8) (p : Fin 4) (l n : Fin 128) :
    hpB A xs1 b p (ix3 0 l n) = xs1 (ix3 b ⟨128 * p.val + l.val, by omega⟩ n) := by
  refine (congrFun (A.w17.read_unread xs1) _).trans (congrArg xs1 (emb3 _ ?_ ?_ ?_)) <;> simp

/-- The output of sequence `b` at a row and lane. -/
def yV (q : Chunk) (d : Fin 8 → EReal) (b : Fin 8) (r : Fin 128) (c : Fin 512) : EReal :=
  out (fun c => gate (row q d r c) (A.x2 (ix3 b r c))) (fun c => A.x10 (ix2 0 c)) c

/-- A sequence's output store holds its outputs. -/
theorem yPc_apply (d : Fin 8 → EReal) (hd' : ∀ (h : Fin 8) (p : Fin 64), A.x9 (ix2 0 ⟨64 * h.val + p.val, by omega⟩) = d h)
    (b : Fin 8) (f : A.a16.view.ty.Contents (Elt I)) (hp : Fin 4 → Vec I S1x128x128 .f32) (q : Chunk)
    (hq : qOf (cvOf A b f) (dtOf A b) (rAlog A) hp = q) (r : Fin 128) (c : Fin 512) :
    yAll (cvOf A b f) (dtOf A b) (cmOf A b) hp (rDsk A) (rZ A b) (rGn A) (ix3 0 r c) = yV A q d b r c := by
  refine (yAll_apply (cvOf A b f) (dtOf A b) (rAlog A) hp (fun r h => ?_) (rDsk A) (rZ A b) (rGn A) d (fun p l => ?_) r c).trans ?_
  · rw [dtOf_apply]; exact softplus_nonneg _
  · rw [rDsk_apply, ← hd' (hd p l) (ln l)]
    congr 2
    ext
    simp [hd, ln]
    omega
  · rw [hq]
    unfold yV
    simp only [rZ_apply, rGn_apply]

/-- The output stores leave the outputs. -/
theorem ys_apply (d : Fin 8 → EReal) (hd' : ∀ (h : Fin 8) (p : Fin 64), A.x9 (ix2 0 ⟨64 * h.val + p.val, by omega⟩) = d h)
    (f : Fin 8 → A.a16.view.ty.Contents (Elt I)) (hp : Fin 8 → Fin 4 → Vec I S1x128x128 .f32) (q : Fin 8 → Chunk)
    (hq : ∀ b, qOf (cvOf A b (f b)) (dtOf A b) (rAlog A) (hp b) = q b) (X : Vec I S8x128x512 .bf16) (b : Fin 8) (r : Fin 128) (c : Fin 512) :
    over X (([7, 6, 5, 4, 3, 2, 1, 0] : List (Fin 8)).map fun b => yPc A b (cvOf A b (f b)) (hp b)) (ix3 b r c) = yV A (q b) d b r c := by
  refine over_at X _ _ _ ?_ ⟨_, List.mem_map.mpr ⟨b, mem_all b, rfl⟩, (mem3 (inb := in_z b)).mpr (by simp)⟩
  intro p hp'
  obtain ⟨i, _, rfl⟩ := List.mem_map.mp hp'
  show ∀ x : S1x128x512.Idx, _
  intro x e
  idx_vars x
  have h := inv3 (inb := in_z i) e
  simp at h
  obtain rfl : b = i := Fin.ext h.1
  obtain rfl : c = x2 := Fin.ext h.2.2
  obtain rfl : r = x1 := Fin.ext h.2.1
  obtain rfl : x0 = 0 := Subsingleton.elim _ _
  exact yPc_apply A d hd' b (f b) (hp b) (q b) (hq b) r c

/-- A pair's stored state is the chunk's next state. -/
theorem hPc_apply (b : Fin 8) (p : Fin 4) (f : A.a16.view.ty.Contents (Elt I)) (hp : Fin 4 → Vec I S1x128x128 .f32) (q : Chunk)
    (hq : qOf (cvOf A b f) (dtOf A b) (rAlog A) hp = q) (l n : Fin 128) :
    hPair (cvOf A b f) (dtOf A b) (cmOf A b) p (hp p) (ix3 0 l n) = Hn q (hd p l) (ln l) n := by
  rw [← hq]
  exact hPair_apply _ _ _ hp p l n

/-- A middle point's state stores leave the next states. -/
theorem hsB_apply (xs0 : Vec I S8x136x1024 .f32) (xs1 : Vec I S8x512x128 .f32) (X : Vec I S8x512x128 .f32) (b : Fin 8) (u : Fin 512)
    (n : Fin 128) : over X (hsB A xs0 xs1) (ix3 b u n)
      = Hn (qK A (carOf xs0) xs1 b) ⟨u.val / 64, by omega⟩ ⟨u.val % 64, by omega⟩ n := by
  refine over_at X _ _ _ ?_ ⟨_, List.mem_flatMap.mpr ⟨b, mem_all b, List.mem_map.mpr ⟨⟨u.val / 128, by omega⟩, mem_pairs _, rfl⟩⟩,
    (mem3 (inb := in_h b ⟨u.val / 128, by omega⟩)).mpr (by simp; omega)⟩
  intro p hp'
  obtain ⟨i, _, hp''⟩ := List.mem_flatMap.mp hp'
  obtain ⟨p, _, rfl⟩ := List.mem_map.mp hp''
  show ∀ x : S1x128x128.Idx, _
  intro x e
  idx_vars x
  have h := inv3 (inb := in_h i p) e
  simp at h
  obtain rfl : b = i := Fin.ext h.1
  obtain rfl : n = x2 := Fin.ext h.2.2
  obtain rfl : x0 = 0 := Subsingleton.elim _ _
  refine (hPc_apply A b p _ (hpB A xs1 b) _ (qOf_eq A _ (carOf xs0) b (bufB_read A xs0 b) xs1 _ (hpB_apply A xs1 b)) x1 n).trans ?_
  congr 1 <;> ext <;> simp [hd, ln] <;> omega

/-- A pair of heads' states, out of all. -/
def slab (H : Vec I S8x512x128 .f32) (b : Fin 8) (p : Fin 4) : Vec I S1x128x128 .f32 :=
  fun y => H (ix3 b ⟨128 * p.val + (y 1).val, Nat.lt_of_lt_of_le (Nat.add_lt_add_left (y 1).isLt _) (by show 128 * p.val + 128 ≤ 512; omega)⟩ (y 2))

/-- The first point's state stores, some of them made, leave next states in front and first states behind. -/
theorem hs1_apply : ∀ (m : ℕ) (hm : m ≤ 32) (X : Vec I S8x512x128 .f32) (b : Fin 8) (u : Fin 512) (n : Fin 128),
    over X (hs1 A m hm) (ix3 b u n) = if 4 * b.val + u.val / 128 < m
      then Hn (qK A (car0 A) A.x4 b) ⟨u.val / 64, by omega⟩ ⟨u.val % 64, by omega⟩ n else A.x4 (ix3 b u n) := by
  intro m
  induction m with
  | zero => intro hm X b u n; rw [if_neg (by omega)]; exact initH_apply A X b u n
  | succ m ih =>
    intro hm X b u n
    have hw : ∀ l n, hpL A (hs1 A m (by omega)) ⟨m / 4, by omega⟩ ⟨m % 4, by omega⟩ (ix3 0 l n)
        = A.x4 (ix3 ⟨m / 4, by omega⟩ ⟨128 * (m % 4) + l.val, by omega⟩ n) := by
      intro l n
      unfold hpL
      rw [View.readCov_eq_canon', canon_over]
      have e : (hRect ⟨m / 4, by omega⟩ ⟨m % 4, by omega⟩).toLoadRect.idx (ix3 0 l n)
          = ix3 ⟨m / 4, by omega⟩ ⟨128 * (m % 4) + l.val, by omega⟩ n := by
        refine emb3 _ ?_ ?_ ?_ <;> simp
      refine (congrArg _ e).trans ((ih (by omega) _ _ _ _).trans (if_neg ?_))
      simp
      omega
    by_cases h : 4 * b.val + u.val / 128 = m
    · rw [if_pos (by omega)]
      have hb : b = ⟨m / 4, by omega⟩ := by ext; simp; omega
      rw [hb]
      refine (over_hit X _ _ _ (ix3 0 ⟨u.val % 128, by omega⟩ n) _ (emb3 _ ?_ ?_ ?_)).trans ?_
      · simp
      · simp at h ⊢; omega
      · simp
      · have hs : ∀ w : Vec I S1x128x128 .f32, (∀ l n, w (ix3 0 l n) = A.x4 (ix3 ⟨m / 4, by omega⟩ ⟨128 * (m % 4) + l.val, by omega⟩ n)) →
            w = slab A.x4 ⟨m / 4, by omega⟩ ⟨m % 4, by omega⟩ := by
          intro w hw
          funext y
          idx_vars y
          obtain rfl : y0 = 0 := Subsingleton.elim _ _
          exact hw y1 y2
        rw [hs _ hw]
        refine (hPc_apply A ⟨m / 4, by omega⟩ ⟨m % 4, by omega⟩ _ (slab A.x4 ⟨m / 4, by omega⟩) _ (qOf_eq A _ (car0 A) _ (bufA_read A _) A.x4 _
          fun p l n => rfl) ⟨u.val % 128, by omega⟩ n).trans ?_
        congr 1 <;> ext <;> simp [hd, ln] <;> omega
    · refine (over_miss X _ _ fun hm' => h ?_).trans ?_
      · have := (mem3 (inb := in_h ⟨m / 4, by omega⟩ ⟨m % 4, by omega⟩)).mp hm'
        simp at this
        omega
      · rw [ih]
        by_cases h' : 4 * b.val + u.val / 128 < m
        · rw [if_pos h', if_pos (by omega)]
        · rw [if_neg h', if_neg (by omega)]

/-- The first point's output stores leave its outputs. -/
theorem ysA_apply (d : Fin 8 → EReal) (hd' : ∀ (h : Fin 8) (p : Fin 64), A.x9 (ix2 0 ⟨64 * h.val + p.val, by omega⟩) = d h)
    (X : Vec I S8x128x512 .bf16) (b : Fin 8) (r : Fin 128) (c : Fin 512) :
    over X (ysA A) (ix3 b r c) = yV A (qK A (car0 A) A.x4 b) d b r c := by
  refine ys_apply A d hd' (bufA A) (fun b p => hpL A (hs1 A (4 * b.val + p.val) (by omega)) b p) _ (fun b => ?_) X b r c
  refine qOf_eq A _ (car0 A) b (bufA_read A b) A.x4 _ fun p l n => ?_
  show View.readCov A.a17.view _ _ _ = _
  rw [View.readCov_eq_canon', canon_over]
  have e : (hRect b p).toLoadRect.idx (ix3 0 l n) = ix3 b ⟨128 * p.val + l.val, by omega⟩ n := by
    refine emb3 _ ?_ ?_ ?_ <;> simp
  refine (congrArg _ e).trans ((hs1_apply A _ _ _ _ _ _).trans (if_neg ?_))
  simp
  omega

/-- A middle point's output stores leave its outputs. -/
theorem ysB_apply (d : Fin 8 → EReal) (hd' : ∀ (h : Fin 8) (p : Fin 64), A.x9 (ix2 0 ⟨64 * h.val + p.val, by omega⟩) = d h)
    (xs0 : Vec I S8x136x1024 .f32) (xs1 : Vec I S8x512x128 .f32) (X : Vec I S8x128x512 .bf16) (b : Fin 8) (r : Fin 128) (c : Fin 512) :
    over X (ysB A xs0 xs1) (ix3 b r c) = yV A (qK A (carOf xs0) xs1 b) d b r c :=
  ys_apply A d hd' (bufB A xs0) (fun b => hpB A xs1 b) _
    (fun b => qOf_eq A _ (carOf xs0) b (bufB_read A xs0 b) xs1 _ (hpB_apply A xs1 b)) X b r c

/-- The last point's stores of the last rows. -/
theorem convC_apply (X : Vec I S8x3x1024 .f32) (b : Fin 8) (u : Fin 3) (c : Fin 1024) :
    over X (convC A) (ix3 b u c) = A.x0 (ix3 b ⟨125 + u.val, by omega⟩ c) := by
  refine over_at X _ _ _ ?_ ⟨_, List.mem_map.mpr ⟨b, mem_all b, rfl⟩, (mem3 (inb := in_conv' b)).mpr (by simp)⟩
  intro p hp
  obtain ⟨i, _, rfl⟩ := List.mem_map.mp hp
  show ∀ x : S1x3x1024.Idx, _
  intro x e
  idx_vars x
  have h := inv3 (inb := in_conv' i) e
  simp at h
  obtain rfl : b = i := Fin.ext h.1
  obtain rfl : c = x2 := Fin.ext h.2.2
  obtain rfl : u = x1 := Fin.ext h.2.1
  obtain rfl : x0 = 0 := Subsingleton.elim _ _
  refine (cast_3 _ u c).trans ?_
  rw [View.readCov_eq_canon', canon_over]
  refine (congrArg _ (emb3 (i := b) (j := ⟨133 + u.val, by omega⟩) (k := c) _ ?_ ?_ ?_)).trans ((hs0End_apply A [] _ _ _ _).trans ?_)
  · simp
  · simp
  · simp
  · unfold padRow
    rw [dif_neg (by simp; omega)]
    congr 2
    ext
    simp
    omega

/-- The last point's stores of the last states. -/
theorem houtC_apply (xs0 : Vec I S8x136x1024 .f32) (xs1 : Vec I S8x512x128 .f32) (X : Vec I S8x512x128 .f32) (b : Fin 8) (u : Fin 512)
    (n : Fin 128) : over X (houtC A xs0 xs1) (ix3 b u n)
      = Hn (qK A (carOf xs0) xs1 b) ⟨u.val / 64, by omega⟩ ⟨u.val % 64, by omega⟩ n := by
  refine over_at X _ _ _ ?_ ⟨_, List.mem_map.mpr ⟨b, mem_all b, rfl⟩, (mem3 (inb := in_h0 b)).mpr (by simp)⟩
  intro p hp
  obtain ⟨i, _, rfl⟩ := List.mem_map.mp hp
  show ∀ x : S1x512x128.Idx, _
  intro x e
  idx_vars x
  have h := inv3 (inb := in_h0 i) e
  simp at h
  obtain rfl : b = i := Fin.ext h.1
  obtain rfl : n = x2 := Fin.ext h.2.2
  obtain rfl : u = x1 := Fin.ext h.2.1
  obtain rfl : x0 = 0 := Subsingleton.elim _ _
  refine (cast_h _ u n).trans ?_
  rw [View.readCov_eq_canon', canon_over]
  refine (congrArg _ (emb3 (i := b) (j := u) (k := n) _ ?_ ?_ ?_)).trans (hsB_apply A xs0 xs1 _ _ _ _) <;> simp

end Cert.KChunk

end
-- ==== Proof.RVal.lean ====
module

public import proofs.«01_k».proof.Proof.Gen.ReferenceIdeal.Step
public import proofs.«01_k».proof.Proof.Spec
public import Idealize.ShloMosaic.Lib.Pointwise
public import Idealize.ShloMosaic.Lib.WordCmp
public import Idealize.ShloMosaic.Lib.DynamicIndex

/-! The reference's scan at an index, at the extended reals. -/

@[expose] public section

set_option maxRecDepth 16384

noncomputable section

namespace Cert.RVal

open Idealize.ShloMosaic Idealize.ShloMosaic.TcCoe Idealize.SL.Sem
open Cert.ReferenceIdeal Cert.ReferenceIdeal.Gen Cert.Spec Cert.ReferenceIdeal.Step

/-- The exact values. -/
abbrev I := Idealize.ShloMosaic.Ideal

/-- A left fold of sums is the start plus the sum. -/
theorem foldl_sum {β : Type} (g : β → EReal) : ∀ (l : List β) (v : EReal), l.foldl (fun r n => r + g n) v = v + (l.map g).sum
  | [], v => by simp
  | a :: l, v => by rw [List.foldl_cons, foldl_sum g l, List.map_cons, List.sum_cons, add_assoc]

/-- The padded windows' sum is the running sum along the rows. -/
theorem window_apply (x : FVec I S8x128x8 .f32) (init : S_.Idx → I .f32) (hi : ∀ i, init i = (0 : EReal))
    (b : Fin 8) (r : Fin 128) (h : Fin 8) :
    Host.reduceWindowAdd ![1, 128, 1] ![1, 1, 1] ![0, 127, 0] ![0, 0, 0] x init
      reduceWindows_S8x128x8_S8x128x8_w1s1p0_0_w128s1p127_0_w1s1p0_0 h_S_ (ix3 b r h)
      = ∑ i : Fin 128 with i ≤ r, x (ix3 b i h) := by
  unfold Host.reduceWindowAdd
  rw [Ideal.hostReduceWindowAdd_def]
  unfold Idealize.ShloMosaic.Ideal.hostReduceWindowAdd Host.reduceWindow
  dsimp only
  rw [foldl_sum, hi, zero_add, ← Fin.sum_univ_def]
  let G : Shape.Idx ⟨3, ![1, 128, 1]⟩ → EReal := fun w =>
    if hk : 127 ≤ r.val + (w 1).val then x (ix3 b ⟨r.val + (w 1).val - 127, by have := (w 1).isLt; simp at this; omega⟩ h) else 0
  refine (Finset.sum_congr rfl fun n _ => ?_ : _ = ∑ n, G ((Shape.rowMajor ⟨3, ![1, 128, 1]⟩).symm n)).trans ?_
  · have w0 : ((Shape.rowMajor ⟨3, ![1, 128, 1]⟩).symm n 0).val < 1 := ((Shape.rowMajor ⟨3, ![1, 128, 1]⟩).symm n 0).isLt
    have w1 : ((Shape.rowMajor ⟨3, ![1, 128, 1]⟩).symm n 1).val < 128 := ((Shape.rowMajor ⟨3, ![1, 128, 1]⟩).symm n 1).isLt
    have w2 : ((Shape.rowMajor ⟨3, ![1, 128, 1]⟩).symm n 2).val < 1 := ((Shape.rowMajor ⟨3, ![1, 128, 1]⟩).symm n 2).isLt
    show _ = dite _ _ _
    split
    · rename_i hin
      have h1 := hin 1
      change 127 ≤ r.val * 1 + ((Shape.rowMajor ⟨3, ![1, 128, 1]⟩).symm n 1).val ∧ r.val * 1 + ((Shape.rowMajor ⟨3, ![1, 128, 1]⟩).symm n 1).val - 127 < 128 at h1
      rw [dif_pos (by omega)]
      refine congrArg x (funext fun a => Fin.ext ?_)
      match a with
      | ⟨0, _⟩ => show b.val * 1 + ((Shape.rowMajor ⟨3, ![1, 128, 1]⟩).symm n 0).val - 0 = b.val; omega
      | ⟨1, _⟩ => show r.val * 1 + ((Shape.rowMajor ⟨3, ![1, 128, 1]⟩).symm n 1).val - 127 = r.val + ((Shape.rowMajor ⟨3, ![1, 128, 1]⟩).symm n 1).val - 127; omega
      | ⟨2, _⟩ => show h.val * 1 + ((Shape.rowMajor ⟨3, ![1, 128, 1]⟩).symm n 2).val - 0 = h.val; omega
    · rename_i hin
      rw [dif_neg]
      intro hk
      refine hin fun a => ?_
      match a with
      | ⟨0, _⟩ => show 0 ≤ b.val * 1 + ((Shape.rowMajor ⟨3, ![1, 128, 1]⟩).symm n 0).val ∧ b.val * 1 + ((Shape.rowMajor ⟨3, ![1, 128, 1]⟩).symm n 0).val - 0 < 8; omega
      | ⟨1, _⟩ => show 127 ≤ r.val * 1 + ((Shape.rowMajor ⟨3, ![1, 128, 1]⟩).symm n 1).val ∧ r.val * 1 + ((Shape.rowMajor ⟨3, ![1, 128, 1]⟩).symm n 1).val - 127 < 128; omega
      | ⟨2, _⟩ => show 0 ≤ h.val * 1 + ((Shape.rowMajor ⟨3, ![1, 128, 1]⟩).symm n 2).val ∧ h.val * 1 + ((Shape.rowMajor ⟨3, ![1, 128, 1]⟩).symm n 2).val - 0 < 8; omega
  · rw [Equiv.sum_comp (Shape.rowMajor ⟨3, ![1, 128, 1]⟩).symm G]
    symm
    refine Finset.sum_of_injOn (fun i : Fin 128 => (ix3 0 ⟨(i.val + 127 - r.val) % 128, by omega⟩ 0 : Shape.Idx ⟨3, ![1, 128, 1]⟩)) ?_ ?_ ?_ ?_
    · intro i hi j hj hij
      simp only [Finset.coe_filter, Finset.mem_univ, true_and, Set.mem_setOf_eq, Fin.le_def] at hi hj
      have := congrArg Fin.val (congrFun hij 1)
      change (i.val + 127 - r.val) % 128 = (j.val + 127 - r.val) % 128 at this
      ext; omega
    · intro i _; simp
    · intro w _ hw
      have w0 : (w 0).val < 1 := (w 0).isLt
      have w1 : (w 1).val < 128 := (w 1).isLt
      have w2 : (w 2).val < 1 := (w 2).isLt
      show dite _ _ _ = _
      rw [dif_neg]
      intro hk
      refine hw ⟨⟨r.val + (w 1).val - 127, by omega⟩, ?_, ?_⟩
      · simp only [Finset.coe_filter, Finset.mem_univ, true_and, Set.mem_setOf_eq, Fin.le_def]; omega
      · funext a
        refine Fin.ext ?_
        match a with
        | ⟨0, _⟩ => show 0 = (w 0).val; omega
        | ⟨1, _⟩ => show (r.val + (w 1).val - 127 + 127 - r.val) % 128 = (w 1).val; omega
        | ⟨2, _⟩ => show 0 = (w 2).val; omega
    · intro i hi
      simp only [Finset.mem_filter, Finset.mem_univ, true_and, Fin.le_def] at hi
      refine Eq.trans ?_ (dif_pos (show 127 ≤ r.val + (i.val + 127 - r.val) % 128 by omega)).symm
      congr 2
      ext
      show i.val = r.val + (i.val + 127 - r.val) % 128 - 127
      omega

/-- What the layer reads and the reference's arguments hold. -/
structure Args where
  xbc : FVec I S8x2048x1024 .f32
  dtr : FVec I S8x2048x8 .f32
  z : FVec I S8x2048x512 .f32
  buf : FVec I S8x3x1024 .f32
  h0 : FVec I S8x8x64x128 .f32
  cw : FVec I S1x4x1024 .f32
  cb : FVec I S1x1024 .f32
  dtb : FVec I S1x8 .f32
  al : FVec I S1x8 .f32
  dsk : FVec I S1x8 .f32
  gn : FVec I S1x512 .f32

variable (a : Args)

/-- The rows of sequence `b` after those of the call before. -/
def full (b : Fin 8) (u : Fin 2051) (c : Fin 1024) : EReal :=
  if h : u.val < 3 then a.buf (ix3 b ⟨u.val, h⟩ c) else a.xbc (ix3 b ⟨u.val - 3, by omega⟩ c)
/-- The convolution of sequence `b` at row `t`. -/
def conv (b : Fin 8) (t : Fin 2048) (c : Fin 1024) : EReal :=
  a.cb (ix2 0 c) + full a b ⟨t.val, by omega⟩ c * a.cw (ix3 0 0 c) + full a b ⟨t.val + 1, by omega⟩ c * a.cw (ix3 0 1 c)
    + full a b ⟨t.val + 2, by omega⟩ c * a.cw (ix3 0 2 c) + full a b ⟨t.val + 3, by omega⟩ c * a.cw (ix3 0 3 c)

/-- The joined rows. -/
theorem v0_apply (b : Fin 8) (u : Fin 2051) (c : Fin 1024) :
    A_main_v0 a.xbc a.dtr a.buf a.cw a.cb a.dtb a.al (ix3 b u c) = full a b u c := by
  pointwise [A_main_v0, full]

/-- The reference's convolution. -/
theorem v36_apply (b : Fin 8) (t : Fin 2048) (c : Fin 1024) :
    A_main_v36 a.xbc a.dtr a.buf a.cw a.cb a.dtb a.al (ix3 b t c) = silu (conv a b t c) := by
  pointwise [K_main_call0_cst, K_main_call0_v2, K_main_call0_cst_0, K_main_call0_v4, A_main_v1, A_main_v2, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_call0_v0, A_main_call0_v1, A_main_call0_v3, A_main_call0_v5, A_main_v36]
  simp only [v0_apply]
  unfold silu conv
  simp only [Nat.add_comm]

/-- The reference's step sizes. -/
theorem v45_apply (b : Fin 8) (t : Fin 2048) (h : Fin 8) :
    A_main_v45 a.xbc a.dtr a.buf a.cw a.cb a.dtb a.al (ix3 b t h) = softplus (a.dtr (ix3 b t h) + a.dtb (ix2 0 h)) := by
  pointwise [K_main_call1_cst, K_main_call1_v0, K_main_call1_v2, K_main_call1_v5, A_main_v41, A_main_v42, A_main_v43, A_main_v44, A_main_call1_v1, A_main_call1_v3, A_main_call1_v4, A_main_call1_v6, A_main_call1_v7, A_main_call1_v8, A_main_call1_v9, A_main_call1_v10, A_main_call1_v11, A_main_v45, softplus]
  rw [if_neg (by simp)]
  rfl

/-- The chunked inputs. -/
theorem v59_apply (j : Fin 16) (b : Fin 8) (r : Fin 128) (h : Fin 8) (p : Fin 64) :
    A_main_v59 a.xbc a.dtr a.buf a.cw a.cb a.dtb a.al (ix5 j b r h p)
      = silu (conv a b ⟨128 * j.val + r.val, by omega⟩ ⟨64 * h.val + p.val, by omega⟩) := by
  rw [← v36_apply]
  pointwise [A_main_v59, A_main_v58, A_main_v40, A_main_v37]
  congr 2
  · ext; simp; omega
  · ext; simp; omega

/-- The chunked step sizes. -/
theorem v61_apply (j : Fin 16) (b : Fin 8) (r : Fin 128) (h : Fin 8) :
    A_main_v61 a.xbc a.dtr a.buf a.cw a.cb a.dtb a.al (ix4 j b r h)
      = softplus (a.dtr (ix3 b ⟨128 * j.val + r.val, by omega⟩ h) + a.dtb (ix2 0 h)) := by
  rw [← v45_apply]
  pointwise [A_main_v61, A_main_v60]
  congr 2
  ext; simp; omega

/-- The chunked input projections. -/
theorem v63_apply (j : Fin 16) (b : Fin 8) (r : Fin 128) (h : Fin 8) (n : Fin 128) :
    A_main_v63 a.xbc a.dtr a.buf a.cw a.cb a.dtb a.al (ix5 j b r h n)
      = silu (conv a b ⟨128 * j.val + r.val, by omega⟩ ⟨512 + 128 * (h.val / 4) + n.val, by omega⟩) := by
  rw [← v36_apply]
  pointwise [A_main_v63, A_main_v62, A_main_v52, A_main_v51, A_main_v49, A_main_v38]
  congr 2
  · ext; simp; omega
  · ext; simp; omega

/-- The chunked output projections. -/
theorem v65_apply (j : Fin 16) (b : Fin 8) (r : Fin 128) (h : Fin 8) (n : Fin 128) :
    A_main_v65 a.xbc a.dtr a.buf a.cw a.cb a.dtb a.al (ix5 j b r h n)
      = silu (conv a b ⟨128 * j.val + r.val, by omega⟩ ⟨768 + 128 * (h.val / 4) + n.val, by omega⟩) := by
  rw [← v36_apply]
  pointwise [A_main_v65, A_main_v64, A_main_v54, A_main_v53, A_main_v50, A_main_v39]
  congr 2
  · ext; simp; omega
  · ext; simp; omega

/-- The log decay's sign and exponential. -/
theorem v48_apply (h : Fin 8) :
    A_main_v48 a.xbc a.dtr a.buf a.cw a.cb a.dtb a.al (ix1 h) = -Idealize.ShloMosaic.Ideal.exp (a.al (ix2 0 h)) := by
  pointwise [A_main_v48, A_main_v47, A_main_v46]

/-- The chunk of sequence `b` at trip `j`, before it the state `H`. -/
def qR (b : Fin 8) (j : Fin 16) (H : Fin 8 → Fin 64 → Fin 128 → EReal) : Chunk where
  cv r c := conv a b ⟨128 * j.val + r.val, by omega⟩ c
  dt r h := softplus (a.dtr (ix3 b ⟨128 * j.val + r.val, by omega⟩ h) + a.dtb (ix2 0 h))
  a h := -Idealize.ShloMosaic.Ideal.exp (a.al (ix2 0 h))
  H := H

/-- The bits of negative infinity. -/
theorem neg_inf : Idealize.ShloMosaic.Ideal.ofBits .f32 0xFF800000#32 = (⊥ : EReal) := by
  simp [Idealize.ShloMosaic.Ideal.ofBits, Idealize.ShloMosaic.Ideal.ieee]

/-- What the loop never changes is what it began with. -/
structure Kept (s : State I) : Prop where
  xs : s.main_v67_0 = A_main_v59 a.xbc a.dtr a.buf a.cw a.cb a.dtb a.al
  dt : s.main_v67_1 = A_main_v61 a.xbc a.dtr a.buf a.cw a.cb a.dtb a.al
  bs : s.main_v67_2 = A_main_v63 a.xbc a.dtr a.buf a.cw a.cb a.dtb a.al
  cs : s.main_v67_3 = A_main_v65 a.xbc a.dtr a.buf a.cw a.cb a.dtb a.al
  al : s.main_v67_4 = A_main_v48 a.xbc a.dtr a.buf a.cw a.cb a.dtb a.al
  sk : s.main_v67_6 = a.dsk

section
variable {a} {s : State I} (k : Kept a s) (j : Fin 16) (b : Fin 8)
include k

omit k in
/-- A trip's number as a signed word. -/
theorem trip_toInt (j : Fin 16) : (BitVec.ofNat 32 j.val).toInt = (j.val : Int) := by revert j; decide
omit k in
/-- The starts of a trip's blocks. -/
theorem trip_start5 (a : Fin 5) : ((![constantI S_ 32 (BitVec.ofNat 32 j.val), constantI S_ 32 0#32, constantI S_ 32 0#32,
    constantI S_ 32 0#32, constantI S_ 32 0#32] : Fin 5 → IVec S_ 32) a (Shape.Idx.first h_S_)).toInt
    = ((![j.val, 0, 0, 0, 0] : Fin 5 → ℕ) a : Int) := by
  match a with
  | 0 => exact trip_toInt j
  | 1 => rfl
  | 2 => rfl
  | 3 => rfl
  | 4 => rfl
omit k in
/-- The starts of a trip's step sizes. -/
theorem trip_start4 (a : Fin 4) : ((![constantI S_ 32 (BitVec.ofNat 32 j.val), constantI S_ 32 0#32, constantI S_ 32 0#32,
    constantI S_ 32 0#32] : Fin 4 → IVec S_ 32) a (Shape.Idx.first h_S_)).toInt = ((![j.val, 0, 0, 0] : Fin 4 → ℕ) a : Int) := by
  match a with
  | 0 => exact trip_toInt j
  | 1 => rfl
  | 2 => rfl
  | 3 => rfl
omit k in
/-- A chunk of inputs fits. -/
theorem fits_xs : ∀ j : Fin 16, S16x8x128x8x64.Slices ![j.val, 0, 0, 0, 0] S1x8x128x8x64 := by decide
omit k in
/-- A chunk of step sizes fits. -/
theorem fits_dt : ∀ j : Fin 16, S16x8x128x8.Slices ![j.val, 0, 0, 0] S1x8x128x8 := by decide
omit k in
/-- A chunk of projections fits. -/
theorem fits_bc : ∀ j : Fin 16, S16x8x128x8x128.Slices ![j.val, 0, 0, 0, 0] S1x8x128x8x128 := by decide

omit k in
/-- The slice of a chunk's inputs. -/
theorem slice_xs (x : S16x8x128x8x64.Idx → EReal) (st : Fin 5 → Int) (j : Fin 16)
    (hst : ∀ a : Fin 5, st a = ((![j.val, 0, 0, 0, 0] : Fin 5 → ℕ) a : Int)) (b : Fin 8) (r : Fin 128) (h : Fin 8) (p : Fin 64) :
    Host.dynamicSlice S1x8x128x8x64 x st sliceFits_S16x8x128x8x64_S1x8x128x8x64 (ix5 0 b r h p) = x (ix5 j b r h p) := by
  rw [Host.dynamicSlice_eq_extractStridedSlice S1x8x128x8x64 x st (![j.val, 0, 0, 0, 0] : Fin 5 → ℕ) _ (fits_xs j) hst]
  pointwise []

omit k in
/-- The slice of a chunk's step sizes. -/
theorem slice_dt (x : S16x8x128x8.Idx → EReal) (st : Fin 4 → Int) (j : Fin 16)
    (hst : ∀ a : Fin 4, st a = ((![j.val, 0, 0, 0] : Fin 4 → ℕ) a : Int)) (b : Fin 8) (r : Fin 128) (h : Fin 8) :
    Host.dynamicSlice S1x8x128x8 x st sliceFits_S16x8x128x8_S1x8x128x8 (ix4 0 b r h) = x (ix4 j b r h) := by
  rw [Host.dynamicSlice_eq_extractStridedSlice S1x8x128x8 x st (![j.val, 0, 0, 0] : Fin 4 → ℕ) _ (fits_dt j) hst]
  pointwise []

omit k in
/-- The slice of a chunk's projections. -/
theorem slice_bc (x : S16x8x128x8x128.Idx → EReal) (st : Fin 5 → Int) (j : Fin 16)
    (hst : ∀ a : Fin 5, st a = ((![j.val, 0, 0, 0, 0] : Fin 5 → ℕ) a : Int)) (b : Fin 8) (r : Fin 128) (h : Fin 8) (p : Fin 128) :
    Host.dynamicSlice S1x8x128x8x128 x st sliceFits_S16x8x128x8x128_S1x8x128x8x128 (ix5 0 b r h p) = x (ix5 j b r h p) := by
  rw [Host.dynamicSlice_eq_extractStridedSlice S1x8x128x8x128 x st (![j.val, 0, 0, 0, 0] : Fin 5 → ℕ) _ (fits_bc j) hst]
  pointwise []

omit k in
/-- Writing a chunk's outputs changes that chunk only. -/
theorem update_xs (x : S16x8x128x8x64.Idx → EReal) (u : S1x8x128x8x64.Idx → EReal) (st : Fin 5 → Int) (j : Fin 16)
    (hst : ∀ a : Fin 5, st a = ((![j.val, 0, 0, 0, 0] : Fin 5 → ℕ) a : Int)) (j' : Fin 16) (b : Fin 8) (r : Fin 128) (h : Fin 8) (p : Fin 64) :
    Host.dynamicUpdateSlice x u st updateFits_S16x8x128x8x64_S1x8x128x8x64 (ix5 j' b r h p)
      = if j' = j then u (ix5 0 b r h p) else x (ix5 j' b r h p) := by
  rw [Host.dynamicUpdateSlice_eq_updateSlice x u st _ (![j.val, 0, 0, 0, 0] : Fin 5 → ℕ) (fun a => by
    have := (fits_xs j).2 a
    rw [hst a]; omega) (fits_xs j)]
  pointwise []
  by_cases hj : j' = j
  · subst hj
    rw [dif_pos (by omega), if_pos rfl]
    congr 2
    ext; simp
  · rw [if_neg hj, dif_neg (fun hh => hj (Fin.ext (by omega)))]

/-- The state of sequence `b` in `s`. -/
abbrev hOf (s : State I) (b : Fin 8) : Fin 8 → Fin 64 → Fin 128 → EReal := fun h p n => s.main_v67_8 (ix4 b h p n)

/-- The trip's inputs. -/
theorem b5_apply (r : Fin 128) (h : Fin 8) (p : Fin 64) : b5 j.val s (ix4 b r h p) = X (qR a b j (hOf s b)) r h p := by
  unfold b5
  pointwise []
  refine (slice_xs _ _ j (trip_start5 j) _ _ _ _).trans ?_
  rw [k.xs, v59_apply]
  rfl

/-- The trip's step sizes. -/
theorem b10_apply (r : Fin 128) (h : Fin 8) : b10 j.val s (ix3 b r h) = (qR a b j (hOf s b)).dt r h := by
  unfold b10
  pointwise []
  refine (slice_dt _ _ j (trip_start4 j) _ _ _).trans ?_
  rw [k.dt, v61_apply]
  rfl

/-- The trip's input projections. -/
theorem b16_apply (r : Fin 128) (h : Fin 8) (n : Fin 128) : b16 j.val s (ix4 b r h n) = Bm (qR a b j (hOf s b)) r h n := by
  unfold b16
  pointwise []
  refine (slice_bc _ _ j (trip_start5 j) _ _ _ _).trans ?_
  rw [k.bs, v63_apply]
  rfl

/-- The trip's output projections. -/
theorem b22_apply (r : Fin 128) (h : Fin 8) (n : Fin 128) : b22 j.val s (ix4 b r h n) = Cm (qR a b j (hOf s b)) r h n := by
  unfold b22
  pointwise []
  refine (slice_bc _ _ j (trip_start5 j) _ _ _ _).trans ?_
  rw [k.cs, v65_apply]
  rfl

/-- The trip's scaled inputs. -/
theorem b25_apply (r : Fin 128) (h : Fin 8) (p : Fin 64) : b25 j.val s (ix4 b r h p) = U (qR a b j (hOf s b)) r h p := by
  pointwise [b25, b24, b23]
  rw [b5_apply k, b10_apply k]
  rfl

/-- The trip's running sum. -/
theorem b31_apply (r : Fin 128) (h : Fin 8) : b31 j.val s (ix3 b r h) = cum (qR a b j (hOf s b)) r h := by
  unfold b31
  rw [window_apply _ _ (fun i => by pointwise [b30, b29])]
  unfold cum
  refine Finset.sum_congr rfl fun i _ => ?_
  pointwise [b28, b27, b26]
  rw [b10_apply k, k.al, v48_apply]
  rfl

/-- The trip's decays. -/
theorem b41_apply (l s' : Fin 128) (h : Fin 8) : b41 j.val s (ix4 b l s' h) = dec (qR a b j (hOf s b)) l s' h := by
  pointwise [b41, b40, b39, b38, b37, b36, b35, b34, b33, b32, K_main_v57, K_main_v56, K_main_call2_v5, K_main_call2_c_0,
    K_main_call2_v4, K_main_call2_v3, K_main_call2_v2, K_main_call2_v1, K_main_call2_c, K_main_call2_v0, K_main_v55, K_main_c]
  rw [b31_apply k, b31_apply k]
  rw [show IntOp.addi (BitVec.ofNat 32 l.val) 0#32 = BitVec.ofNat 32 l.val from BitVec.add_zero _,
    WordCmp.cmpi_sge_ofNat (by simp; omega) (by simp; omega)]
  unfold dec
  by_cases hs : s' ≤ l
  · have hs' : s'.val ≤ l.val := hs
    simp [hs, hs', Scalar.select]
  · have hs' : ¬ s'.val ≤ l.val := hs
    simp [hs, hs', Scalar.select, neg_inf]

/-- The trip's outputs. -/
theorem b74_apply (r : Fin 128) (h : Fin 8) (p : Fin 64) :
    b74 j.val s (ix4 b r h p) = Y (qR a b j (hOf s b)) (a.dsk (ix2 0 h)) r h p := by
  pointwise [b74, b73, b72, b71, b70, b69, b53, b52, b51, b50, b49, b48, b47, b46, b45, b44, b43, b42]
  simp only [b5_apply k, b31_apply k, b41_apply k, b25_apply k, b22_apply k, b16_apply k, k.sk]
  unfold Y
  congr 2
  · refine Finset.sum_congr rfl fun x _ => ?_
    rw [mul_comm]
    congr 2
    exact Finset.sum_congr rfl fun n _ => mul_comm _ _
  · congr 1
    exact Finset.sum_congr rfl fun n _ => mul_comm _ _

/-- The trip's next state. -/
theorem b68_apply (h : Fin 8) (p : Fin 64) (n : Fin 128) : b68 j.val s (ix4 b h p n) = Hn (qR a b j (hOf s b)) h p n := by
  pointwise [b68, b67, b66, b65, b64, b63, b62, b61, b60, b59, b58, b57, b56, b55, b54]
  simp only [b31_apply k, b25_apply k, b16_apply k]
  unfold Hn
  congr 1
  refine Finset.sum_congr rfl fun x _ => ?_
  rw [mul_comm (Idealize.ShloMosaic.Ideal.exp _)]

omit k in
/-- The outputs gathered so far. -/
theorem b80_apply (j' : Fin 16) (r : Fin 128) (h : Fin 8) (p : Fin 64) :
    b80 j.val s (ix5 j' b r h p) = if j' = j then b74 j.val s (ix4 b r h p) else s.main_v67_9 (ix5 j' b r h p) := by
  refine (update_xs _ _ _ j (trip_start5 j) _ _ _ _ _).trans ?_
  pointwise [b75]
end

/-- The state of sequence `b` before trip `k`. -/
def Hs (b : Fin 8) : ℕ → Fin 8 → Fin 64 → Fin 128 → EReal
  | 0 => fun h p n => a.h0 (ix4 b h p n)
  | k + 1 => if hk : k < 16 then Hn (qR a b ⟨k, hk⟩ (Hs b k)) else Hs b k

/-- The loop's state before trip `k`. -/
def st : ℕ → State I
  | 0 => Step.init a.h0 a.dsk a.xbc a.dtr a.buf a.cw a.cb a.dtb a.al
  | k + 1 => step k (st k)

/-- The loop keeps its inputs. -/
theorem st_kept : ∀ k, Kept a (st a k)
  | 0 => ⟨rfl, rfl, rfl, rfl, rfl, rfl⟩
  | k + 1 => ⟨(st_kept k).xs, (st_kept k).dt, (st_kept k).bs, (st_kept k).cs, (st_kept k).al, (st_kept k).sk⟩

/-- The hidden state before trip `k` is the recurrence's. -/
theorem st_h (b : Fin 8) : ∀ k, k ≤ 16 → hOf (st a k) b = Hs a b k
  | 0, _ => rfl
  | k + 1, hk => by
    funext h p n
    show b68 k (st a k) (ix4 b h p n) = _
    rw [b68_apply (st_kept a k) ⟨k, by omega⟩, st_h b k (by omega)]
    unfold Hs
    rw [dif_pos (by omega)]
    cases k <;> rfl

/-- The outputs of the trips before `k` are the chunks'. -/
theorem st_y (b : Fin 8) (j' : Fin 16) (r : Fin 128) (h : Fin 8) (p : Fin 64) : ∀ k, k ≤ 16 → j'.val < k →
    (st a k).main_v67_9 (ix5 j' b r h p) = Y (qR a b j' (Hs a b j'.val)) (a.dsk (ix2 0 h)) r h p
  | 0, _, h0 => absurd h0 (by omega)
  | k + 1, hk, hj => by
    show b80 k (st a k) (ix5 j' b r h p) = _
    rw [b80_apply (s := st a k) ⟨k, by omega⟩]
    by_cases e : j' = ⟨k, by omega⟩
    · rw [if_pos e]
      have ek : j'.val = k := congrArg Fin.val e
      have ev := b74_apply (st_kept a k) j' b r h p
      rw [ek, st_h a b k (by omega)] at ev
      rw [ev, ek]
    · rw [if_neg e]
      exact st_y b j' r h p k (by omega) (by
        have : j'.val ≠ k := fun hh => e (Fin.ext hh)
        omega)

/-- The reference's normed outputs, of what the loop gathered. -/
theorem R_y (s : State I) (b : Fin 8) (t : Fin 2048) (c : Fin 512) :
    R_main_v91 s a.z a.gn (ix3 b t c)
      = out (fun c => gate (s.main_v67_9 (ix5 ⟨t.val / 128, by omega⟩ b ⟨t.val % 128, by omega⟩ ⟨c.val / 64, by omega⟩ ⟨c.val % 64, by omega⟩))
          (a.z (ix3 b t c))) (fun c => a.gn (ix2 0 c)) c := by
  pointwise [R_main_v91, out, gate, scale, silu]
  simp only [Nat.mul_comm 256]

/-- The reference's kept rows are the input's last three. -/
theorem R_conv (s : State I) (b : Fin 8) (u : Fin 3) (c : Fin 1024) :
    R_main_v90 s a.xbc a.buf (ix3 b u c) = a.xbc (ix3 b ⟨2045 + u.val, by omega⟩ c) := by
  pointwise [R_main_v90]
  rw [dif_neg (by omega)]
  congr 2
  ext; simp; omega

/-- The reference's final states, flattened. -/
theorem R_h (s : State I) (b : Fin 8) (u : Fin 512) (n : Fin 128) :
    R_main_v92 s (ix3 b u n) = s.main_v67_8 (ix4 b ⟨u.val / 64, by omega⟩ ⟨u.val % 64, by omega⟩ n) := by
  pointwise [R_main_v92]

end Cert.RVal
-- ==== Proof.KBlocks.lean ====
module

public import proofs.«01_k».proof.Proof.KReads
public import proofs.«01_k».proof.Proof.RVal
public import Idealize.ShloMosaic.Lib.Pipeline.ValueKit
public import Idealize.ShloMosaic.Lib.Claim

/-! The blocks a grid point is given, in terms of the arguments. -/

@[expose] public section

set_option maxRecDepth 16384

noncomputable section

namespace Cert.KBlocks

open Idealize.ShloMosaic Idealize.ShloMosaic.TcCoe Idealize.SL Idealize.SL.Sem
open Cert.KernelIdeal Cert.KernelIdeal.Gen Cert.Spec
open Cert.KVal

variable (m : (ℓ : Loc nD τ sig) → Buf (Elt I) ℓ) (c : Dev nD)

/-- The arguments of a core. -/
def args : RVal.Args where
  xbc := m ((c : Thread nD τ).loc main_arg0)
  dtr := m ((c : Thread nD τ).loc main_arg1)
  z := m ((c : Thread nD τ).loc main_arg2)
  buf := m ((c : Thread nD τ).loc main_arg3)
  h0 := m ((c : Thread nD τ).loc main_arg4)
  cw := m ((c : Thread nD τ).loc main_arg5)
  cb := m ((c : Thread nD τ).loc main_arg6)
  dtb := m ((c : Thread nD τ).loc main_arg7)
  al := m ((c : Thread nD τ).loc main_arg8)
  dsk := m ((c : Thread nD τ).loc main_arg9)
  gn := m ((c : Thread nD τ).loc main_arg10)

/-- Which block of each input a grid point takes. -/
theorem idx (t : Fin cfg0.N) : win0_0.index t = ![0, t.val, 0] ∧ win0_1.index t = ![0, t.val, 0] ∧ win0_2.index t = ![0, t.val, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![0, 0] := by
  revert t; decide +kernel

/-- The padded step sizes, of the call's argument. -/
theorem at_v0 : (V m c main_v0 : Vec I S8x2048x128 .f32) = pad S8x2048x128 ![0, 0, 0] ![0, 0, 120] ![0, 0, 0] (args m c).dtr (sitofp .f32 (constantI S_ 32 0#32) : FVec I S_ .f32) pads_S8x2048x8_S8x2048x128_000_000_01200 h_S_ := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The padded rows of the call before. -/
theorem at_v1 : (V m c main_v1 : Vec I S8x8x1024 .f32) = pad S8x8x1024 ![0, 5, 0] ![0, 0, 0] ![0, 0, 0] (args m c).buf (sitofp .f32 (constantI S_ 32 0#32) : FVec I S_ .f32) pads_S8x3x1024_S8x8x1024_000_500_000 h_S_ := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The starting states, flattened. -/
theorem at_v2 : (V m c main_v2 : Vec I S8x512x128 .f32) = shapeCast S8x512x128 (args m c).h0 shapeCasts_S8x8x64x128_S8x512x128 := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The convolution's weights. -/
theorem at_v3 : (V m c main_v3 : Vec I S4x1024 .f32) = shapeCast S4x1024 (args m c).cw shapeCasts_S1x4x1024_S4x1024 := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The convolution's bias. -/
theorem at_v5 : (V m c main_v5 : Vec I S1x1024 .f32) = shapeCast S1x1024 (shapeCast S1024 (args m c).cb shapeCasts_S1x1024_S1024) shapeCasts_S1024_S1x1024 := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The padded step bias. -/
theorem at_v8 : (V m c main_v8 : Vec I S1x128 .f32) = shapeCast S1x128 (pad S128 ![0] ![120] ![0] (shapeCast S8 (args m c).dtb shapeCasts_S1x8_S8) (sitofp .f32 (constantI S_ 32 0#32) : FVec I S_ .f32) pads_S8_S128_01200 h_S_) shapeCasts_S128_S1x128 := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The padded log decay. -/
theorem at_v11 : (V m c main_v11 : Vec I S1x128 .f32) = shapeCast S1x128 (pad S128 ![0] ![120] ![0] (shapeCast S8 (args m c).al shapeCasts_S1x8_S8) (sitofp .f32 (constantI S_ 32 0#32) : FVec I S_ .f32) pads_S8_S128_01200 h_S_) shapeCasts_S128_S1x128 := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The skip weights, repeated over a head's lanes. -/
theorem at_v15 : (V m c main_v15 : Vec I S1x512 .f32) = shapeCast S1x512 (shapeCast S512 (broadcastInDim S8x64 ![0] bcast_S8_S8x64_0 (shapeCast S8 (args m c).dsk shapeCasts_S1x8_S8)) shapeCasts_S8x64_S512) shapeCasts_S512_S1x512 := by
  simp only [V, List.flatten_cons, List.flatten_nil, hostOps0, hostOps0_1, hostOps0_2, hostOps0_3, hostOps0_4, hostOps0_5, hostOps0_6,
    hostOps0_7, hostOps0_8, List.cons_append, List.nil_append]
  after_results
  rfl
/-- The norm's weights. -/
theorem at_v17 : (V m c main_v17 : Vec I S1x512 .f32) = shapeCast S1x512 (shapeCast S512 (args m c).gn shapeCasts_S1x512_S512) shapeCasts_S512_S1x512 := by
  simp only [V, List.flatten_cons, List.flatten_nil, hostOps0, hostOps0_1, hostOps0_2, hostOps0_3, hostOps0_4, hostOps0_5, hostOps0_6,
    hostOps0_7, hostOps0_8, List.cons_append, List.nil_append]
  after_results
  rfl

/-- A point's block of input rows. -/
theorem blk0 (t : Fin cfg0.N) (b : Fin 8) (r : Fin 128) (k : Fin 1024) :
    (iblk m c 0 t : Vec I S8x128x1024 .f32) (ix3 b r k) = (args m c).xbc (ix3 b ⟨128 * t.val + r.val, by have := t.isLt; have : cfg0.N = 16 := N_0; omega⟩ k) := by
  show _ = m _ _
  blk_ext! [iblk, V, idx t]

/-- A point's block of step sizes, at a head's lane. -/
theorem blk1 (t : Fin cfg0.N) (b : Fin 8) (r : Fin 128) (h : Fin 8) :
    (iblk m c 1 t : Vec I S8x128x128 .f32) (ix3 b r (hl h)) = (args m c).dtr (ix3 b ⟨128 * t.val + r.val, by have := t.isLt; have : cfg0.N = 16 := N_0; omega⟩ h) := by
  have e : (V m c main_v0 : Vec I S8x2048x128 .f32) (ix3 b ⟨128 * t.val + r.val, by have := t.isLt; have : cfg0.N = 16 := N_0; omega⟩ (hl h)) = (args m c).dtr (ix3 b ⟨128 * t.val + r.val, by have := t.isLt; have : cfg0.N = 16 := N_0; omega⟩ h) := by
    rw [at_v0]
    pointwise [hl]
    rw [dif_pos (by have := t.isLt; have : cfg0.N = 16 := N_0; omega)]
  refine Eq.trans (congrArg (V m c main_v0 : Vec I S8x2048x128 .f32) ?_) e
  blk_ext [idx t]

/-- A point's block of gates. -/
theorem blk2 (t : Fin cfg0.N) (b : Fin 8) (r : Fin 128) (k : Fin 512) :
    (iblk m c 2 t : Vec I S8x128x512 .f32) (ix3 b r k) = (args m c).z (ix3 b ⟨128 * t.val + r.val, by have := t.isLt; have : cfg0.N = 16 := N_0; omega⟩ k) := by
  show _ = m _ _
  blk_ext! [iblk, V, idx t]

/-- The rows of the call before, at the padded rows' end. -/
theorem blk3 (t : Fin cfg0.N) (b : Fin 8) (j : Fin 3) (k : Fin 1024) :
    (iblk m c 3 t : Vec I S8x8x1024 .f32) (ix3 b ⟨5 + j.val, by omega⟩ k) = (args m c).buf (ix3 b j k) := by
  have e : (V m c main_v1 : Vec I S8x8x1024 .f32) (ix3 b ⟨5 + j.val, by omega⟩ k) = (args m c).buf (ix3 b j k) := by
    rw [at_v1]
    pointwise [hl]
  refine Eq.trans (congrArg (V m c main_v1 : Vec I S8x8x1024 .f32) ?_) e
  blk_ext [idx t]

/-- The starting states. -/
theorem blk4 (t : Fin cfg0.N) (b : Fin 8) (u : Fin 512) (n : Fin 128) :
    (iblk m c 4 t : Vec I S8x512x128 .f32) (ix3 b u n) = (args m c).h0 (ix4 b ⟨u.val / 64, by omega⟩ ⟨u.val % 64, by omega⟩ n) := by
  have e : (V m c main_v2 : Vec I S8x512x128 .f32) (ix3 b u n) = (args m c).h0 (ix4 b ⟨u.val / 64, by omega⟩ ⟨u.val % 64, by omega⟩ n) := by
    rw [at_v2]
    pointwise [hl]
  refine Eq.trans (congrArg (V m c main_v2 : Vec I S8x512x128 .f32) ?_) e
  blk_ext [idx t]

/-- The convolution's weights, as the point reads them. -/
theorem blk5 (t : Fin cfg0.N) (j : Fin 4) (k : Fin 1024) :
    (iblk m c 5 t : Vec I S4x1024 .f32) (ix2 j k) = (args m c).cw (ix3 0 j k) := by
  have e : (V m c main_v3 : Vec I S4x1024 .f32) (ix2 j k) = (args m c).cw (ix3 0 j k) := by
    rw [at_v3]
    pointwise [hl]
  refine Eq.trans (congrArg (V m c main_v3 : Vec I S4x1024 .f32) ?_) e
  blk_ext [idx t]

/-- The convolution's bias, as the point reads it. -/
theorem blk6 (t : Fin cfg0.N) (k : Fin 1024) :
    (iblk m c 6 t : Vec I S1x1024 .f32) (ix2 0 k) = (args m c).cb (ix2 0 k) := by
  have e : (V m c main_v5 : Vec I S1x1024 .f32) (ix2 0 k) = (args m c).cb (ix2 0 k) := by
    rw [at_v5]
    pointwise [hl]
  refine Eq.trans (congrArg (V m c main_v5 : Vec I S1x1024 .f32) ?_) e
  blk_ext [idx t]

/-- The step bias at a head's lane. -/
theorem blk7 (t : Fin cfg0.N) (h : Fin 8) :
    (iblk m c 7 t : Vec I S1x128 .f32) (ix2 0 (hl h)) = (args m c).dtb (ix2 0 h) := by
  have e : (V m c main_v8 : Vec I S1x128 .f32) (ix2 0 (hl h)) = (args m c).dtb (ix2 0 h) := by
    rw [at_v8]
    pointwise [hl]
  refine Eq.trans (congrArg (V m c main_v8 : Vec I S1x128 .f32) ?_) e
  blk_ext [idx t]

/-- The log decay at a head's lane. -/
theorem blk8 (t : Fin cfg0.N) (h : Fin 8) :
    (iblk m c 8 t : Vec I S1x128 .f32) (ix2 0 (hl h)) = (args m c).al (ix2 0 h) := by
  have e : (V m c main_v11 : Vec I S1x128 .f32) (ix2 0 (hl h)) = (args m c).al (ix2 0 h) := by
    rw [at_v11]
    pointwise [hl]
  refine Eq.trans (congrArg (V m c main_v11 : Vec I S1x128 .f32) ?_) e
  blk_ext [idx t]

/-- The skip weight at a head's lane. -/
theorem blk9 (t : Fin cfg0.N) (h : Fin 8) (p : Fin 64) :
    (iblk m c 9 t : Vec I S1x512 .f32) (ix2 0 ⟨64 * h.val + p.val, by omega⟩) = (args m c).dsk (ix2 0 h) := by
  have e : (V m c main_v15 : Vec I S1x512 .f32) (ix2 0 ⟨64 * h.val + p.val, by omega⟩) = (args m c).dsk (ix2 0 h) := by
    rw [at_v15]
    pointwise [hl]
  refine Eq.trans (congrArg (V m c main_v15 : Vec I S1x512 .f32) ?_) e
  blk_ext [idx t]

/-- The norm's weights, as the point reads them. -/
theorem blk10 (t : Fin cfg0.N) (k : Fin 512) :
    (iblk m c 10 t : Vec I S1x512 .f32) (ix2 0 k) = (args m c).gn (ix2 0 k) := by
  have e : (V m c main_v17 : Vec I S1x512 .f32) (ix2 0 k) = (args m c).gn (ix2 0 k) := by
    rw [at_v17]
    pointwise [hl]
  refine Eq.trans (congrArg (V m c main_v17 : Vec I S1x512 .f32) ?_) e
  blk_ext [idx t]

end Cert.KBlocks

end
-- ==== Proof.KRuns.lean ====
module

public import proofs.«01_k».proof.Proof.KPieces

/-! The stores of each kind of grid point are the ones written down sequence by sequence. -/

@[expose] public section

set_option maxRecDepth 16384

noncomputable section

namespace Cert.KChunk

open Idealize.ShloMosaic Idealize.ShloMosaic.TcCoe Idealize.SL.Sem
open Cert.KernelIdeal Cert.KernelIdeal.Gen

variable {F : FTy → Type} [FloatOps F]

variable (A : Ins F) (c : Dev nD) (i : grid0.Coords) (arg13 : Memref sig .tc .vmem S8x128x512 .bf16) (h13 : arg13.IsWhole)
    (arg14 : Memref sig .tc .vmem S8x3x1024 .f32) (h14 : arg14.IsWhole) (arg15 : Memref sig .tc .vmem S8x512x128 .f32) (h15 : arg15.IsWhole)
    (xs0 : Vec F S8x136x1024 .f32) (xs1 : Vec F S8x512x128 .f32)

/-- The output stores of the first point. -/
theorem runA_y (hc0 : cond0_0 i) (hc1 : ¬ cond0_1 i) :
    (kernelRun0_A c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10).1 = ysA A := by
  sl_kernel_rfl

/-- The padded-chunk stores of the first point. -/
theorem runA_x (hc0 : cond0_0 i) (hc1 : ¬ cond0_1 i) :
    (kernelRun0_A c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10).2.2.2.1 = hs0End A (initX A) := by
  sl_kernel_rfl

/-- The state stores of the first point. -/
theorem runA_h (hc0 : cond0_0 i) (hc1 : ¬ cond0_1 i) :
    (kernelRun0_A c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10).2.2.2.2.1 = hs1 A 32 le_rfl := by
  sl_kernel_rfl

/-- The output stores of a middle point. -/
theorem runB_y (hc0 : ¬ cond0_0 i) (hc1 : ¬ cond0_1 i) :
    (kernelRun0_B c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).1 = ysB A xs0 xs1 := by
  sl_kernel_rfl

/-- The padded-chunk stores of a middle point. -/
theorem runB_x (hc0 : ¬ cond0_0 i) (hc1 : ¬ cond0_1 i) :
    (kernelRun0_B c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).2.2.2.1 = hs0End A [] := by
  sl_kernel_rfl

/-- The state stores of a middle point. -/
theorem runB_h (hc0 : ¬ cond0_0 i) (hc1 : ¬ cond0_1 i) :
    (kernelRun0_B c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).2.2.2.2.1 = hsB A xs0 xs1 := by
  sl_kernel_rfl

/-- The output stores of the last point. -/
theorem runC_y (hc0 : ¬ cond0_0 i) (hc1 : cond0_1 i) :
    (kernelRun0_C c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).1 = ysB A xs0 xs1 := by
  sl_kernel_rfl

/-- The padded-chunk stores of the last point. -/
theorem runC_x (hc0 : ¬ cond0_0 i) (hc1 : cond0_1 i) :
    (kernelRun0_C c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).2.2.2.1 = hs0End A [] := by
  sl_kernel_rfl

/-- The state stores of the last point. -/
theorem runC_h (hc0 : ¬ cond0_0 i) (hc1 : cond0_1 i) :
    (kernelRun0_C c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).2.2.2.2.1 = hsB A xs0 xs1 := by
  sl_kernel_rfl

/-- The last-rows stores of the last point. -/
theorem runC_conv (hc0 : ¬ cond0_0 i) (hc1 : cond0_1 i) :
    (kernelRun0_C c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).2.1 = convC A := by
  sl_kernel_rfl

/-- The final-state stores of the last point. -/
theorem runC_hout (hc0 : ¬ cond0_0 i) (hc1 : cond0_1 i) :
    (kernelRun0_C c i A.a2 A.w2 A.a3 A.w3 A.a4 A.w4 A.a5 A.w5 A.a6 A.w6 A.a7 A.w7 A.a8 A.w8 A.a9 A.w9 A.a10 A.w10 A.a11 A.w11
      A.a12 A.w12 arg13 h13 arg14 h14 arg15 h15 A.a16 A.w16 A.a17 A.w17 hc0 hc1 A.x0 A.x1 A.x2 A.x3 A.x4 A.x5 A.x6 A.x7 A.x8
      A.x9 A.x10 xs0 xs1).2.2.1 = houtC A xs0 xs1 := by
  sl_kernel_rfl

end Cert.KChunk

end
-- ==== Proof.KOuts.lean ====
module

public import proofs.«01_k».proof.Proof.KBlocks
public import proofs.«01_k».proof.Proof.KRuns

/-! What a grid point leaves, of the blocks it reads. -/

@[expose] public section

set_option maxRecDepth 16384

noncomputable section

namespace Cert.KOuts

open Idealize.ShloMosaic Idealize.ShloMosaic.TcCoe Idealize.SL Idealize.SL.Sem
open Cert.KernelIdeal Cert.KernelIdeal.Gen Cert.Spec
open Cert.KVal Cert.KChunk Cert.KBlocks

section runs
variable (A : Ins I) (c : Dev nD) (i : grid0.Coords) (arg13 : Memref sig .tc .vmem S8x128x512 .bf16) (h13 : arg13.IsWhole)
    (arg14 : Memref sig .tc .vmem S8x3x1024 .f32) (h14 : arg14.IsWhole) (arg15 : Memref sig .tc .vmem S8x512x128 .f32) (h15 : arg15.IsWhole)
    (xs0 : Vec I S8x136x1024 .f32) (xs1 : Vec I S8x512x128 .f32)

/-- The output rows of the first point, over what lay there. -/
theorem rA_y (hc0 : cond0_0 i) (hc1 : ¬ cond0_1 i) :
    out0_A_11 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10
      = over (VO0_11.read (Elt I) VO0_11.junk) (ysA A) := by
  unfold out0_A_11
  rw [runA_y]
  exact read_writes_over _ _ _

/-- The carried rows of the first point, over what lay there. -/
theorem rA_x (hc0 : cond0_0 i) (hc1 : ¬ cond0_1 i) :
    sout0_A_0 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10
      = over (VS0_0.read (Elt I) VS0_0.junk) (hs0End A (initX A)) := by
  unfold sout0_A_0
  rw [runA_x]
  exact read_writes_over _ _ _

/-- The carried states of the first point, over what lay there. -/
theorem rA_h (hc0 : cond0_0 i) (hc1 : ¬ cond0_1 i) :
    sout0_A_1 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10
      = over (VS0_1.read (Elt I) VS0_1.junk) (hs1 A 32 le_rfl) := by
  unfold sout0_A_1
  rw [runA_h]
  exact read_writes_over _ _ _

/-- The output rows of the inner point, over what lay there. -/
theorem rB_y (hc0 : ¬ cond0_0 i) (hc1 : ¬ cond0_1 i) :
    out0_B_11 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10 xs0 xs1
      = over (VO0_11.read (Elt I) VO0_11.junk) (ysB A xs0 xs1) := by
  unfold out0_B_11
  rw [runB_y]
  exact read_writes_over _ _ _

/-- The carried rows of the inner point, over what lay there. -/
theorem rB_x (hc0 : ¬ cond0_0 i) (hc1 : ¬ cond0_1 i) :
    sout0_B_0 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10 xs0 xs1
      = over (VS0_0.read (Elt I) VS0_0.junk) (hs0End A []) := by
  unfold sout0_B_0
  rw [runB_x]
  exact read_writes_over _ _ _

/-- The carried states of the inner point, over what lay there. -/
theorem rB_h (hc0 : ¬ cond0_0 i) (hc1 : ¬ cond0_1 i) :
    sout0_B_1 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10 xs0 xs1
      = over (VS0_1.read (Elt I) VS0_1.junk) (hsB A xs0 xs1) := by
  unfold sout0_B_1
  rw [runB_h]
  exact read_writes_over _ _ _

/-- The output rows of the last point, over what lay there. -/
theorem rC_y (hc0 : ¬ cond0_0 i) (hc1 : cond0_1 i) :
    out0_C_11 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10 xs0 xs1
      = over (VO0_11.read (Elt I) VO0_11.junk) (ysB A xs0 xs1) := by
  unfold out0_C_11
  rw [runC_y]
  exact read_writes_over _ _ _

/-- The last rows of the last point, over what lay there. -/
theorem rC_conv (hc0 : ¬ cond0_0 i) (hc1 : cond0_1 i) :
    out0_C_12 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10 xs0 xs1
      = over (VO0_12.read (Elt I) VO0_12.junk) (convC A) := by
  unfold out0_C_12
  rw [runC_conv]
  exact read_writes_over _ _ _

/-- The final states of the last point, over what lay there. -/
theorem rC_hout (hc0 : ¬ cond0_0 i) (hc1 : cond0_1 i) :
    out0_C_13 c i A.a2 A.w2 A.a3 A.w3 A.a4 A.w4 A.a5 A.w5 A.a6 A.w6 A.a7 A.w7 A.a8 A.w8 A.a9 A.w9 A.a10 A.w10 A.a11 A.w11 A.a12 A.w12
      arg13 h13 arg14 h14 arg15 h15 A.a16 A.w16 A.a17 A.w17 hc0 hc1 A.x0 A.x1 A.x2 A.x3 A.x4 A.x5 A.x6 A.x7 A.x8 A.x9 A.x10 xs0 xs1
      = over (VO0_13.read (Elt I) VO0_13.junk) (houtC A xs0 xs1) := by
  unfold out0_C_13
  rw [runC_hout]
  exact read_writes_over _ _ _

end runs

variable (m : (ℓ : Loc nD τ sig) → Buf (Elt I) ℓ) (c : Dev nD)

/-- The buffers and blocks of a grid point. -/
def ins (t : Fin cfg0.N) : Ins I where
  a2 := ms0_0 t
  w2 := hs0_0 t
  a3 := ms0_1 t
  w3 := hs0_1 t
  a4 := ms0_2 t
  w4 := hs0_2 t
  a5 := ms0_3 t
  w5 := hs0_3 t
  a6 := ms0_4 t
  w6 := hs0_4 t
  a7 := ms0_5 t
  w7 := hs0_5 t
  a8 := ms0_6 t
  w8 := hs0_6 t
  a9 := ms0_7 t
  w9 := hs0_7 t
  a10 := ms0_8 t
  w10 := hs0_8 t
  a11 := ms0_9 t
  w11 := hs0_9 t
  a12 := ms0_10 t
  w12 := hs0_10 t
  a16 := scM0_0
  w16 := Memref.isWhole_whole _
  a17 := scM0_1
  w17 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t

/-- A pair's first part. -/
theorem comp1 {α β : Type} {o : α × β} {x : α} {y : β} (h : o = (x, y)) : o.1 = x := by subst h; rfl
/-- A pair's second part. -/
theorem comp2 {α β : Type} {o : α × β} {x : α} {y : β} (h : o = (x, y)) : o.2 = y := by subst h; rfl

section cases
variable (t : Fin cfg0.N)

/-- The carried rows before a point. -/
abbrev X0 : Vec I S8x136x1024 .f32 := (outsAt0 m c (t.val - 1) (Nat.lt_of_le_of_lt (Nat.sub_le _ _) t.isLt)).2.2.2.1
/-- The carried states before a point. -/
abbrev X1 : Vec I S8x512x128 .f32 := (outsAt0 m c (t.val - 1) (Nat.lt_of_le_of_lt (Nat.sub_le _ _) t.isLt)).2.2.2.2

/-- The output rows of the first point, at its blocks. -/
theorem outA_y (h0 : t.val % 16 = 0) (h1 : ¬t.val % 16 = 15) :
    (outsAt0 m c t.val t.isLt).1 = over (VO0_11.read (Elt I) VO0_11.junk) (ysA (ins m c t)) := by
  refine (comp1 (outsAt0_A m c t h0 h1)).trans (Eq.trans ?_ (rA_y (ins m c t) c (grid0.coords t) (ms0_11 t) (hs0_11 t) (ms0_12 t) (hs0_12 t) (ms0_13 t) (hs0_13 t) ((hcond0_0 t).mpr h0) (fun h => h1 ((hcond0_1 t).mp h))))
  with_reducible congr 1
  all_goals rfl

/-- The carried rows of the first point, at its blocks. -/
theorem outA_x (h0 : t.val % 16 = 0) (h1 : ¬t.val % 16 = 15) :
    (outsAt0 m c t.val t.isLt).2.2.2.1 = over (VS0_0.read (Elt I) VS0_0.junk) (hs0End (ins m c t) (initX (ins m c t))) := by
  refine (comp1 (comp2 (comp2 (comp2 (outsAt0_A m c t h0 h1))))).trans (Eq.trans ?_ (rA_x (ins m c t) c (grid0.coords t) (ms0_11 t) (hs0_11 t) (ms0_12 t) (hs0_12 t) (ms0_13 t) (hs0_13 t) ((hcond0_0 t).mpr h0) (fun h => h1 ((hcond0_1 t).mp h))))
  with_reducible congr 1
  all_goals rfl

/-- The carried states of the first point, at its blocks. -/
theorem outA_h (h0 : t.val % 16 = 0) (h1 : ¬t.val % 16 = 15) :
    (outsAt0 m c t.val t.isLt).2.2.2.2 = over (VS0_1.read (Elt I) VS0_1.junk) (hs1 (ins m c t) 32 le_rfl) := by
  refine (comp2 (comp2 (comp2 (comp2 (outsAt0_A m c t h0 h1))))).trans (Eq.trans ?_ (rA_h (ins m c t) c (grid0.coords t) (ms0_11 t) (hs0_11 t) (ms0_12 t) (hs0_12 t) (ms0_13 t) (hs0_13 t) ((hcond0_0 t).mpr h0) (fun h => h1 ((hcond0_1 t).mp h))))
  with_reducible congr 1
  all_goals rfl

/-- The output rows of the inner point, at its blocks. -/
theorem outB_y (h0 : ¬t.val % 16 = 0) (h1 : ¬t.val % 16 = 15) :
    (outsAt0 m c t.val t.isLt).1 = over (VO0_11.read (Elt I) VO0_11.junk) (ysB (ins m c t) (X0 m c t) (X1 m c t)) := by
  refine (comp1 (outsAt0_B m c t h0 h1)).trans (Eq.trans ?_ (rB_y (ins m c t) c (grid0.coords t) (ms0_11 t) (hs0_11 t) (ms0_12 t) (hs0_12 t) (ms0_13 t) (hs0_13 t) (X0 m c t) (X1 m c t) (fun h => h0 ((hcond0_0 t).mp h)) (fun h => h1 ((hcond0_1 t).mp h))))
  with_reducible congr 1
  all_goals rfl

/-- The carried rows of the inner point, at its blocks. -/
theorem outB_x (h0 : ¬t.val % 16 = 0) (h1 : ¬t.val % 16 = 15) :
    (outsAt0 m c t.val t.isLt).2.2.2.1 = over (VS0_0.read (Elt I) VS0_0.junk) (hs0End (ins m c t) []) := by
  refine (comp1 (comp2 (comp2 (comp2 (outsAt0_B m c t h0 h1))))).trans (Eq.trans ?_ (rB_x (ins m c t) c (grid0.coords t) (ms0_11 t) (hs0_11 t) (ms0_12 t) (hs0_12 t) (ms0_13 t) (hs0_13 t) (X0 m c t) (X1 m c t) (fun h => h0 ((hcond0_0 t).mp h)) (fun h => h1 ((hcond0_1 t).mp h))))
  with_reducible congr 1
  all_goals rfl

/-- The carried states of the inner point, at its blocks. -/
theorem outB_h (h0 : ¬t.val % 16 = 0) (h1 : ¬t.val % 16 = 15) :
    (outsAt0 m c t.val t.isLt).2.2.2.2 = over (VS0_1.read (Elt I) VS0_1.junk) (hsB (ins m c t) (X0 m c t) (X1 m c t)) := by
  refine (comp2 (comp2 (comp2 (comp2 (outsAt0_B m c t h0 h1))))).trans (Eq.trans ?_ (rB_h (ins m c t) c (grid0.coords t) (ms0_11 t) (hs0_11 t) (ms0_12 t) (hs0_12 t) (ms0_13 t) (hs0_13 t) (X0 m c t) (X1 m c t) (fun h => h0 ((hcond0_0 t).mp h)) (fun h => h1 ((hcond0_1 t).mp h))))
  with_reducible congr 1
  all_goals rfl

/-- The output rows of the last point, at its blocks. -/
theorem outC_y (h0 : ¬t.val % 16 = 0) (h1 : t.val % 16 = 15) :
    (outsAt0 m c t.val t.isLt).1 = over (VO0_11.read (Elt I) VO0_11.junk) (ysB (ins m c t) (X0 m c t) (X1 m c t)) := by
  refine (comp1 (outsAt0_C m c t h0 h1)).trans (Eq.trans ?_ (rC_y (ins m c t) c (grid0.coords t) (ms0_11 t) (hs0_11 t) (ms0_12 t) (hs0_12 t) (ms0_13 t) (hs0_13 t) (X0 m c t) (X1 m c t) (fun h => h0 ((hcond0_0 t).mp h)) ((hcond0_1 t).mpr h1)))
  with_reducible congr 1
  all_goals rfl

/-- The last rows of the last point, at its blocks. -/
theorem outC_conv (h0 : ¬t.val % 16 = 0) (h1 : t.val % 16 = 15) :
    (outsAt0 m c t.val t.isLt).2.1 = over (VO0_12.read (Elt I) VO0_12.junk) (convC (ins m c t)) := by
  refine (comp1 (comp2 (outsAt0_C m c t h0 h1))).trans (Eq.trans ?_ (rC_conv (ins m c t) c (grid0.coords t) (ms0_11 t) (hs0_11 t) (ms0_12 t) (hs0_12 t) (ms0_13 t) (hs0_13 t) (X0 m c t) (X1 m c t) (fun h => h0 ((hcond0_0 t).mp h)) ((hcond0_1 t).mpr h1)))
  with_reducible congr 1
  all_goals rfl

/-- The final states of the last point, at its blocks. -/
theorem outC_hout (h0 : ¬t.val % 16 = 0) (h1 : t.val % 16 = 15) :
    (outsAt0 m c t.val t.isLt).2.2.1 = over (VO0_13.read (Elt I) VO0_13.junk) (houtC (ins m c t) (X0 m c t) (X1 m c t)) := by
  refine (comp1 (comp2 (comp2 (outsAt0_C m c t h0 h1)))).trans (Eq.trans ?_ (rC_hout (ins m c t) c (grid0.coords t) (ms0_11 t) (hs0_11 t) (ms0_12 t) (hs0_12 t) (ms0_13 t) (hs0_13 t) (X0 m c t) (X1 m c t) (fun h => h0 ((hcond0_0 t).mp h)) ((hcond0_1 t).mpr h1)))
  with_reducible congr 1
  all_goals rfl

end cases

end Cert.KOuts

end
-- ==== Proof.KMain.lean ====
module

public import proofs.«01_k».proof.Proof.KOuts

/-! What the grid's points leave, chunk after chunk. -/

@[expose] public section

set_option maxRecDepth 16384

noncomputable section

namespace Cert.KMain

open Idealize.ShloMosaic Idealize.ShloMosaic.TcCoe Idealize.SL Idealize.SL.Sem
open Cert.KernelIdeal Cert.KernelIdeal.Gen Cert.Spec
open Cert.KVal Cert.KChunk Cert.KBlocks Cert.KOuts

variable (m : (ℓ : Loc nD τ sig) → Buf (Elt I) ℓ) (c : Dev nD)

/-- The grid has sixteen points. -/
theorem lt16 (t : Fin cfg0.N) : t.val < 16 := lt_of_lt_of_eq t.isLt N_0

/-- Block 0 of a point, of the call's arguments. -/
theorem at0 (t : Fin cfg0.N) (b : Fin 8) (r : Fin 128) (k : Fin 1024) : (ins m c t).x0 (ix3 b r k) = (args m c).xbc (ix3 b ⟨128 * t.val + r.val, by have := lt16 t; omega⟩ k) := blk0 m c t b r k
/-- Block 1 of a point, of the call's arguments. -/
theorem at1 (t : Fin cfg0.N) (b : Fin 8) (r : Fin 128) (h : Fin 8) : (ins m c t).x1 (ix3 b r (hl h)) = (args m c).dtr (ix3 b ⟨128 * t.val + r.val, by have := lt16 t; omega⟩ h) := blk1 m c t b r h
/-- Block 2 of a point, of the call's arguments. -/
theorem at2 (t : Fin cfg0.N) (b : Fin 8) (r : Fin 128) (k : Fin 512) : (ins m c t).x2 (ix3 b r k) = (args m c).z (ix3 b ⟨128 * t.val + r.val, by have := lt16 t; omega⟩ k) := blk2 m c t b r k
/-- Block 5 of a point, of the call's arguments. -/
theorem at5 (t : Fin cfg0.N) (j : Fin 4) (k : Fin 1024) : (ins m c t).x5 (ix2 j k) = (args m c).cw (ix3 0 j k) := blk5 m c t j k
/-- Block 6 of a point, of the call's arguments. -/
theorem at6 (t : Fin cfg0.N) (k : Fin 1024) : (ins m c t).x6 (ix2 0 k) = (args m c).cb (ix2 0 k) := blk6 m c t k
/-- Block 7 of a point, of the call's arguments. -/
theorem at7 (t : Fin cfg0.N) (h : Fin 8) : (ins m c t).x7 (ix2 0 (hl h)) = (args m c).dtb (ix2 0 h) := blk7 m c t h
/-- Block 8 of a point, of the call's arguments. -/
theorem at8 (t : Fin cfg0.N) (h : Fin 8) : (ins m c t).x8 (ix2 0 (hl h)) = (args m c).al (ix2 0 h) := blk8 m c t h
/-- Block 10 of a point, of the call's arguments. -/
theorem at10 (t : Fin cfg0.N) (k : Fin 512) : (ins m c t).x10 (ix2 0 k) = (args m c).gn (ix2 0 k) := blk10 m c t k

/-- The kernel's chunk is the recurrence's, where the carried rows and states are. -/
theorem qK_eq (t : Fin cfg0.N) (car : Fin 8 → Fin 8 → Fin 1024 → EReal) (H : Vec I S8x512x128 .f32) (b : Fin 8)
    (hcar : ∀ (j : Fin 3) k, car b ⟨5 + j.val, by omega⟩ k = RVal.full (args m c) b ⟨128 * t.val + j.val, by have := lt16 t; omega⟩ k)
    (Hs : Fin 8 → Fin 64 → Fin 128 → EReal) (hH : ∀ h p n, H (ix3 b ⟨64 * (h : Fin 8).val + (p : Fin 64).val, by omega⟩ n) = Hs h p n) :
    qK (ins m c t) car H b = RVal.qR (args m c) b ⟨t.val, lt16 t⟩ Hs := by
  have hpad : ∀ (v : ℕ) (hv : v < 131) k, padRow (ins m c t) car b ⟨5 + v, by omega⟩ k
      = RVal.full (args m c) b ⟨128 * t.val + v, by have := lt16 t; omega⟩ k := by
    intro v hv k
    unfold padRow
    by_cases h : v < 3
    · rw [dif_pos (by simp; omega)]
      exact hcar ⟨v, h⟩ k
    · rw [dif_neg (by simp; omega)]
      refine (blk0 m c t b ⟨5 + v - 8, by omega⟩ k).trans ?_
      unfold RVal.full
      rw [dif_neg (by simp; omega)]
      congr 2
      ext; simp; omega
  have hrow : ∀ (v : ℕ) (hv : v < 131) (w : ℕ) (hw : w < 136) (u : ℕ) (hu : u < 2051) k, w = 5 + v → u = 128 * t.val + v →
      padRow (ins m c t) car b ⟨w, hw⟩ k = RVal.full (args m c) b ⟨u, hu⟩ k := by
    rintro v hv w hw u hu k rfl rfl
    exact hpad v hv k
  have hcv : ∀ r k, convRow (ins m c t) (padRow (ins m c t) car b) r k
      = RVal.conv (args m c) b ⟨128 * t.val + r.val, by have := lt16 t; omega⟩ k := by
    intro r k
    unfold convRow RVal.conv
    rw [hrow r.val (by omega) (5 + r.val) (by omega) (128 * t.val + r.val) (by have := lt16 t; omega) k rfl rfl,
      hrow (r.val + 1) (by omega) (6 + r.val) (by omega) (128 * t.val + r.val + 1) (by have := lt16 t; omega) k (by omega) (by omega),
      hrow (r.val + 2) (by omega) (7 + r.val) (by omega) (128 * t.val + r.val + 2) (by have := lt16 t; omega) k (by omega) (by omega),
      hrow (r.val + 3) (by omega) (8 + r.val) (by omega) (128 * t.val + r.val + 3) (by have := lt16 t; omega) k (by omega) (by omega)]
    rw [at6 m c t k, at5 m c t 0 k, at5 m c t 1 k, at5 m c t 2 k, at5 m c t 3 k]
  unfold qK RVal.qR
  with_reducible congr 1
  · funext r k
    exact hcv r k
  · funext r h
    rw [at1 m c t b r h, at7 m c t h]
  · funext h
    rw [at8 m c t h]
  · funext h p n
    exact hH h p n

/-- The outputs of sequence `b` at row `r` of chunk `n`. -/
def yOf (n : ℕ) (hn : n < 16) (b : Fin 8) (r : Fin 128) (k : Fin 512) : EReal :=
  out (fun k => gate (row (RVal.qR (args m c) b ⟨n, hn⟩ (RVal.Hs (args m c) b n)) (fun h => (args m c).dsk (ix2 0 h)) r k)
    ((args m c).z (ix3 b ⟨128 * n + r.val, by omega⟩ k))) (fun k => (args m c).gn (ix2 0 k)) k

/-- A point's outputs, of its chunk. -/
theorem yV_eq (t : Fin cfg0.N) (q : Chunk) (b : Fin 8) (hq : q = RVal.qR (args m c) b ⟨t.val, lt16 t⟩ (RVal.Hs (args m c) b t.val))
    (r : Fin 128) (k : Fin 512) :
    yV (ins m c t) q (fun h => (args m c).dsk (ix2 0 h)) b r k = yOf m c t.val (lt16 t) b r k := by
  subst hq
  unfold yV yOf
  simp only [at2, at10]

/-- What the grid's point `n` leaves. -/
structure Inv (n : ℕ) (hn : n < 16) : Prop where
  y : ∀ b r k, (outsAt0 m c n (hn.trans_eq N_0.symm)).1 (ix3 b r k) = yOf m c n hn b r k
  x : n < 15 → ∀ (b : Fin 8) (j : Fin 8) k, (outsAt0 m c n (hn.trans_eq N_0.symm)).2.2.2.1 (ix3 b ⟨j.val, by omega⟩ k)
    = (args m c).xbc (ix3 b ⟨128 * n + 120 + j.val, by omega⟩ k)
  h : n < 15 → ∀ (b : Fin 8) (u : Fin 512) k, (outsAt0 m c n (hn.trans_eq N_0.symm)).2.2.2.2 (ix3 b u k)
    = RVal.Hs (args m c) b (n + 1) ⟨u.val / 64, by omega⟩ ⟨u.val % 64, by omega⟩ k

/-- The rows a point carries over are its chunk's last. -/
theorem tail_eq (t : Fin cfg0.N) (L : List (View.Piece (Elt I) S8x136x1024 .f32)) (X : Vec I S8x136x1024 .f32) (b : Fin 8) (j : Fin 8) (k : Fin 1024) :
    over X (hs0End (ins m c t) L) (ix3 b ⟨j.val, by omega⟩ k)
      = (args m c).xbc (ix3 b ⟨128 * t.val + 120 + j.val, by have := lt16 t; omega⟩ k) := by
  rw [hs0End_apply]
  unfold padRow
  rw [dif_pos j.isLt]
  refine (blk0 m c t b ⟨120 + j.val, by omega⟩ k).trans ?_
  congr 2
  ext
  simp
  omega

/-- A chunk's state is the next one's. -/
theorem Hs_succ (b : Fin 8) (n : ℕ) (hn : n < 16) :
    RVal.Hs (args m c) b (n + 1) = Hn (RVal.qR (args m c) b ⟨n, hn⟩ (RVal.Hs (args m c) b n)) := by
  rw [RVal.Hs, dif_pos hn]

/-- The first point. -/
theorem inv_zero : Inv m c 0 (by omega) := by
  have hN : 0 < cfg0.N := by rw [show cfg0.N = 16 from N_0]; omega
  have hq : ∀ b, qK (ins m c ⟨0, hN⟩) (car0 (ins m c ⟨0, hN⟩)) (ins m c ⟨0, hN⟩).x4 b
      = RVal.qR (args m c) b ⟨0, by omega⟩ (RVal.Hs (args m c) b 0) := fun b =>
    qK_eq m c ⟨0, hN⟩ _ _ b (fun j k => (blk3 m c ⟨0, hN⟩ b j k).trans (by
      unfold RVal.full
      rw [dif_pos (by simp)]
      congr 2
      ext
      simp)) _ (fun h p n => (blk4 m c ⟨0, hN⟩ b ⟨64 * h.val + p.val, by omega⟩ n).trans (by
      rw [RVal.Hs]
      congr 2 <;> ext <;> simp <;> omega))
  constructor
  · intro b r k
    rw [show outsAt0 m c 0 _ = outsAt0 m c (⟨0, hN⟩ : Fin cfg0.N).val (⟨0, hN⟩ : Fin cfg0.N).isLt from rfl, outA_y m c ⟨0, hN⟩ (by simp) (by simp)]
    exact (ysA_apply _ _ (blk9 m c ⟨0, hN⟩) _ b r k).trans (yV_eq m c ⟨0, hN⟩ _ b (hq b) r k)
  · intro _ b j k
    rw [show outsAt0 m c 0 _ = outsAt0 m c (⟨0, hN⟩ : Fin cfg0.N).val (⟨0, hN⟩ : Fin cfg0.N).isLt from rfl, outA_x m c ⟨0, hN⟩ (by simp) (by simp)]
    exact tail_eq m c ⟨0, hN⟩ _ _ b j k
  · intro _ b u k
    rw [show outsAt0 m c 0 _ = outsAt0 m c (⟨0, hN⟩ : Fin cfg0.N).val (⟨0, hN⟩ : Fin cfg0.N).isLt from rfl, outA_h m c ⟨0, hN⟩ (by simp) (by simp)]
    refine (hs1_apply _ 32 le_rfl _ b u k).trans ?_
    rw [if_pos (by omega), hq b, Hs_succ m c b 0 (by omega)]

section step
variable (n : ℕ) (hn : n + 1 < 16) (ih : Inv m c n (by omega))
include ih

/-- The chunk of a later point. -/
theorem q_succ (hN : n + 1 < cfg0.N) (b : Fin 8) : qK (ins m c ⟨n + 1, hN⟩) (carOf (X0 m c ⟨n + 1, hN⟩)) (X1 m c ⟨n + 1, hN⟩) b
    = RVal.qR (args m c) b ⟨n + 1, hn⟩ (RVal.Hs (args m c) b (n + 1)) :=
  qK_eq m c ⟨n + 1, hN⟩ _ _ b (fun j k => (ih.x (by omega) b ⟨5 + j.val, by omega⟩ k).trans (by
      unfold RVal.full
      rw [dif_neg (by simp; omega)]
      congr 2
      ext
      simp
      omega)) _ (fun h p k => (ih.h (by omega) b ⟨64 * h.val + p.val, by omega⟩ k).trans (by
      congr 1 <;> ext <;> simp <;> omega))

/-- A later point. -/
theorem inv_succ : Inv m c (n + 1) hn := by
  have hN : n + 1 < cfg0.N := by rw [show cfg0.N = 16 from N_0]; omega
  have hq := q_succ m c n hn ih hN
  have h0 : ¬ (⟨n + 1, hN⟩ : Fin cfg0.N).val % 16 = 0 := by simp; omega
  have e : outsAt0 m c (n + 1) (hn.trans_eq N_0.symm) = outsAt0 m c (⟨n + 1, hN⟩ : Fin cfg0.N).val (⟨n + 1, hN⟩ : Fin cfg0.N).isLt := rfl
  have hy : ∀ X b r k, over X (ysB (ins m c ⟨n + 1, hN⟩) (X0 m c ⟨n + 1, hN⟩) (X1 m c ⟨n + 1, hN⟩)) (ix3 b r k) = yOf m c (n + 1) hn b r k :=
    fun X b r k => (ysB_apply _ _ (blk9 m c ⟨n + 1, hN⟩) _ _ X b r k).trans (yV_eq m c ⟨n + 1, hN⟩ _ b (hq b) r k)
  have hh : ∀ X b u k, over X (hsB (ins m c ⟨n + 1, hN⟩) (X0 m c ⟨n + 1, hN⟩) (X1 m c ⟨n + 1, hN⟩)) (ix3 b u k)
      = RVal.Hs (args m c) b (n + 1 + 1) ⟨u.val / 64, by omega⟩ ⟨u.val % 64, by omega⟩ k := fun X b u k => by
    rw [Hs_succ m c b (n + 1) hn, ← hq b]
    exact hsB_apply _ _ _ X b u k
  by_cases h1 : (⟨n + 1, hN⟩ : Fin cfg0.N).val % 16 = 15
  · exact ⟨fun b r k => by rw [e, outC_y m c _ h0 h1]; exact hy _ b r k,
      fun h b j k => absurd h (by simp at h1; omega),
      fun h b u k => absurd h (by simp at h1; omega)⟩
  · exact ⟨fun b r k => by rw [e, outB_y m c _ h0 h1]; exact hy _ b r k,
      fun _ b j k => by rw [e, outB_x m c _ h0 h1]; exact tail_eq m c ⟨n + 1, hN⟩ _ _ b j k,
      fun _ b u k => by rw [e, outB_h m c _ h0 h1]; exact hh _ b u k⟩

end step

/-- Every point. -/
theorem inv : ∀ (n : ℕ) (hn : n < 16), Inv m c n hn
  | 0, _ => inv_zero m c
  | n + 1, hn => inv_succ m c n hn (inv n (by omega))

/-- The last point's rows. -/
theorem last_conv (b : Fin 8) (u : Fin 3) (k : Fin 1024) :
    (outsAt0 m c 15 (by rw [show cfg0.N = 16 from N_0]; omega)).2.1 (ix3 b u k) = (args m c).xbc (ix3 b ⟨2045 + u.val, by omega⟩ k) := by
  have hN : 15 < cfg0.N := by rw [show cfg0.N = 16 from N_0]; omega
  rw [show outsAt0 m c 15 _ = outsAt0 m c (⟨15, hN⟩ : Fin cfg0.N).val (⟨15, hN⟩ : Fin cfg0.N).isLt from rfl, outC_conv m c ⟨15, hN⟩ (by simp) (by simp),
    convC_apply, at0]
  congr 2
  ext
  simp
  omega

/-- The last point's states. -/
theorem last_hout (b : Fin 8) (u : Fin 512) (k : Fin 128) :
    (outsAt0 m c 15 (by rw [show cfg0.N = 16 from N_0]; omega)).2.2.1 (ix3 b u k)
      = RVal.Hs (args m c) b 16 ⟨u.val / 64, by omega⟩ ⟨u.val % 64, by omega⟩ k := by
  have hN : 15 < cfg0.N := by rw [show cfg0.N = 16 from N_0]; omega
  rw [show outsAt0 m c 15 _ = outsAt0 m c (⟨15, hN⟩ : Fin cfg0.N).val (⟨15, hN⟩ : Fin cfg0.N).isLt from rfl, outC_hout m c ⟨15, hN⟩ (by simp) (by simp),
    houtC_apply, Hs_succ m c b 15 (by omega), q_succ m c 14 (by omega) (inv m c 14 (by omega)) hN b]

end Cert.KMain

end
-- ==== Proof.Ends.lean ====
module

public import proofs.«01_k».proof.Proof.KMain
public import proofs.«01_k».proof.Proof.RefRun
public import proofs.«01_k».proof.Proof.Gen.KernelIdeal.Value

/-! The kernel's results are the recurrence's. -/

@[expose] public section

set_option maxRecDepth 16384

noncomputable section

namespace Cert.Ends

open Idealize.ShloMosaic Idealize.ShloMosaic.TcCoe Idealize.SL Idealize.SL.Sem
open Cert.KernelIdeal Cert.KernelIdeal.Gen Cert.KernelIdeal.Value Cert.Spec
open Cert.KVal Cert.KBlocks Cert.KMain

/-- The recurrence's arguments, out of the reference's memory. -/
def argsR (m : (ℓ : Loc Cert.ReferenceIdeal.nD Cert.ReferenceIdeal.τ Cert.ReferenceIdeal.sig) → Buf (Elt I) ℓ) (c : Dev Cert.ReferenceIdeal.nD) :
    RVal.Args where
  xbc := m ((c.tc : Thread Cert.ReferenceIdeal.nD Cert.ReferenceIdeal.τ).loc Cert.ReferenceIdeal.main_arg0)
  dtr := m ((c.tc : Thread Cert.ReferenceIdeal.nD Cert.ReferenceIdeal.τ).loc Cert.ReferenceIdeal.main_arg1)
  z := m ((c.tc : Thread Cert.ReferenceIdeal.nD Cert.ReferenceIdeal.τ).loc Cert.ReferenceIdeal.main_arg2)
  buf := m ((c.tc : Thread Cert.ReferenceIdeal.nD Cert.ReferenceIdeal.τ).loc Cert.ReferenceIdeal.main_arg3)
  h0 := m ((c.tc : Thread Cert.ReferenceIdeal.nD Cert.ReferenceIdeal.τ).loc Cert.ReferenceIdeal.main_arg4)
  cw := m ((c.tc : Thread Cert.ReferenceIdeal.nD Cert.ReferenceIdeal.τ).loc Cert.ReferenceIdeal.main_arg5)
  cb := m ((c.tc : Thread Cert.ReferenceIdeal.nD Cert.ReferenceIdeal.τ).loc Cert.ReferenceIdeal.main_arg6)
  dtb := m ((c.tc : Thread Cert.ReferenceIdeal.nD Cert.ReferenceIdeal.τ).loc Cert.ReferenceIdeal.main_arg7)
  al := m ((c.tc : Thread Cert.ReferenceIdeal.nD Cert.ReferenceIdeal.τ).loc Cert.ReferenceIdeal.main_arg8)
  dsk := m ((c.tc : Thread Cert.ReferenceIdeal.nD Cert.ReferenceIdeal.τ).loc Cert.ReferenceIdeal.main_arg9)
  gn := m ((c.tc : Thread Cert.ReferenceIdeal.nD Cert.ReferenceIdeal.τ).loc Cert.ReferenceIdeal.main_arg10)

/-- The states the reference's loop runs through are the recurrence's. -/
theorem states_st (m : (ℓ : Loc Cert.ReferenceIdeal.nD Cert.ReferenceIdeal.τ Cert.ReferenceIdeal.sig) → Buf (Elt I) ℓ)
    (c : Dev Cert.ReferenceIdeal.nD) : ∀ k, Cert.RefRun.states m c k = RVal.st (argsR m c) k
  | 0 => rfl
  | k + 1 => congrArg (Cert.ReferenceIdeal.Step.step k) (states_st m c k)

variable (m : (ℓ : Loc nD τ sig) → Buf (Elt I) ℓ) (c : Dev nD)

/-- The outputs are the recurrence's. -/
theorem res_y : G11 m c = Cert.ReferenceIdeal.Step.R_main_v91 (RVal.st (args m c) 16) (args m c).z (args m c).gn := by
  funext i
  idx_vars i
  rename' i0 => b, i1 => t, i2 => k
  have hp : pt11Of (ix3 b t k) = t.val / 128 := by
    show 16 * (b.val / 8 - 0) + 1 * (t.val / 128 - 0) + 1 * (k.val / 512 - 0) = _
    omega
  have hN : t.val / 128 < cfg0.N := by rw [show cfg0.N = 16 from N_0]; omega
  have hl : loc11Of (ix3 b t k) = ix3 b ⟨t.val % 128, by omega⟩ k := by
    funext a
    match a with
    | ⟨0, _⟩ => exact Fin.ext (Nat.mod_eq_of_lt b.isLt)
    | ⟨1, _⟩ => rfl
    | ⟨2, _⟩ => exact Fin.ext (Nat.mod_eq_of_lt k.isLt)
  have e : G11 m c (ix3 b t k) = (outsAt0 m c (t.val / 128) hN).1 (ix3 b ⟨t.val % 128, by omega⟩ k) := by
    unfold G11
    rw [dif_pos (hp.trans_lt hN), hl, outsAt0_sweep m c _ hN]
    exact congrArg (fun o => o.1 (ix3 b ⟨t.val % 128, by omega⟩ k)) (fold0_congr m c _ _ _ _ hp)
  refine e.trans (((inv m c _ (by omega)).y b ⟨t.val % 128, by omega⟩ k).trans ?_)
  refine Eq.trans ?_ (RVal.R_y (args m c) _ b t k).symm
  unfold yOf
  have hz : ∀ k', (args m c).z (ix3 b ⟨128 * (t.val / 128) + t.val % 128, by omega⟩ k') = (args m c).z (ix3 b t k') := fun k' => by
    congr 2
    ext
    simp
    omega
  simp only [hz]
  congr 1
  funext k'
  rw [RVal.st_y (args m c) b ⟨t.val / 128, by omega⟩ _ _ _ 16 le_rfl (by simp; omega)]
  rfl

/-- The rows kept for the next call are the input's last three. -/
theorem res_conv : G12 m c = Cert.ReferenceIdeal.Step.R_main_v90 (RVal.st (args m c) 16) (args m c).xbc (args m c).buf := by
  rw [G12_last, ← outsAt0_sweep m c 15 (lt_of_lt_of_eq (by decide) N_0.symm)]
  funext i
  idx_vars i
  rename' i0 => b, i1 => u, i2 => k
  exact (last_conv m c b u k).trans (RVal.R_conv (args m c) _ b u k).symm

/-- The final states are the recurrence's. -/
theorem res_h : G13 m c = Cert.ReferenceIdeal.Step.R_main_v92 (RVal.st (args m c) 16) := by
  rw [G13_last, ← outsAt0_sweep m c 15 (lt_of_lt_of_eq (by decide) N_0.symm)]
  funext i
  idx_vars i
  rename' i0 => b, i1 => u, i2 => k
  refine (last_hout m c b u k).trans ((RVal.R_h _ b u k).trans ?_).symm
  exact congrFun (congrFun (congrFun (RVal.st_h (args m c) b 16 le_rfl) _) _) k

end Cert.Ends

end
-- ==== Proof.PSpec.lean ====
module

public import Idealize.ShloMosaic.Lib.Pointwise
public import Idealize.ShloMosaic.Lib.IdealHost
public import Idealize.ShloMosaic.Lib.Pipeline.ValueKit.Acc

/-! One row of the layer after the mixers, as the kernel and as the reference compute it, and their equality. -/

@[expose] public section

noncomputable section

namespace Cert.PSpec

open Idealize.ShloMosaic

/-- The square-mean shift of a normalization. -/
abbrev eps : EReal := Ideal.ofBits FTy.f32 897988541#32
/-- The width of a model row. -/
abbrev cD : EReal := Ideal.ofBits FTy.f32 1149239296#32
/-- The width of an attention head. -/
abbrev cH : EReal := Ideal.ofBits FTy.f32 1124073472#32
/-- The scale of the attention scores. -/
abbrev cS : EReal := Ideal.ofBits FTy.f32 1035273459#32
/-- Where the maximum starts. -/
abbrev low : EReal := Ideal.ofBits FTy.f32 4286578688#32

/-- A row divided by its root mean square, times a gain. -/
def rms {n : ℕ} (c : EReal) (x g : Fin n → EReal) (i : Fin n) : EReal :=
  x i * Ideal.rsqrt (Ideal.div (∑ k, x k * x k) c + eps) * g i

/-- What one row of the output depends on. -/
structure Row where
  /-- The residual row. -/
  x : Fin 1024 → EReal
  /-- The attention output row. -/
  a : Fin 512 → EReal
  /-- The scan's output row. -/
  y : Fin 512 → EReal
  /-- The memory keys. -/
  key : Fin 4 → Fin 256 → Fin 128 → EReal
  /-- The memory values. -/
  val : Fin 4 → Fin 256 → Fin 128 → EReal
  /-- The output projection of the attention output. -/
  wa : Fin 512 → Fin 1024 → EReal
  /-- The output projection of the scan's output. -/
  wy : Fin 512 → Fin 1024 → EReal
  /-- The gain before the cross-attention. -/
  gx : Fin 1024 → EReal
  /-- The query projection. -/
  wq : Fin 1024 → Fin 512 → EReal
  /-- The gain of the queries. -/
  gq : Fin 128 → EReal
  /-- The cross-attention's output projection. -/
  wo : Fin 512 → Fin 1024 → EReal
  /-- The gain before the feed-forward part. -/
  gm : Fin 1024 → EReal
  /-- The way up. -/
  wu : Fin 1024 → Fin 4096 → EReal
  /-- The way down. -/
  wd : Fin 4096 → Fin 1024 → EReal

/-- A head's lane among a row of all heads. -/
abbrev lane (h : Fin 4) (d : Fin 128) : Fin 512 := ⟨h.val * 128 + d.val, by omega⟩
/-- The head of a lane. -/
abbrev hd (k : Fin 512) : Fin 4 := ⟨k.val / 128, by omega⟩
/-- The place of a lane in its head. -/
abbrev ln (k : Fin 512) : Fin 128 := ⟨k.val % 128, by omega⟩

variable (R : Row)

/-- The row after the output projection. -/
def x1 (j : Fin 1024) : EReal := R.x j + ∑ k, R.a k * R.wa k j + ∑ k, R.y k * R.wy k j
/-- The row's queries before their normalization. -/
def q0 (k : Fin 512) : EReal := ∑ j, rms cD (x1 R) R.gx j * R.wq j k
/-- The row's queries. -/
def q (h : Fin 4) (d : Fin 128) : EReal := rms cH (fun d => q0 R (lane h d)) R.gq d
/-- The unnormalized weights of scores. -/
def ex (s : Fin 256 → EReal) (m : Fin 256) : EReal := Ideal.exp (s m - Finset.fold max low s Finset.univ)
/-- The scores, the queries scaled. -/
def scK (h : Fin 4) (m : Fin 256) : EReal := ∑ d, q R h d * cS * R.key h m d
/-- The scores, scaled at the end. -/
def scR (h : Fin 4) (m : Fin 256) : EReal := (∑ d, q R h d * R.key h m d) * cS
/-- The attended values, divided at the end. -/
def oK (h : Fin 4) (d : Fin 128) : EReal := Ideal.div (∑ m, ex (scK R h) m * R.val h m d) (∑ m, ex (scK R h) m)
/-- The attended values, their weights divided. -/
def oR (h : Fin 4) (d : Fin 128) : EReal := ∑ m, R.val h m d * Ideal.div (ex (scR R h) m) (∑ m, ex (scR R h) m)
/-- The row after the cross-attention. -/
def x2 (o : Fin 4 → Fin 128 → EReal) (j : Fin 1024) : EReal := x1 R j + ∑ k : Fin 512, o (hd k) (ln k) * R.wo k j
/-- A hidden unit, its negative part dropped. -/
def up (x : Fin 1024 → EReal) (f : Fin 4096) : EReal := max (∑ j, rms cD x R.gm j * R.wu j f) 0
/-- A hidden unit's part of the output. -/
def part (x : Fin 1024 → EReal) (j : Fin 1024) (f : Fin 4096) : EReal := up R x f * up R x f * R.wd f j
/-- The output row, the hidden units in one sum. -/
def outR (x : Fin 1024 → EReal) (j : Fin 1024) : EReal := x j + ∑ f, part R x j f
/-- A hidden unit of a chunk. -/
abbrev un (c : Fin 4) (f : Fin 1024) : Fin 4096 := ⟨c.val * 1024 + f.val, by omega⟩
/-- The output row, the hidden units in four chunks. -/
def outK (x : Fin 1024 → EReal) (j : Fin 1024) : EReal :=
  x j + ∑ f, part R x j (un 0 f) + ∑ f, part R x j (un 1 f) + ∑ f, part R x j (un 2 f) + ∑ f, part R x j (un 3 f)

/-- Four chunks' sums are one sum. -/
theorem outK_eq (x : Fin 1024 → EReal) (j : Fin 1024) : outK R x j = outR R x j := by
  unfold outK outR
  have h : ∑ f : Fin 4096, part R x j f = ∑ c : Fin 4, ∑ f : Fin 1024, part R x j (un c f) := by
    exact (Fin.sum_mul_add_fin (S := 4) (n := 1024) (part R x j)).symm
  rw [h, Fin.sum_univ_four]
  simp only [add_assoc]

/-- A value that is a real number. -/
def IsReal (v : EReal) : Prop := ∃ r : ℝ, v = r

/-- A sum of reals is real. -/
theorem IsReal.add {a b : EReal} : IsReal a → IsReal b → IsReal (a + b)
  | ⟨r, h⟩, ⟨s, k⟩ => ⟨r + s, by rw [h, k, EReal.coe_add]⟩
/-- A product of reals is real. -/
theorem IsReal.mul {a b : EReal} : IsReal a → IsReal b → IsReal (a * b)
  | ⟨r, h⟩, ⟨s, k⟩ => ⟨r * s, by rw [h, k, EReal.coe_mul]⟩
/-- A difference of reals is real. -/
theorem IsReal.sub {a b : EReal} : IsReal a → IsReal b → IsReal (a - b)
  | ⟨r, h⟩, ⟨s, k⟩ => ⟨r - s, by rw [h, k, EReal.coe_sub]⟩
/-- A finite sum of reals is real. -/
theorem IsReal.sum {ι : Type} (t : Finset ι) (f : ι → EReal) (h : ∀ i, IsReal (f i)) : IsReal (∑ i ∈ t, f i) := by
  classical
  induction t using Finset.induction_on with
  | empty => exact ⟨0, by simp⟩
  | insert a t ha ih => rw [Finset.sum_insert ha]; exact (h a).add ih

/-- The sum of squares of reals is a real that is not negative. -/
theorem sq_sum {n : ℕ} (x : Fin n → EReal) (h : ∀ i, IsReal (x i)) : ∃ r : ℝ, 0 ≤ r ∧ ∑ i, x i * x i = r := by
  obtain ⟨r, hr⟩ := IsReal.sum Finset.univ (fun i => x i * x i) (fun i => (h i).mul (h i))
  refine ⟨r, ?_, hr⟩
  have : (0 : EReal) ≤ ∑ i, x i * x i := Finset.sum_nonneg fun i _ => by
    obtain ⟨s, hs⟩ := h i
    rw [hs, ← EReal.coe_mul]
    exact EReal.coe_nonneg.mpr (mul_self_nonneg s)
  rw [hr] at this
  exact EReal.coe_nonneg.mp this

/-- The shift is a positive real. -/
theorem eps_pos : ∃ r : ℝ, 0 < r ∧ eps = r := by
  unfold eps
  simp [Ideal.ofBits, Ideal.ieee, -EReal.coe_mul]
/-- The row's width is a positive real. -/
theorem cD_pos : ∃ r : ℝ, 0 < r ∧ cD = r := by
  unfold cD
  simp [Ideal.ofBits, Ideal.ieee, -EReal.coe_mul]
/-- The head's width is a positive real. -/
theorem cH_pos : ∃ r : ℝ, 0 < r ∧ cH = r := by
  unfold cH
  simp [Ideal.ofBits, Ideal.ieee, -EReal.coe_mul]
/-- The scale is a positive real. -/
theorem cS_pos : ∃ r : ℝ, 0 < r ∧ cS = r := by
  unfold cS
  simp [Ideal.ofBits, Ideal.ieee, -EReal.coe_mul]
/-- The maximum starts at the least value. -/
theorem low_eq : low = ⊥ := by
  unfold low
  simp [Ideal.ofBits, Ideal.ieee]

/-- A quotient of reals, the divisor positive. -/
theorem div_real (r s : ℝ) (hs : 0 < s) : Ideal.div (r : EReal) s = ((r * s⁻¹ : ℝ) : EReal) := by
  unfold Ideal.div
  rw [if_neg (by norm_cast; exact hs.ne'), EReal.coe_mul, EReal.coe_inv]

/-- The normalization of a real row is real. -/
theorem rms_real {n : ℕ} (c : EReal) (hc : ∃ r : ℝ, 0 < r ∧ c = r) (x g : Fin n → EReal) (hx : ∀ i, IsReal (x i)) (hg : ∀ i, IsReal (g i))
    (i : Fin n) : IsReal (rms c x g i) := by
  obtain ⟨s, hs, e⟩ := sq_sum x hx
  obtain ⟨w, hw, rfl⟩ := hc
  obtain ⟨p, hp, f⟩ := eps_pos
  unfold rms
  rw [e, f, div_real s w hw, ← EReal.coe_add, Ideal.rsqrt_coe]
  have h : 0 < s * w⁻¹ + p := by positivity
  rw [if_neg (not_lt.mpr h.le), if_neg h.ne']
  exact ((hx i).mul ⟨_, rfl⟩).mul (hg i)

/-- A sum times a real that is not negative. -/
theorem sum_mul_real {n : ℕ} (f : Fin n → EReal) (r : ℝ) (hr : 0 ≤ r) : (∑ i, f i) * (r : EReal) = ∑ i, f i * (r : EReal) := by
  have all : ∀ t : Finset (Fin n), (∑ i ∈ t, f i) * (r : EReal) = ∑ i ∈ t, f i * (r : EReal) := by
    intro t
    induction t using Finset.induction_on with
    | empty => simp
    | insert a t ha ih =>
      rw [Finset.sum_insert ha, Finset.sum_insert ha, ← ih]
      exact EReal.right_distrib_of_nonneg_of_ne_top (EReal.coe_nonneg.mpr hr) (EReal.coe_ne_top r) _ _
  exact all _

/-- Scaling the queries or the scores is the same. -/
theorem scK_eq : scK R = scR R := by
  obtain ⟨c, hc, e⟩ := cS_pos
  funext h m
  unfold scK scR
  rw [e, sum_mul_real _ c hc.le]
  exact Finset.sum_congr rfl fun d _ => mul_right_comm _ _ _

/-- The greatest of real scores is real. -/
theorem max_real (s : Fin 256 → EReal) (hs : ∀ m, IsReal (s m)) : IsReal (Finset.fold max low s Finset.univ) := by
  rw [low_eq]
  have all : ∀ t : Finset (Fin 256), IsReal (Finset.fold max ⊥ s t) ∨ Finset.fold max ⊥ s t = ⊥ ∧ t = ∅ := by
    intro t
    induction t using Finset.induction_on with
    | empty => exact .inr ⟨by simp, rfl⟩
    | insert a t ha ih =>
      left
      rw [Finset.fold_insert ha]
      rcases ih with h | ⟨h, _⟩
      · rcases max_choice (s a) (Finset.fold max ⊥ s t) with e | e <;> rw [e]
        · exact hs a
        · exact h
      · rw [h, max_eq_left bot_le]; exact hs a
  rcases all Finset.univ with h | ⟨_, h⟩
  · exact h
  · exact absurd h (Finset.univ_nonempty.ne_empty)

/-- The weights of real scores are positive reals. -/
theorem ex_real (s : Fin 256 → EReal) (hs : ∀ m, IsReal (s m)) (m : Fin 256) : ∃ r : ℝ, 0 < r ∧ ex s m = r := by
  obtain ⟨r, hr⟩ := (hs m).sub (max_real s hs)
  refine ⟨Real.exp r, Real.exp_pos r, ?_⟩
  unfold ex
  rw [hr, Ideal.exp_coe]

/-- Dividing the attended values or their weights is the same, of real scores. -/
theorem soft_eq (s v : Fin 256 → EReal) (hs : ∀ m, IsReal (s m)) :
    Ideal.div (∑ m, ex s m * v m) (∑ m, ex s m) = ∑ m, v m * Ideal.div (ex s m) (∑ m, ex s m) := by
  choose e he ee using ex_real s hs
  have hS : ∑ m, ex s m = ((∑ m, e m : ℝ) : EReal) := by
    rw [Finset.sum_congr rfl fun m _ => ee m]; norm_cast
  have hp : 0 < ∑ m, e m := Finset.sum_pos (fun m _ => he m) Finset.univ_nonempty
  rw [hS]
  unfold Ideal.div
  rw [if_neg (by norm_cast; exact hp.ne'), ← EReal.coe_inv, sum_mul_real _ _ (inv_nonneg.mpr hp.le)]
  refine Finset.sum_congr rfl fun m _ => ?_
  rw [if_neg (by norm_cast; exact hp.ne'), mul_assoc, mul_left_comm]

/-- What the scores are computed of is real. -/
structure Row.Real : Prop where
  x : ∀ j, IsReal (R.x j)
  a : ∀ j, IsReal (R.a j)
  y : ∀ j, IsReal (R.y j)
  key : ∀ h m d, IsReal (R.key h m d)
  wa : ∀ k j, IsReal (R.wa k j)
  wy : ∀ k j, IsReal (R.wy k j)
  gx : ∀ j, IsReal (R.gx j)
  wq : ∀ k j, IsReal (R.wq k j)
  gq : ∀ j, IsReal (R.gq j)

/-- The scores of real rows are real. -/
theorem sc_real (H : R.Real) (h : Fin 4) (m : Fin 256) : IsReal (scR R h m) := by
  obtain ⟨c, _, e⟩ := cS_pos
  have h1 : ∀ j, IsReal (x1 R j) := fun j =>
    ((H.x j).add (IsReal.sum _ _ fun k => (H.a k).mul (H.wa k j))).add (IsReal.sum _ _ fun k => (H.y k).mul (H.wy k j))
  have h2 : ∀ k, IsReal (q0 R k) := fun k => IsReal.sum _ _ fun j => (rms_real _ cD_pos _ _ h1 H.gx j).mul (H.wq j k)
  exact (IsReal.sum _ _ fun d => (rms_real _ cH_pos _ _ (fun d => h2 _) H.gq d).mul (H.key h m d)).mul ⟨c, e⟩

/-- The kernel's row is the reference's row. -/
theorem row_eq (H : R.Real) (j : Fin 1024) : outK R (x2 R (oK R)) j = outR R (x2 R (oR R)) j := by
  rw [outK_eq]
  congr 2
  funext h d
  unfold oK oR
  rw [scK_eq]
  exact soft_eq _ _ (sc_real R H h)

end Cert.PSpec

end
-- ==== Proof.PVal.lean ====
module

public import proofs.«01_k».proof.Proof.Gen.Kernel2Ideal.Skeleton
public import proofs.«01_k».proof.Proof.PSpec
public import Idealize.ShloMosaic.Lib.Pointwise

/-! The values of the output block of the attention and feed-forward call, at an index. -/

@[expose] public section

set_option maxRecDepth 16384

noncomputable section

namespace Cert.PVal

open Idealize.ShloMosaic Idealize.ShloMosaic.TcCoe Idealize.SL.Sem
open Cert.Kernel2Ideal Cert.Kernel2Ideal.Gen Cert.PSpec

/-- The exact values. -/
abbrev I := Idealize.ShloMosaic.Ideal

/-- The blocks an output block is computed of, the memory and the hidden weights cut as they are loaded. -/
structure Blk where
  /-- The residual rows. -/
  x : Vec I S512x1024 .f32
  /-- The attention output's rows. -/
  a : Vec I S512x512 .bf16
  /-- The scan's output rows. -/
  y : Vec I S512x512 .bf16
  /-- The memory keys of a head. -/
  key : Fin 4 → Vec I S1x256x128 .f32
  /-- The memory values of a head. -/
  val : Fin 4 → Vec I S1x256x128 .f32
  /-- The attention output's projection. -/
  wa : Vec I S512x1024 .bf16
  /-- The scan output's projection. -/
  wy : Vec I S512x1024 .bf16
  /-- The gain before the cross-attention. -/
  gx : Vec I S1x1024 .f32
  /-- The query projection. -/
  wq : Vec I S1024x512 .bf16
  /-- The queries' gain. -/
  gq : Vec I S1x128 .f32
  /-- The cross-attention's output projection. -/
  wo : Vec I S512x1024 .bf16
  /-- The gain before the feed-forward part. -/
  gm : Vec I S1x1024 .f32
  /-- A chunk of the way up. -/
  wu : Fin 4 → Vec I S1024x1024 .bf16
  /-- A chunk of the way down. -/
  wd : Fin 4 → Vec I S1024x1024 .bf16

variable (B : Blk)

/-- A row of the blocks. -/
def rowOf (r : Fin 512) : Row where
  x j := B.x (ix2 r j)
  a k := B.a (ix2 r k)
  y k := B.y (ix2 r k)
  key h m d := B.key h (ix3 0 m d)
  val h m d := B.val h (ix3 0 m d)
  wa k j := B.wa (ix2 k j)
  wy k j := B.wy (ix2 k j)
  gx j := B.gx (ix2 0 j)
  wq j k := B.wq (ix2 j k)
  gq d := B.gq (ix2 0 d)
  wo k j := B.wo (ix2 k j)
  gm j := B.gm (ix2 0 j)
  wu j f := B.wu ⟨f.val / 1024, by omega⟩ (ix2 j ⟨f.val % 1024, by omega⟩)
  wd f j := B.wd ⟨f.val / 1024, by omega⟩ (ix2 ⟨f.val % 1024, by omega⟩ j)

/-- The rows after the output projection. -/
def v13 : FVec I S512x1024 .f32 := k0_pay2 B.x B.a B.y B.wa B.wy
/-- The queries before their normalization. -/
def v31 : FVec I S512x512 .f32 := k0_pay3 B.x B.a B.y B.wa B.wy B.gx B.wq
/-- The first head's attended values. -/
def v106 : FVec I S512x128 .f32 :=
  k0_pay13 (k0_pay7 (k0_pay4 B.gq) (k0_pay5 B.x B.a B.y B.wa B.wy B.gx B.wq) (k0_pay6 B.x B.a B.y B.wa B.wy B.gx B.wq)) (B.key 0) (B.val 0)
/-- The second head's attended values. -/
def v127 : FVec I S512x128 .f32 :=
  k0_pay16 (k0_pay14 (k0_pay8 (v31 B) (k0_pay4 B.gq)) (B.key 1)) (k0_pay15 (k0_pay8 (v31 B) (k0_pay4 B.gq)) (B.key 1) (B.val 1))
/-- The third head's attended values. -/
def v148 : FVec I S512x128 .f32 := k0_pay17 (k0_pay9 (v31 B) (k0_pay4 B.gq)) (B.key 2) (B.val 2)
/-- The last head's values. -/
def v152 : FVec I S256x128 .f32 := k0_pay18 (B.val 3)
/-- The last head's weights. -/
def v162 : FVec I S512x256 .f32 := k0_pay19 (k0_pay12 (k0_pay10 (v31 B)) (k0_pay11 (k0_pay4 B.gq))) (B.key 3)
/-- The rows after the cross-attention. -/
def v175 : FVec I S512x1024 .f32 := k0_pay20 (v13 B) (v106 B) (v127 B) (v148 B) (v152 B) (v162 B) B.wo
/-- The normalized rows before the feed-forward part. -/
def v190 : FVec I S512x1024 .bf16 := k0_pay21 (v13 B) (v106 B) (v127 B) (v148 B) (v152 B) (v162 B) B.wo B.gm
/-- The rows and the first chunk's part. -/
def v201 : FVec I S512x1024 .f32 := k0_pay22 (v13 B) (v106 B) (v127 B) (v148 B) (v152 B) (v162 B) B.wo B.gm (B.wu 0) (B.wd 0)
/-- The output block. -/
def out : FVec I S512x1024 .f32 :=
  k0_pay1 (v190 B) (v201 B) (k0_pay23 (B.wu 1)) (B.wd 1) (B.wu 2) (B.wd 2) (B.wu 3) (B.wd 3)

/-- The rows after the output projection. -/
theorem v13_apply (r : Fin 512) (j : Fin 1024) : v13 B (ix2 r j) = x1 (rowOf B r) j := by
  pointwise [v13, k0_pay2]
  rfl

/-- The queries before their normalization. -/
theorem v31_apply (r k : Fin 512) : v31 B (ix2 r k) = q0 (rowOf B r) k := by
  have h := v13_apply B
  unfold v13 at h
  pointwise [v31, k0_pay3]
  simp only [h]
  rfl

/-- The first head's queries before their normalization. -/
theorem v34_apply (r : Fin 512) (d : Fin 128) :
    k0_pay5 B.x B.a B.y B.wa B.wy B.gx B.wq (ix2 r d) = q0 (rowOf B r) (lane 0 d) := by
  have h := v31_apply B
  unfold v31 at h
  pointwise [k0_pay5]
  rw [h]
  congr 1; ext; simp

/-- The first head's attended values. -/
theorem v106_apply (r : Fin 512) (d : Fin 128) : v106 B (ix2 r d) = oK (rowOf B r) 0 d := by
  pointwise [v106, k0_pay13, k0_pay7, k0_pay4, k0_pay6]
  simp only [v34_apply]
  rfl
/-- The second head's attended values. -/
theorem v127_apply (r : Fin 512) (d : Fin 128) : v127 B (ix2 r d) = oK (rowOf B r) 1 d := by
  pointwise [v127, k0_pay16, k0_pay14, k0_pay15, k0_pay8, k0_pay4]
  simp only [v31_apply]
  rfl
/-- The third head's attended values. -/
theorem v148_apply (r : Fin 512) (d : Fin 128) : v148 B (ix2 r d) = oK (rowOf B r) 2 d := by
  pointwise [v148, k0_pay17, k0_pay9, k0_pay4]
  simp only [v31_apply]
  rfl
/-- The last head's weights. -/
theorem v162_apply (r : Fin 512) (m : Fin 256) : v162 B (ix2 r m) = ex (scK (rowOf B r) 3) m := by
  pointwise [v162, k0_pay19, k0_pay12, k0_pay10, k0_pay11, k0_pay4]
  simp only [v31_apply]
  rfl

/-- The rows after the cross-attention. -/
theorem v175_apply (r : Fin 512) (j : Fin 1024) : v175 B (ix2 r j) = x2 (rowOf B r) (oK (rowOf B r)) j := by
  pointwise [v175, k0_pay20, v152, k0_pay18]
  simp only [v13_apply, v106_apply, v127_apply, v148_apply, v162_apply]
  unfold x2
  congr 1

/-- The normalized rows. -/
theorem v190_apply (r : Fin 512) (j : Fin 1024) :
    v190 B (ix2 r j) = rms cD (x2 (rowOf B r) (oK (rowOf B r))) (rowOf B r).gm j := by
  have h := v175_apply B
  unfold v175 at h
  pointwise [v190, k0_pay21]
  simp only [h]
  rfl

/-- A hidden unit's part of the output, in a chunk. -/
theorem part_chunk (r : Fin 512) (x : Fin 1024 → EReal) (c : Fin 4) (f j : Fin 1024) :
    part (rowOf B r) x j (un c f) = max (∑ i, rms cD x (rowOf B r).gm i * B.wu c (ix2 i f)) 0
      * max (∑ i, rms cD x (rowOf B r).gm i * B.wu c (ix2 i f)) 0 * B.wd c (ix2 f j) := by
  have e1 : (⟨(un c f).val / 1024, by omega⟩ : Fin 4) = c := by ext; show (c.val * 1024 + f.val) / 1024 = c.val; omega
  have e2 : (⟨(un c f).val % 1024, by omega⟩ : Fin 1024) = f := by ext; show (c.val * 1024 + f.val) % 1024 = f.val; omega
  unfold part up
  show max (∑ i, _ * B.wu ⟨(un c f).val / 1024, _⟩ (ix2 i ⟨(un c f).val % 1024, _⟩)) 0
    * max (∑ i, _ * B.wu ⟨(un c f).val / 1024, _⟩ (ix2 i ⟨(un c f).val % 1024, _⟩)) 0 * B.wd ⟨(un c f).val / 1024, _⟩ (ix2 ⟨(un c f).val % 1024, _⟩ j) = _
  rw [e1, e2]

/-- The output block, at an index. -/
theorem out_apply (r : Fin 512) (j : Fin 1024) : out B (ix2 r j) = outK (rowOf B r) (x2 (rowOf B r) (oK (rowOf B r))) j := by
  have h := v175_apply B
  have k := v190_apply B
  unfold v175 at h
  unfold v190 at k
  pointwise [out, v201, v190, k0_pay1, k0_pay22, k0_pay23]
  simp only [h, k]
  unfold outK
  simp only [part_chunk]

end Cert.PVal

end
-- ==== Proof.PRef.lean ====
module

public import proofs.«01_k».proof.Proof.Gen.Reference2Ideal.Read
public import proofs.«01_k».proof.Proof.PSpec
public import Idealize.ShloMosaic.Lib.Pointwise

/-! The reference's rows after the mixers, at an index. -/

@[expose] public section

set_option maxRecDepth 16384

noncomputable section

namespace Cert.PRef

open Idealize.ShloMosaic Idealize.ShloMosaic.TcCoe Idealize.SL.Sem
open Cert.Reference2Ideal Cert.Reference2Ideal.Gen Cert.Reference2Ideal.Read Cert.PSpec

/-- The exact values. -/
abbrev I := Idealize.ShloMosaic.Ideal

/-- The arguments. -/
structure Args where
  /-- The residual rows. -/
  x : FVec I S8x2048x1024 .f32
  /-- The attention output. -/
  a : FVec I S8x2048x512 .bf16
  /-- The scan's output. -/
  y : FVec I S8x2048x512 .bf16
  /-- The memory keys. -/
  key : FVec I S8x256x4x128 .f32
  /-- The memory values. -/
  val : FVec I S8x256x4x128 .f32
  /-- The output projection. -/
  w : FVec I S1x1024x1024 .f32
  /-- The gain before the cross-attention. -/
  gx : FVec I S1x1024 .f32
  /-- The query projection. -/
  wq : FVec I S1x1024x512 .f32
  /-- The queries' gain. -/
  gq : FVec I S1x128 .f32
  /-- The cross-attention's output projection. -/
  wo : FVec I S1x512x1024 .f32
  /-- The gain before the feed-forward part. -/
  gm : FVec I S1x1024 .f32
  /-- The way up. -/
  wu : FVec I S1x1024x4096 .f32
  /-- The way down. -/
  wd : FVec I S1x4096x1024 .f32

variable (A : Args)

/-- A row of the arguments. -/
def rowA (b : Fin 8) (t : Fin 2048) : Row where
  x j := A.x (ix3 b t j)
  a k := A.a (ix3 b t k)
  y k := A.y (ix3 b t k)
  key h m d := A.key (ix4 b m h d)
  val h m d := A.val (ix4 b m h d)
  wa k j := A.w (ix3 0 ⟨k.val, by omega⟩ j)
  wy k j := A.w (ix3 0 ⟨512 + k.val, by omega⟩ j)
  gx j := A.gx (ix2 0 j)
  wq j k := A.wq (ix3 0 j k)
  gq d := A.gq (ix2 0 d)
  wo k j := A.wo (ix3 0 k j)
  gm j := A.gm (ix2 0 j)
  wu j f := A.wu (ix3 0 j f)
  wd f j := A.wd (ix3 0 f j)

/-- The rows after the mixers. -/
theorem v4_apply (b : Fin 8) (t : Fin 2048) (j : Fin 1024) :
    val_main_v4 (F := I) A.x A.a A.y A.w (ix3 b t j) = x1 (rowA A b t) j := by
  pointwise [val_main_v4, val_main_v3, val_main_v2, val_main_v1, val_main_v0]
  rw [← add_assoc]
  rfl

/-- The query projections. -/
theorem v20_apply (b : Fin 8) (t : Fin 2048) (k : Fin 512) :
    val_main_v20 (F := I) A.x A.a A.y A.w A.gx A.wq (ix3 b t k) = q0 (rowA A b t) k := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [v4_apply]
  rfl

/-- The normalized queries. -/
theorem v35_apply (b : Fin 8) (t : Fin 2048) (h : Fin 4) (d : Fin 128) :
    val_main_v35 (F := I) A.x A.a A.y A.w A.gx A.wq A.gq (ix4 b t h d) = q (rowA A b t) h d := by
  pointwise [val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4]
  simp only [v20_apply]
  rfl

/-- The scores. -/
theorem v38_apply (b : Fin 8) (t : Fin 2048) (h : Fin 4) (m : Fin 256) :
    val_main_v38 (F := I) A.x A.a A.y A.key A.w A.gx A.wq A.gq (ix4 b h t m) = scR (rowA A b t) h m := by
  pointwise [val_main_v38, val_main_v37, val_main_v36, val_main_cst_5]
  simp only [v35_apply]
  rfl

/-- The greatest of a row of scores. -/
theorem top_apply (s : FVec I S8x4x2048x256 .f32) (b : Fin 8) (h : Fin 4) (t : Fin 2048) :
    Host.reduce (α := Elt I .f32) (FloatOps.maximumf (F := I) (φ := .f32)) s (constant (F := I) S_ .f32 0xFF800000#32) reducesTo_S8x4x2048x256_S8x4x2048_d3 h_S_ (ix3 b h t)
      = Finset.fold max low (fun m => s (ix4 b h t m)) Finset.univ := by
  pointwise []

/-- The greatest score of a row and a head. -/
theorem v39_apply (b : Fin 8) (t : Fin 2048) (h : Fin 4) :
    val_main_v39 (F := I) A.x A.a A.y A.key A.w A.gx A.wq A.gq (ix3 b h t) = Finset.fold max low (scR (rowA A b t) h) Finset.univ := by
  unfold val_main_v39 val_main_cst_6
  have hs := fun m => v38_apply A b t h m
  generalize val_main_v38 (F := I) A.x A.a A.y A.key A.w A.gx A.wq A.gq = s at hs
  rw [top_apply]
  simp only [hs]

/-- The exponential of a score less the greatest, at an index. -/
theorem soft_apply (s : FVec I S8x4x2048x256 .f32) (s' : FVec I S8x4x2048 .f32) (b : Fin 8) (t : Fin 2048) (h : Fin 4) (m : Fin 256) :
    Host.exp (subf s (broadcastInDim S8x4x2048x256 ![0, 1, 2, 3] bcast_S8x4x2048x1_S8x4x2048x256_0_1_2_3
      (broadcastInDim S8x4x2048x1 ![0, 1, 2] bcast_S8x4x2048_S8x4x2048x1_0_1_2
        (maximumf (broadcastInDim S8x4x2048 ![] bcast_S_S8x4x2048 (constant (F := I) S_ .f32 0xFF800000#32)) s')))) (ix4 b h t m)
      = Ideal.exp (s (ix4 b h t m) - max low (s' (ix3 b h t))) := by
  pointwise []

/-- Nothing is below the least value. -/
theorem max_low (x : EReal) : max low x = x := max_eq_right (low_eq.le.trans bot_le)

/-- The unnormalized weights. -/
theorem v45_apply (b : Fin 8) (t : Fin 2048) (h : Fin 4) (m : Fin 256) :
    val_main_v45 (F := I) A.x A.a A.y A.key A.w A.gx A.wq A.gq (ix4 b h t m) = ex (scR (rowA A b t) h) m := by
  unfold val_main_v45 val_main_v44 val_main_v43 val_main_v42 val_main_v41 val_main_v40 val_main_cst_7
  rw [soft_apply, max_low, v38_apply, v39_apply]
  unfold ex
  exact Eq.refl _

/-- The attended values. -/
theorem v52_apply (b : Fin 8) (t : Fin 2048) (k : Fin 512) :
    val_main_v52 (F := I) A.x A.a A.y A.key A.val A.w A.gx A.wq A.gq (ix3 b t k) = oR (rowA A b t) (hd k) (ln k) := by
  pointwise [val_main_v52, val_main_v51, val_main_v50, val_main_v49, val_main_v48, val_main_v47, val_main_v46, val_main_cst_8]
  simp only [v45_apply]
  rfl

/-- The rows after the cross-attention. -/
theorem v55_apply (b : Fin 8) (t : Fin 2048) (j : Fin 1024) :
    val_main_v55 (F := I) A.x A.a A.y A.key A.val A.w A.gx A.wq A.gq A.wo (ix3 b t j) = x2 (rowA A b t) (oR (rowA A b t)) j := by
  pointwise [val_main_v55, val_main_v54, val_main_v53]
  simp only [v52_apply, v4_apply]
  rfl

/-- The hidden units. -/
theorem v72_apply (b : Fin 8) (t : Fin 2048) (f : Fin 4096) :
    val_main_v72 (F := I) A.x A.a A.y A.key A.val A.w A.gx A.wq A.gq A.wo A.gm A.wu (ix3 b t f) = up (rowA A b t) (x2 (rowA A b t) (oR (rowA A b t))) f := by
  pointwise [val_main_v72, val_main_call0_v0, val_main_call0_cst, val_main_v71, val_main_v70, val_main_v69, val_main_v68, val_main_v67, val_main_v66, val_main_v65, val_main_v64, val_main_v63, val_main_v62, val_main_v61, val_main_v60, val_main_v59, val_main_v58, val_main_v57, val_main_v56, val_main_cst_9, val_main_cst_10, val_main_cst_11]
  simp only [v55_apply]
  rfl

/-- The rows of the result. -/
theorem v77_apply (b : Fin 8) (t : Fin 2048) (j : Fin 1024) :
    val_main_v77 (F := I) A.x A.a A.y A.key A.val A.w A.gx A.wq A.gq A.wo A.gm A.wu A.wd (ix2 ⟨b.val * 2048 + t.val, by omega⟩ j) = outR (rowA A b t) (x2 (rowA A b t) (oR (rowA A b t))) j := by
  pointwise [val_main_v77, val_main_v76, val_main_v75, val_main_v74, val_main_v73]
  simp only [v55_apply, v72_apply]
  rfl

end Cert.PRef

end
-- ==== Proof.PBlocks.lean ====
module

public import proofs.«01_k».proof.Proof.PVal
public import proofs.«01_k».proof.Proof.PRef
public import proofs.«01_k».proof.Proof.Gen.Kernel2Ideal.Value
public import Idealize.ShloMosaic.Lib.Pipeline.ValueKit
public import Idealize.ShloMosaic.Lib.Claim

/-! The blocks a grid point is given, in terms of the arguments, and the rows they make. -/

@[expose] public section

set_option maxRecDepth 16384

noncomputable section

namespace Cert.PBlocks

open Idealize.ShloMosaic Idealize.ShloMosaic.TcCoe Idealize.SL Idealize.SL.Sem
open Cert.Kernel2Ideal Cert.Kernel2Ideal.Gen Cert.PSpec Cert.PVal

variable (m : (ℓ : Loc nD τ sig) → Buf (Elt I) ℓ) (c : Dev nD)

/-- The arguments of a core. -/
def args : PRef.Args where
  x := m ((c : Thread nD τ).loc main_arg0)
  a := m ((c : Thread nD τ).loc main_arg1)
  y := m ((c : Thread nD τ).loc main_arg2)
  key := m ((c : Thread nD τ).loc main_arg3)
  val := m ((c : Thread nD τ).loc main_arg4)
  w := m ((c : Thread nD τ).loc main_arg5)
  gx := m ((c : Thread nD τ).loc main_arg6)
  wq := m ((c : Thread nD τ).loc main_arg7)
  gq := m ((c : Thread nD τ).loc main_arg8)
  wo := m ((c : Thread nD τ).loc main_arg9)
  gm := m ((c : Thread nD τ).loc main_arg10)
  wu := m ((c : Thread nD τ).loc main_arg11)
  wd := m ((c : Thread nD τ).loc main_arg12)

/-- Which block of each input a grid point takes. -/
theorem idx (t : Fin cfg0.N) : win0_0.index t = ![t.val, 0] ∧ win0_1.index t = ![t.val, 0] ∧ win0_2.index t = ![t.val, 0]
    ∧ win0_3.index t = ![t.val / 4, 0, 0] ∧ win0_4.index t = ![t.val / 4, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] := by
  revert t; decide +kernel

/-- There are 32 grid points. -/
theorem lt32 (t : Fin cfg0.N) : t.val < 32 := lt_of_lt_of_eq t.isLt N_0

/-- The batch of a point's row. -/
def bat (t : Fin cfg0.N) (r : Fin 512) : Fin 8 := ⟨(512 * t.val + r.val) / 2048, by have := lt32 t; omega⟩
/-- The place of a point's row in its batch. -/
def pos (t : Fin cfg0.N) (r : Fin 512) : Fin 2048 := ⟨(512 * t.val + r.val) % 2048, by omega⟩

/-- The residual rows. -/
theorem blk0 (t : Fin cfg0.N) (r : Fin 512) (j : Fin 1024) : (iblk m c 0 t : Vec I S512x1024 .f32) (ix2 r j) = (args m c).x (ix3 (bat t r) (pos t r) j) := by
  have h : (V m c main_v22 : Vec I S16384x1024 .f32) = shapeCast S16384x1024 (args m c).x shapeCasts_S8x2048x1024_S16384x1024 := by
    simp only [V, List.flatten_cons, List.flatten_nil, hostOps0, List.cons_append, List.nil_append]
    after_results
    rfl
  have e : (V m c main_v22 : Vec I S16384x1024 .f32) (ix2 ⟨512 * t.val + r.val, by have := lt32 t; omega⟩ j) = (args m c).x (ix3 (bat t r) (pos t r) j) := by
    rw [h]
    pointwise [bat, pos]
  refine Eq.trans (congrArg (V m c main_v22 : Vec I S16384x1024 .f32) ?_) e
  blk_ext [idx t]

/-- The attention output's rows. -/
theorem blk1 (t : Fin cfg0.N) (r k : Fin 512) : (iblk m c 1 t : Vec I S512x512 .bf16) (ix2 r k) = (args m c).a (ix3 (bat t r) (pos t r) k) := by
  have h : (V m c main_v23 : Vec I S16384x512 .bf16) = shapeCast S16384x512 (args m c).a shapeCasts_S8x2048x512_S16384x512 := by
    simp only [V, List.flatten_cons, List.flatten_nil, hostOps0, List.cons_append, List.nil_append]
    after_results
    rfl
  have e : (V m c main_v23 : Vec I S16384x512 .bf16) (ix2 ⟨512 * t.val + r.val, by have := lt32 t; omega⟩ k) = (args m c).a (ix3 (bat t r) (pos t r) k) := by
    rw [h]
    pointwise [bat, pos]
  refine Eq.trans (congrArg (V m c main_v23 : Vec I S16384x512 .bf16) ?_) e
  blk_ext [idx t]

/-- The scan output's rows. -/
theorem blk2 (t : Fin cfg0.N) (r k : Fin 512) : (iblk m c 2 t : Vec I S512x512 .bf16) (ix2 r k) = (args m c).y (ix3 (bat t r) (pos t r) k) := by
  have h : (V m c main_v24 : Vec I S16384x512 .bf16) = shapeCast S16384x512 (args m c).y shapeCasts_S8x2048x512_S16384x512 := by
    simp only [V, List.flatten_cons, List.flatten_nil, hostOps0, List.cons_append, List.nil_append]
    after_results
    rfl
  have e : (V m c main_v24 : Vec I S16384x512 .bf16) (ix2 ⟨512 * t.val + r.val, by have := lt32 t; omega⟩ k) = (args m c).y (ix3 (bat t r) (pos t r) k) := by
    rw [h]
    pointwise [bat, pos]
  refine Eq.trans (congrArg (V m c main_v24 : Vec I S16384x512 .bf16) ?_) e
  blk_ext [idx t]

/-- The memory keys. -/
theorem blk3 (t : Fin cfg0.N) (u : Fin 256) (k : Fin 512) : (iblk m c 3 t : Vec I S1x256x512 .f32) (ix3 0 u k) = (args m c).key (ix4 ⟨t.val / 4, by have := lt32 t; omega⟩ u ⟨k.val / 128, by omega⟩ ⟨k.val % 128, by omega⟩) := by
  have h : (V m c main_v20 : Vec I S8x256x512 .f32) = shapeCast S8x256x512 (args m c).key shapeCasts_S8x256x4x128_S8x256x512 := by
    simp only [V, List.flatten_cons, List.flatten_nil, hostOps0, List.cons_append, List.nil_append]
    after_results
    rfl
  have e : (V m c main_v20 : Vec I S8x256x512 .f32) (ix3 ⟨t.val / 4, by have := lt32 t; omega⟩ u k) = (args m c).key (ix4 ⟨t.val / 4, by have := lt32 t; omega⟩ u ⟨k.val / 128, by omega⟩ ⟨k.val % 128, by omega⟩) := by
    rw [h]
    pointwise [bat, pos]
  refine Eq.trans (congrArg (V m c main_v20 : Vec I S8x256x512 .f32) ?_) e
  blk_ext [idx t]

/-- The memory values. -/
theorem blk4 (t : Fin cfg0.N) (u : Fin 256) (k : Fin 512) : (iblk m c 4 t : Vec I S1x256x512 .f32) (ix3 0 u k) = (args m c).val (ix4 ⟨t.val / 4, by have := lt32 t; omega⟩ u ⟨k.val / 128, by omega⟩ ⟨k.val % 128, by omega⟩) := by
  have h : (V m c main_v21 : Vec I S8x256x512 .f32) = shapeCast S8x256x512 (args m c).val shapeCasts_S8x256x4x128_S8x256x512 := by
    simp only [V, List.flatten_cons, List.flatten_nil, hostOps0, List.cons_append, List.nil_append]
    after_results
    rfl
  have e : (V m c main_v21 : Vec I S8x256x512 .f32) (ix3 ⟨t.val / 4, by have := lt32 t; omega⟩ u k) = (args m c).val (ix4 ⟨t.val / 4, by have := lt32 t; omega⟩ u ⟨k.val / 128, by omega⟩ ⟨k.val % 128, by omega⟩) := by
    rw [h]
    pointwise [bat, pos]
  refine Eq.trans (congrArg (V m c main_v21 : Vec I S8x256x512 .f32) ?_) e
  blk_ext [idx t]

/-- The attention output's projection. -/
theorem blk5 (t : Fin cfg0.N) (k : Fin 512) (j : Fin 1024) : (iblk m c 5 t : Vec I S512x1024 .bf16) (ix2 k j) = (args m c).w (ix3 0 ⟨k.val, by omega⟩ j) := by
  have h : (V m c main_v2 : Vec I S512x1024 .bf16) = truncf .bf16 (extractStridedSlice S512x1024 ![0, 0] (shapeCast S1024x1024 (args m c).w shapeCasts_S1x1024x1024_S1024x1024) slices_S1024x1024_S512x1024_0_0) bitsLt_bf16_f32 := by
    simp only [V, List.flatten_cons, List.flatten_nil, hostOps0, List.cons_append, List.nil_append]
    after_results
    rfl
  have e : (V m c main_v2 : Vec I S512x1024 .bf16) (ix2 k j) = (args m c).w (ix3 0 ⟨k.val, by omega⟩ j) := by
    rw [h]
    pointwise [bat, pos]
  refine Eq.trans (congrArg (V m c main_v2 : Vec I S512x1024 .bf16) ?_) e
  blk_ext [idx t]

/-- The scan output's projection. -/
theorem blk6 (t : Fin cfg0.N) (k : Fin 512) (j : Fin 1024) : (iblk m c 6 t : Vec I S512x1024 .bf16) (ix2 k j) = (args m c).w (ix3 0 ⟨512 + k.val, by omega⟩ j) := by
  have h : (V m c main_v5 : Vec I S512x1024 .bf16) = truncf .bf16 (extractStridedSlice S512x1024 ![512, 0] (shapeCast S1024x1024 (args m c).w shapeCasts_S1x1024x1024_S1024x1024) slices_S1024x1024_S512x1024_512_0) bitsLt_bf16_f32 := by
    simp only [V, List.flatten_cons, List.flatten_nil, hostOps0, List.cons_append, List.nil_append]
    after_results
    rfl
  have e : (V m c main_v5 : Vec I S512x1024 .bf16) (ix2 k j) = (args m c).w (ix3 0 ⟨512 + k.val, by omega⟩ j) := by
    rw [h]
    pointwise [bat, pos]
  refine Eq.trans (congrArg (V m c main_v5 : Vec I S512x1024 .bf16) ?_) e
  blk_ext [idx t]

/-- The gain before the cross-attention. -/
theorem blk7 (t : Fin cfg0.N) (j : Fin 1024) : (iblk m c 7 t : Vec I S1x1024 .f32) (ix2 0 j) = (args m c).gx (ix2 0 j) := by
  have h : (V m c main_v7 : Vec I S1x1024 .f32) = shapeCast S1x1024 (shapeCast S1024 (args m c).gx shapeCasts_S1x1024_S1024) shapeCasts_S1024_S1x1024 := by
    simp only [V, List.flatten_cons, List.flatten_nil, hostOps0, List.cons_append, List.nil_append]
    after_results
    rfl
  have e : (V m c main_v7 : Vec I S1x1024 .f32) (ix2 0 j) = (args m c).gx (ix2 0 j) := by
    rw [h]
    pointwise [bat, pos]
  refine Eq.trans (congrArg (V m c main_v7 : Vec I S1x1024 .f32) ?_) e
  blk_ext [idx t]

/-- The query projection. -/
theorem blk8 (t : Fin cfg0.N) (j : Fin 1024) (k : Fin 512) : (iblk m c 8 t : Vec I S1024x512 .bf16) (ix2 j k) = (args m c).wq (ix3 0 j k) := by
  have h : (V m c main_v9 : Vec I S1024x512 .bf16) = truncf .bf16 (shapeCast S1024x512 (args m c).wq shapeCasts_S1x1024x512_S1024x512) bitsLt_bf16_f32 := by
    simp only [V, List.flatten_cons, List.flatten_nil, hostOps0, List.cons_append, List.nil_append]
    after_results
    rfl
  have e : (V m c main_v9 : Vec I S1024x512 .bf16) (ix2 j k) = (args m c).wq (ix3 0 j k) := by
    rw [h]
    pointwise [bat, pos]
  refine Eq.trans (congrArg (V m c main_v9 : Vec I S1024x512 .bf16) ?_) e
  blk_ext [idx t]

/-- The queries' gain. -/
theorem blk9 (t : Fin cfg0.N) (d : Fin 128) : (iblk m c 9 t : Vec I S1x128 .f32) (ix2 0 d) = (args m c).gq (ix2 0 d) := by
  have h : (V m c main_v11 : Vec I S1x128 .f32) = shapeCast S1x128 (shapeCast S128 (args m c).gq shapeCasts_S1x128_S128) shapeCasts_S128_S1x128 := by
    simp only [V, List.flatten_cons, List.flatten_nil, hostOps0, List.cons_append, List.nil_append]
    after_results
    rfl
  have e : (V m c main_v11 : Vec I S1x128 .f32) (ix2 0 d) = (args m c).gq (ix2 0 d) := by
    rw [h]
    pointwise [bat, pos]
  refine Eq.trans (congrArg (V m c main_v11 : Vec I S1x128 .f32) ?_) e
  blk_ext [idx t]

/-- The cross-attention's output projection. -/
theorem blk10 (t : Fin cfg0.N) (k : Fin 512) (j : Fin 1024) : (iblk m c 10 t : Vec I S512x1024 .bf16) (ix2 k j) = (args m c).wo (ix3 0 k j) := by
  have h : (V m c main_v13 : Vec I S512x1024 .bf16) = truncf .bf16 (shapeCast S512x1024 (args m c).wo shapeCasts_S1x512x1024_S512x1024) bitsLt_bf16_f32 := by
    simp only [V, List.flatten_cons, List.flatten_nil, hostOps0, List.cons_append, List.nil_append]
    after_results
    rfl
  have e : (V m c main_v13 : Vec I S512x1024 .bf16) (ix2 k j) = (args m c).wo (ix3 0 k j) := by
    rw [h]
    pointwise [bat, pos]
  refine Eq.trans (congrArg (V m c main_v13 : Vec I S512x1024 .bf16) ?_) e
  blk_ext [idx t]

/-- The gain before the feed-forward part. -/
theorem blk11 (t : Fin cfg0.N) (j : Fin 1024) : (iblk m c 11 t : Vec I S1x1024 .f32) (ix2 0 j) = (args m c).gm (ix2 0 j) := by
  have h : (V m c main_v15 : Vec I S1x1024 .f32) = shapeCast S1x1024 (shapeCast S1024 (args m c).gm shapeCasts_S1x1024_S1024) shapeCasts_S1024_S1x1024 := by
    simp only [V, List.flatten_cons, List.flatten_nil, hostOps0, List.cons_append, List.nil_append]
    after_results
    rfl
  have e : (V m c main_v15 : Vec I S1x1024 .f32) (ix2 0 j) = (args m c).gm (ix2 0 j) := by
    rw [h]
    pointwise [bat, pos]
  refine Eq.trans (congrArg (V m c main_v15 : Vec I S1x1024 .f32) ?_) e
  blk_ext [idx t]

/-- The way up. -/
theorem blk12 (t : Fin cfg0.N) (j : Fin 1024) (f : Fin 4096) : (iblk m c 12 t : Vec I S1024x4096 .bf16) (ix2 j f) = (args m c).wu (ix3 0 j f) := by
  have h : (V m c main_v17 : Vec I S1024x4096 .bf16) = truncf .bf16 (shapeCast S1024x4096 (args m c).wu shapeCasts_S1x1024x4096_S1024x4096) bitsLt_bf16_f32 := by
    simp only [V, List.flatten_cons, List.flatten_nil, hostOps0, List.cons_append, List.nil_append]
    after_results
    rfl
  have e : (V m c main_v17 : Vec I S1024x4096 .bf16) (ix2 j f) = (args m c).wu (ix3 0 j f) := by
    rw [h]
    pointwise [bat, pos]
  refine Eq.trans (congrArg (V m c main_v17 : Vec I S1024x4096 .bf16) ?_) e
  blk_ext [idx t]

/-- The way down. -/
theorem blk13 (t : Fin cfg0.N) (f : Fin 4096) (j : Fin 1024) : (iblk m c 13 t : Vec I S4096x1024 .bf16) (ix2 f j) = (args m c).wd (ix3 0 f j) := by
  have h : (V m c main_v19 : Vec I S4096x1024 .bf16) = truncf .bf16 (shapeCast S4096x1024 (args m c).wd shapeCasts_S1x4096x1024_S4096x1024) bitsLt_bf16_f32 := by
    simp only [V, List.flatten_cons, List.flatten_nil, hostOps0, List.cons_append, List.nil_append]
    after_results
    rfl
  have e : (V m c main_v19 : Vec I S4096x1024 .bf16) (ix2 f j) = (args m c).wd (ix3 0 f j) := by
    rw [h]
    pointwise [bat, pos]
  refine Eq.trans (congrArg (V m c main_v19 : Vec I S4096x1024 .bf16) ?_) e
  blk_ext [idx t]

/-- The blocks as they are loaded. -/
def cut (x0 : Vec I S512x1024 .f32) (x1 x2 : Vec I S512x512 .bf16) (x3 x4 : Vec I S1x256x512 .f32) (x5 x6 : Vec I S512x1024 .bf16)
    (x7 : Vec I S1x1024 .f32) (x8 : Vec I S1024x512 .bf16) (x9 : Vec I S1x128 .f32) (x10 : Vec I S512x1024 .bf16) (x11 : Vec I S1x1024 .f32)
    (x12 : Vec I S1024x4096 .bf16) (x13 : Vec I S4096x1024 .bf16) : Blk where
  x := View.ld x0 r0_0
  a := View.ld x1 r0_1
  y := View.ld x2 r0_1
  key := ![View.ld x3 r0_5, View.ld x3 r0_6, View.ld x3 r0_7, View.ld x3 r0_8]
  val := ![View.ld x4 r0_5, View.ld x4 r0_6, View.ld x4 r0_7, View.ld x4 r0_8]
  wa := View.ld x5 r0_0
  wy := View.ld x6 r0_0
  gx := View.ld x7 r0_2
  wq := View.ld x8 r0_3
  gq := View.ld x9 r0_4
  wo := View.ld x10 r0_0
  gm := View.ld x11 r0_2
  wu := ![View.ld x12 r0_9, View.ld x12 r0_11, View.ld x12 r0_13, View.ld x12 r0_15]
  wd := ![View.ld x13 r0_10, View.ld x13 r0_12, View.ld x13 r0_14, View.ld x13 r0_16]

/-- What a grid point leaves is the output block of the blocks it loads. -/
theorem out_cut (x0 : Vec I S512x1024 .f32) (x1 x2 : Vec I S512x512 .bf16) (x3 x4 : Vec I S1x256x512 .f32) (x5 x6 : Vec I S512x1024 .bf16)
    (x7 : Vec I S1x1024 .f32) (x8 : Vec I S1024x512 .bf16) (x9 : Vec I S1x128 .f32) (x10 : Vec I S512x1024 .bf16) (x11 : Vec I S1x1024 .f32)
    (x12 : Vec I S1024x4096 .bf16) (x13 : Vec I S4096x1024 .bf16) :
    out0_14 x0 x1 x2 x3 x4 x5 x6 x7 x8 x9 x10 x11 x12 x13 = out (cut x0 x1 x2 x3 x4 x5 x6 x7 x8 x9 x10 x11 x12 x13) := by
  unfold_out out0_14
  refine (View.canon_cons_unit_lit _ _ _ (by decide)).trans ?_
  rfl

/-- The memory keys or values of a head, as they are loaded. -/
theorem ld_head (x : Vec I S1x256x512 .f32) (h : Fin 4) (u : Fin 256) (d : Fin 128) :
    (![View.ld x r0_5, View.ld x r0_6, View.ld x r0_7, View.ld x r0_8] : Fin 4 → Vec I S1x256x128 .f32) h (ix3 0 u d)
      = x (ix3 0 u ⟨128 * h.val + d.val, by omega⟩) := by
  fin_cases h <;> (show x _ = x _; congr 1; funext a; fin_cases a <;> (ext; simp <;> rfl))

/-- A chunk of the way up, as it is loaded. -/
theorem ld_up (x : Vec I S1024x4096 .bf16) (h : Fin 4) (j f : Fin 1024) :
    (![View.ld x r0_9, View.ld x r0_11, View.ld x r0_13, View.ld x r0_15] : Fin 4 → Vec I S1024x1024 .bf16) h (ix2 j f)
      = x (ix2 j ⟨1024 * h.val + f.val, by omega⟩) := by
  fin_cases h <;> (show x _ = x _; congr 1; funext a; fin_cases a <;> (ext; simp <;> rfl))

/-- A chunk of the way down, as it is loaded. -/
theorem ld_down (x : Vec I S4096x1024 .bf16) (h : Fin 4) (f j : Fin 1024) :
    (![View.ld x r0_10, View.ld x r0_12, View.ld x r0_14, View.ld x r0_16] : Fin 4 → Vec I S1024x1024 .bf16) h (ix2 f j)
      = x (ix2 ⟨1024 * h.val + f.val, by omega⟩ j) := by
  fin_cases h <;> (show x _ = x _; congr 1; funext a; fin_cases a <;> (ext; simp <;> rfl))

/-- A whole block is loaded as it is. -/
theorem ld0 {e : EltTy} (x : Vec I S512x1024 e) (i : S512x1024.Idx) : (View.ld x r0_0 : Vec I S512x1024 e) i = x i :=
  congrFun (View.ld_unit_lit _ x (by decide)) i
/-- A whole block is loaded as it is. -/
theorem ld1 {e : EltTy} (x : Vec I S512x512 e) (i : S512x512.Idx) : (View.ld x r0_1 : Vec I S512x512 e) i = x i :=
  congrFun (View.ld_unit_lit _ x (by decide)) i
/-- A whole block is loaded as it is. -/
theorem ld2 {e : EltTy} (x : Vec I S1x1024 e) (i : S1x1024.Idx) : (View.ld x r0_2 : Vec I S1x1024 e) i = x i :=
  congrFun (View.ld_unit_lit _ x (by decide)) i
/-- A whole block is loaded as it is. -/
theorem ld3 {e : EltTy} (x : Vec I S1024x512 e) (i : S1024x512.Idx) : (View.ld x r0_3 : Vec I S1024x512 e) i = x i :=
  congrFun (View.ld_unit_lit _ x (by decide)) i
/-- A whole block is loaded as it is. -/
theorem ld4 {e : EltTy} (x : Vec I S1x128 e) (i : S1x128.Idx) : (View.ld x r0_4 : Vec I S1x128 e) i = x i :=
  congrFun (View.ld_unit_lit _ x (by decide)) i

set_option maxHeartbeats 2000000 in
/-- A grid point's rows are the arguments' rows. -/
theorem rows (t : Fin cfg0.N) (r : Fin 512) :
    rowOf (cut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) r = PRef.rowA (args m c) (bat t r) (pos t r) := by
  have hb : (⟨t.val / 4, by have := lt32 t; omega⟩ : Fin 8) = bat t r := by
    ext
    show t.val / 4 = (512 * t.val + r.val) / 2048
    omega
  unfold rowOf PRef.rowA
  congr 1
  · funext j; exact (ld0 _ _).trans (blk0 m c t r j)
  · funext k; exact (ld1 _ _).trans (blk1 m c t r k)
  · funext k; exact (ld1 _ _).trans (blk2 m c t r k)
  · funext h u d
    refine (ld_head _ h u d).trans ((blk3 m c t u _).trans ?_)
    rw [hb]
    congr 2 <;> (ext; simp <;> omega)
  · funext h u d
    refine (ld_head _ h u d).trans ((blk4 m c t u _).trans ?_)
    rw [hb]
    congr 2 <;> (ext; simp <;> omega)
  · funext k j; exact (ld0 _ _).trans (blk5 m c t k j)
  · funext k j; exact (ld0 _ _).trans (blk6 m c t k j)
  · funext j; exact (ld2 _ _).trans (blk7 m c t j)
  · funext j k; exact (ld3 _ _).trans (blk8 m c t j k)
  · funext d; exact (ld4 _ _).trans (blk9 m c t d)
  · funext k j; exact (ld0 _ _).trans (blk10 m c t k j)
  · funext j; exact (ld2 _ _).trans (blk11 m c t j)
  · funext j f
    refine (ld_up _ ⟨f.val / 1024, by omega⟩ j ⟨f.val % 1024, by omega⟩).trans ((blk12 m c t j _).trans ?_)
    congr 2; ext; simp <;> omega
  · funext f j
    refine (ld_down _ ⟨f.val / 1024, by omega⟩ ⟨f.val % 1024, by omega⟩ j).trans ((blk13 m c t _ j).trans ?_)
    congr 2; ext; simp <;> omega

end Cert.PBlocks

end
-- ==== Proof.PPre.lean ====
module

public import proofs.«01_k».proof.Proof.PRef
public import proofs.«01_k».proof.Pre_scores_finite
public import Idealize.ShloMosaic.Lib.Pointwise

/-! What the precondition says: the arguments the attention scores are computed of are real. -/

@[expose] public section

set_option maxRecDepth 16384

noncomputable section

namespace Cert.PPre

open Idealize.ShloMosaic Idealize.ShloMosaic.TcCoe Idealize.SL.Sem
open Cert.Pre_scores_finite Cert.PSpec

/-- The exact values. -/
abbrev I := Idealize.ShloMosaic.Ideal

variable [Facts]
open Facts

/-- A joined row of masks is all ones only if each mask is. -/
theorem cat (m0 : IVec S16777216 1) (m1 : IVec S8388608 1) (m2 : IVec S8388608 1) (m3 : IVec S1048576 1) (m4 : IVec S1048576 1) (m5 : IVec S1024 1) (m6 : IVec S524288 1) (m7 : IVec S128 1)
    (h : ∀ i, concatenate S36177024 0 [⟨S16777216, m0⟩, ⟨S8388608, m1⟩, ⟨S8388608, m2⟩, ⟨S1048576, m3⟩, ⟨S1048576, m4⟩, ⟨S1024, m5⟩, ⟨S524288, m6⟩, ⟨S128, m7⟩] concatenates_S16777216_S8388608_S8388608_S1048576_S1048576_S1024_S524288_S128_S36177024_d0 i = 1#1) :
    (∀ k, m0 (ix1 k) = 1#1)
    ∧ (∀ k, m1 (ix1 k) = 1#1)
    ∧ (∀ k, m2 (ix1 k) = 1#1)
    ∧ (∀ k, m3 (ix1 k) = 1#1)
    ∧ (∀ k, m4 (ix1 k) = 1#1)
    ∧ (∀ k, m5 (ix1 k) = 1#1)
    ∧ (∀ k, m6 (ix1 k) = 1#1)
    ∧ (∀ k, m7 (ix1 k) = 1#1) := by
  refine ⟨fun k => ?_, fun k => ?_, fun k => ?_, fun k => ?_, fun k => ?_, fun k => ?_, fun k => ?_, fun k => ?_⟩
  · have e := h (ix1 ⟨0 + k.val, by omega⟩)
    pointwise [] at e
    repeat rw [dif_neg (by omega)] at e
    try rw [dif_pos (by omega)] at e
    exact e
  · have e := h (ix1 ⟨16777216 + k.val, by omega⟩)
    pointwise [] at e
    repeat rw [dif_neg (by omega)] at e
    try rw [dif_pos (by omega)] at e
    exact e
  · have e := h (ix1 ⟨25165824 + k.val, by omega⟩)
    pointwise [] at e
    repeat rw [dif_neg (by omega)] at e
    try rw [dif_pos (by omega)] at e
    exact Eq.trans (congrArg (fun z => m2 (ix1 z)) (Fin.ext (by dsimp only; omega))) e
  · have e := h (ix1 ⟨33554432 + k.val, by omega⟩)
    pointwise [] at e
    repeat rw [dif_neg (by omega)] at e
    try rw [dif_pos (by omega)] at e
    exact Eq.trans (congrArg (fun z => m3 (ix1 z)) (Fin.ext (by dsimp only; omega))) e
  · have e := h (ix1 ⟨34603008 + k.val, by omega⟩)
    pointwise [] at e
    repeat rw [dif_neg (by omega)] at e
    try rw [dif_pos (by omega)] at e
    exact Eq.trans (congrArg (fun z => m4 (ix1 z)) (Fin.ext (by dsimp only; omega))) e
  · have e := h (ix1 ⟨35651584 + k.val, by omega⟩)
    pointwise [] at e
    repeat rw [dif_neg (by omega)] at e
    try rw [dif_pos (by omega)] at e
    exact Eq.trans (congrArg (fun z => m5 (ix1 z)) (Fin.ext (by dsimp only; omega))) e
  · have e := h (ix1 ⟨35652608 + k.val, by omega⟩)
    pointwise [] at e
    repeat rw [dif_neg (by omega)] at e
    try rw [dif_pos (by omega)] at e
    exact Eq.trans (congrArg (fun z => m6 (ix1 z)) (Fin.ext (by dsimp only; omega))) e
  · have e := h (ix1 ⟨36176896 + k.val, by omega⟩)
    pointwise [] at e
    repeat rw [dif_neg (by omega)] at e
    exact Eq.trans (congrArg (fun z => m7 (ix1 z)) (Fin.ext (by dsimp only; omega))) e

/-- A value whose magnitude is below infinity is real. -/
theorem real_of {φ : FTy} (v : I φ) (h : BitVec.ofBool (decide (FloatOps.absf v < Ideal.ofBits .f32 2139095040#32)) = 1#1) : IsReal v := by
  have ht : Ideal.ofBits .f32 2139095040#32 = (⊤ : EReal) := by simp [Ideal.ofBits, Ideal.ieee]
  rw [ht] at h
  have hv : max v (-v) < (⊤ : EReal) := by
    by_contra hn
    have : decide (FloatOps.absf v < (⊤ : EReal)) = false := decide_eq_false hn
    rw [this] at h
    exact absurd h (by decide)
  have h1 : (v : EReal) ≠ ⊤ := ((le_max_left _ _).trans_lt hv).ne
  have h2 : (v : EReal) ≠ ⊥ := fun e => by
    have := (le_max_right v (-v)).trans_lt hv
    rw [e] at this
    exact absurd this (by simp)
  exact ⟨EReal.toReal v, (EReal.coe_toReal h1 h2).symm⟩

/-- Under the precondition, every row's part of the scores is real. -/
theorem real (A : PRef.Args) (h : ∀ i, fn (F := I) A.x A.a A.y A.key A.val A.w A.gx A.wq A.gq A.wo A.gm A.wu A.wd i = 1#1)
    (b : Fin 8) (t : Fin 2048) : (PRef.rowA A b t).Real := by
  unfold fn fn_part1 at h
  obtain ⟨h0, h1, h2, h3, h4, h5, h6, h7⟩ := cat _ _ _ _ _ _ _ _ h
  have hw : ∀ i j, IsReal (A.w (ix3 0 i j)) := fun i j => by
    have e := h4 ⟨i.val * 1024 + j.val, by omega⟩
    pointwise [] at e
    exact real_of _ e
  constructor
  · intro j
    have e := h0 ⟨(b.val * 2048 + t.val) * 1024 + j.val, by omega⟩
    pointwise [] at e
    exact real_of _ e
  · intro k
    have e := h1 ⟨(b.val * 2048 + t.val) * 512 + k.val, by omega⟩
    pointwise [] at e
    exact real_of _ e
  · intro k
    have e := h2 ⟨(b.val * 2048 + t.val) * 512 + k.val, by omega⟩
    pointwise [] at e
    exact real_of _ e
  · intro h m d
    have e := h3 ⟨((b.val * 256 + m.val) * 4 + h.val) * 128 + d.val, by omega⟩
    pointwise [] at e
    exact real_of _ e
  · exact fun k j => hw _ j
  · exact fun k j => hw _ j
  · intro j
    have e := h5 ⟨j.val, by omega⟩
    pointwise [] at e
    exact real_of _ e
  · intro j k
    have e := h6 ⟨j.val * 512 + k.val, by omega⟩
    pointwise [] at e
    exact real_of _ e
  · intro d
    have e := h7 ⟨d.val, by omega⟩
    pointwise [] at e
    exact real_of _ e

end Cert.PPre

end
-- ==== Proof.PEnds.lean ====
module

public import proofs.«01_k».proof.Proof.PBlocks
public import proofs.«01_k».proof.Proof.PPre
public import proofs.«01_k».proof.Proof.Gen.Reference2Ideal.Run

/-! The kernel's rows after the mixers are the reference's. -/

@[expose] public section

set_option maxRecDepth 16384

noncomputable section

namespace Cert.PEnds

open Idealize.ShloMosaic Idealize.ShloMosaic.TcCoe Idealize.SL Idealize.SL.Sem
open Cert.Kernel2Ideal Cert.Kernel2Ideal.Gen Cert.Kernel2Ideal.Value Cert.PSpec Cert.PVal Cert.PBlocks

variable (m : (ℓ : Loc nD τ sig) → Buf (Elt I) ℓ) (c : Dev nD)

/-- Every grid point writes its block back. -/
theorem flush14 (t : Fin cfg0.N) : (cfg0.win 14).flush t = true := by
  revert t; decide +kernel

/-- Which block a grid point writes. -/
theorem idx14 (t : Fin cfg0.N) : win0_14.index t = ![t.val, 0] := by
  revert t; decide +kernel

/-- The kernel's result, at a grid point's row. -/
theorem res (t : Fin cfg0.N) (r : Fin 512) (j : Fin 1024) :
    ((dats m 0 c).arrAt 14 cfg0.N : Vec I S16384x1024 .f32) (ix2 ⟨512 * t.val + r.val, by have := lt32 t; omega⟩ j)
      = outK (PRef.rowA (args m c) (bat t r) (pos t r))
        (x2 (PRef.rowA (args m c) (bat t r) (pos t r)) (oK (PRef.rowA (args m c) (bat t r) (pos t r)))) j := by
  rw [← rows m c t r, ← out_apply, ← out_cut]
  have e := (blocks14 m c t (flush14 t)).trans (flushed14 m c t)
  refine Eq.trans ?_ (congrFun e (ix2 r j))
  show _ = ((dats m 0 c).arrAt 14 cfg0.N : Vec I S16384x1024 .f32) _
  congr 1
  blk_ext [idx14 t]

/-- The reference's result, at a grid point's row. -/
theorem ref (A : PRef.Args) (t : Fin cfg0.N) (r : Fin 512) (j : Fin 1024) :
    Cert.Reference2Ideal.Read.val_main_v77 (F := I) A.x A.a A.y A.key A.val A.w A.gx A.wq A.gq A.wo A.gm A.wu A.wd (ix2 ⟨512 * t.val + r.val, by have := lt32 t; omega⟩ j)
      = outR (PRef.rowA A (bat t r) (pos t r)) (x2 (PRef.rowA A (bat t r) (pos t r)) (oR (PRef.rowA A (bat t r) (pos t r)))) j := by
  refine Eq.trans (congrArg (fun i => Cert.Reference2Ideal.Read.val_main_v77 (F := I) A.x A.a A.y A.key A.val A.w A.gx A.wq A.gq A.wo A.gm A.wu A.wd (ix2 i j)) ?_) (PRef.v77_apply A (bat t r) (pos t r) j)
  ext
  show 512 * t.val + r.val = (512 * t.val + r.val) / 2048 * 2048 + (512 * t.val + r.val) % 2048
  omega

/-- Under the precondition, the kernel's result is the reference's. -/
theorem same [Cert.Pre_scores_finite.Facts] (A : PRef.Args) (hA : A = args m c)
    (H : ∀ i, Cert.Pre_scores_finite.fn (F := I) A.x A.a A.y A.key A.val A.w A.gx A.wq A.gq A.wo A.gm A.wu A.wd i = 1#1) :
    ((dats m 0 c).arrAt 14 cfg0.N : Vec I S16384x1024 .f32) = Cert.Reference2Ideal.Read.val_main_v77 (F := I) A.x A.a A.y A.key A.val A.w A.gx A.wq A.gq A.wo A.gm A.wu A.wd := by
  funext i
  idx_vars i
  rename' i0 => n, i1 => j
  have hN : n.val / 512 < cfg0.N := by rw [show cfg0.N = 32 from N_0]; omega
  have hn : n = ⟨512 * (n.val / 512) + n.val % 512, by omega⟩ := by
    ext
    show n.val = 512 * (n.val / 512) + n.val % 512
    omega
  rw [hn]
  refine (res m c ⟨n.val / 512, hN⟩ ⟨n.val % 512, by omega⟩ j).trans ((ref A ⟨n.val / 512, hN⟩ ⟨n.val % 512, by omega⟩ j).trans ?_).symm
  rw [← hA]
  exact (row_eq _ (PPre.real A H _ _) j).symm

/-- The arguments, out of the reference's memory. -/
def argsR (m : (ℓ : Loc Cert.Reference2Ideal.nD Cert.Reference2Ideal.τ Cert.Reference2Ideal.sig) → Buf (Elt I) ℓ) (c : Dev Cert.Reference2Ideal.nD) :
    PRef.Args where
  x := m ((c.tc : Thread Cert.Reference2Ideal.nD Cert.Reference2Ideal.τ).loc Cert.Reference2Ideal.main_arg0)
  a := m ((c.tc : Thread Cert.Reference2Ideal.nD Cert.Reference2Ideal.τ).loc Cert.Reference2Ideal.main_arg1)
  y := m ((c.tc : Thread Cert.Reference2Ideal.nD Cert.Reference2Ideal.τ).loc Cert.Reference2Ideal.main_arg2)
  key := m ((c.tc : Thread Cert.Reference2Ideal.nD Cert.Reference2Ideal.τ).loc Cert.Reference2Ideal.main_arg3)
  val := m ((c.tc : Thread Cert.Reference2Ideal.nD Cert.Reference2Ideal.τ).loc Cert.Reference2Ideal.main_arg4)
  w := m ((c.tc : Thread Cert.Reference2Ideal.nD Cert.Reference2Ideal.τ).loc Cert.Reference2Ideal.main_arg5)
  gx := m ((c.tc : Thread Cert.Reference2Ideal.nD Cert.Reference2Ideal.τ).loc Cert.Reference2Ideal.main_arg6)
  wq := m ((c.tc : Thread Cert.Reference2Ideal.nD Cert.Reference2Ideal.τ).loc Cert.Reference2Ideal.main_arg7)
  gq := m ((c.tc : Thread Cert.Reference2Ideal.nD Cert.Reference2Ideal.τ).loc Cert.Reference2Ideal.main_arg8)
  wo := m ((c.tc : Thread Cert.Reference2Ideal.nD Cert.Reference2Ideal.τ).loc Cert.Reference2Ideal.main_arg9)
  gm := m ((c.tc : Thread Cert.Reference2Ideal.nD Cert.Reference2Ideal.τ).loc Cert.Reference2Ideal.main_arg10)
  wu := m ((c.tc : Thread Cert.Reference2Ideal.nD Cert.Reference2Ideal.τ).loc Cert.Reference2Ideal.main_arg11)
  wd := m ((c.tc : Thread Cert.Reference2Ideal.nD Cert.Reference2Ideal.τ).loc Cert.Reference2Ideal.main_arg12)

end Cert.PEnds

end
-- ==== Proof.QVal.lean ====
module

public import proofs.«01_k».proof.Proof.PSpec
public import proofs.«01_k».proof.Proof.Gen.Kernel4Ideal.Value
public import Idealize.ShloMosaic.Lib.Pointwise
public import Idealize.ShloMosaic.Lib.IdealHost
public import Idealize.ShloMosaic.Lib.Pipeline.ValueKit

/-! The input projection's rows as mathematics, and the blocks the kernel computes of them. -/

@[expose] public section

set_option maxRecDepth 16384

noncomputable section

namespace Cert.QVal

open Idealize.ShloMosaic Cert.Kernel4Ideal Cert.Kernel4Ideal.Gen Cert.PSpec

/-- The exact values. -/
abbrev I := Idealize.ShloMosaic.Ideal

/-- The width of a head of the mixer's attention. -/
abbrev cA : EReal := Ideal.ofBits FTy.f32 1115684864#32

/-- A normalized row's product with a column. -/
def pr (x g w : Fin 1024 → EReal) : EReal := ∑ j, rms cD x g j * w j

/-- The factors may be taken the other way round. -/
theorem pr_comm (x g w : Fin 1024 → EReal) : ∑ j, w j * rms cD x g j = pr x g w :=
  Finset.sum_congr rfl fun _ _ => mul_comm _ _

/-- A head turned by its angles. -/
def rot (p : Fin 64 → EReal) (co si : Fin 32 → EReal) (d : Fin 64) : EReal :=
  if h : d.val < 32 then p ⟨d.val, by omega⟩ * co ⟨d.val, h⟩ - p ⟨32 + d.val, by omega⟩ * si ⟨d.val, h⟩
  else p ⟨32 + (d.val - 32), by omega⟩ * co ⟨d.val - 32, by omega⟩ + p ⟨d.val - 32, by omega⟩ * si ⟨d.val - 32, by omega⟩

/-- The head of a lane. -/
abbrev ah (k : Fin 512) : Fin 8 := ⟨k.val / 64, by omega⟩
/-- The place of a lane in its head. -/
abbrev al (k : Fin 512) : Fin 64 := ⟨k.val % 64, by omega⟩
/-- A head's lane among all heads. -/
abbrev alane (a : Fin 8) (e : Fin 64) : Fin 512 := ⟨a.val * 64 + e.val, by omega⟩

/-- The normalized rows. -/
theorem pay1_apply (x : Vec I S512x1024 .f32) (g : Vec I S1x1024 .f32) (r : Fin 512) (j : Fin 1024) :
    k0_pay1 x g (ix2 r j) = rms cD (fun j => x (ix2 r j)) (fun j => g (ix2 0 j)) j := by
  pointwise [k0_pay1]
  rfl

/-- The normalized heads, a head's places down and the rows across. -/
theorem pay4_apply (x : Vec I S512x1024 .f32) (g : Vec I S1x1024 .f32) (w : Vec I S512x1024 .bf16) (gq : Vec I S64x1 .f32)
    (a : Fin 8) (e : Fin 64) (r : Fin 512) :
    k0_pay4 x g w gq (ix3 a e r) = rms cA (fun e => pr (fun j => x (ix2 r j)) (fun j => g (ix2 0 j)) (fun j => w (ix2 (alane a e) j)))
      (fun e => gq (ix2 e 0)) e := by
  pointwise [k0_pay4]
  simp only [pay1_apply, pr_comm]
  rfl

/-- The turned heads. -/
theorem pay5_apply (co si : FVec I S32x512 .f32) (p : FVec I S8x64x512 .f32) (k r : Fin 512) :
    k0_pay5 co si p (ix3 0 k r) = rot (fun e => p (ix3 (ah k) e r)) (fun d => co (ix2 d r)) (fun d => si (ix2 d r)) (al k) := by
  pointwise [k0_pay5]
  rfl

/-- The keys go through the same steps as the queries. -/
theorem pay11_eq (x : Vec I S512x1024 .f32) (g : Vec I S1x1024 .f32) (w : Vec I S512x1024 .bf16) (gk : Vec I S64x1 .f32) (co si : FVec I S32x512 .f32) :
    k0_pay11 co si (k0_pay7 (k0_pay1 x g) w gk) (k0_pay8 (k0_pay1 x g) w gk) (k0_pay9 (k0_pay1 x g) co w gk) (k0_pay10 (k0_pay1 x g) si w gk)
      = k0_pay5 co si (k0_pay4 x g w gk) := rfl

/-- The values, the lanes down and the rows across. -/
theorem pay12_apply (x : Vec I S512x1024 .f32) (g : Vec I S1x1024 .f32) (w : Vec I S512x1024 .bf16) (k r : Fin 512) :
    k0_pay12 (k0_pay1 x g) w (ix3 0 k r) = pr (fun j => x (ix2 r j)) (fun j => g (ix2 0 j)) (fun j => w (ix2 k j)) := by
  pointwise [k0_pay12]
  simp only [pay1_apply, pr_comm]

/-- The gates. -/
theorem pay13_apply (x : Vec I S512x1024 .f32) (g : Vec I S1x1024 .f32) (w : Vec I S512x1024 .bf16) (r k : Fin 512) :
    k0_pay13 (k0_pay1 x g) w (ix2 r k) = pr (fun j => x (ix2 r j)) (fun j => g (ix2 0 j)) (fun j => w (ix2 k j)) := by
  pointwise [k0_pay13]
  simp only [pay1_apply]
  rfl

/-- The scan's inputs. -/
theorem pay14_apply (x : Vec I S512x1024 .f32) (g : Vec I S1x1024 .f32) (w : Vec I S1024x1024 .bf16) (r : Fin 512) (k : Fin 1024) :
    k0_pay14 (k0_pay1 x g) w (ix2 r k) = pr (fun j => x (ix2 r j)) (fun j => g (ix2 0 j)) (fun j => w (ix2 k j)) := by
  pointwise [k0_pay14]
  simp only [pay1_apply]
  rfl

/-- The steps, one lane for each head and the rest unused. -/
theorem pay15_apply (x : Vec I S512x1024 .f32) (g : Vec I S1x1024 .f32) (w : Vec I S128x1024 .bf16) (r : Fin 512) (k : Fin 128) :
    k0_pay15 (k0_pay1 x g) w (ix2 r k) = pr (fun j => x (ix2 r j)) (fun j => g (ix2 0 j)) (fun j => w (ix2 k j)) := by
  pointwise [k0_pay15]
  simp only [pay1_apply]
  rfl

variable (x0 : Vec I S512x1024 .f32) (x1 : Vec I S1x1024 .f32) (x2 x3 : Vec I S1536x1024 .bf16) (x4 : Vec I S128x1024 .bf16)
  (x5 x6 : Vec I S64x128 .f32) (x7 x8 : Vec I S32x512 .f32)

/-- All rows are loaded as they are. -/
theorem ld0 (i : S512x1024.Idx) : (View.ld x0 r0_0 : Vec I S512x1024 .f32) i = x0 i := congrFun (View.ld_unit_lit _ x0 (by decide)) i
/-- The gain is loaded as it is. -/
theorem ld1 (i : S1x1024.Idx) : (View.ld x1 r0_1 : Vec I S1x1024 .f32) i = x1 i := congrFun (View.ld_unit_lit _ x1 (by decide)) i
/-- A table is loaded as it is. -/
theorem ld2 (i : S32x512.Idx) : (View.ld x7 r0_2 : Vec I S32x512 .f32) i = x7 i := congrFun (View.ld_unit_lit _ x7 (by decide)) i
/-- The padded weights are loaded as they are. -/
theorem ld10 (i : S128x1024.Idx) : (View.ld x4 r0_10 : Vec I S128x1024 .bf16) i = x4 i := congrFun (View.ld_unit_lit _ x4 (by decide)) i
/-- The first rows of weights. -/
theorem ld3 (k : Fin 512) (j : Fin 1024) : (View.ld x2 r0_3 : Vec I S512x1024 .bf16) (ix2 k j) = x2 (ix2 ⟨k.val, by omega⟩ j) := by
  show x2 _ = x2 _; congr 1; funext a; fin_cases a <;> (ext; simp <;> rfl)
/-- The second rows of weights. -/
theorem ld6 (k : Fin 512) (j : Fin 1024) : (View.ld x2 r0_6 : Vec I S512x1024 .bf16) (ix2 k j) = x2 (ix2 ⟨512 + k.val, by omega⟩ j) := by
  show x2 _ = x2 _; congr 1; funext a; fin_cases a <;> (ext; simp <;> rfl)
/-- The third rows of weights. -/
theorem ld7 (k : Fin 512) (j : Fin 1024) : (View.ld x2 r0_7 : Vec I S512x1024 .bf16) (ix2 k j) = x2 (ix2 ⟨1024 + k.val, by omega⟩ j) := by
  show x2 _ = x2 _; congr 1; funext a; fin_cases a <;> (ext; simp <;> rfl)
/-- The rows of weights after the first. -/
theorem ld9 (k j : Fin 1024) : (View.ld x3 r0_9 : Vec I S1024x1024 .bf16) (ix2 k j) = x3 (ix2 ⟨512 + k.val, by omega⟩ j) := by
  show x3 _ = x3 _; congr 1; funext a; fin_cases a <;> (ext; simp <;> rfl)
/-- A gain's first column. -/
theorem ld4 (e : Fin 64) : (View.ld x5 r0_4 : Vec I S64x1 .f32) (ix2 e 0) = x5 (ix2 e 0) := by
  show x5 _ = x5 _; congr 1; funext a; fin_cases a <;> (ext; simp <;> rfl)

/-- The queries' block. -/
theorem out9_apply (k r : Fin 512) : out0_9 x0 x1 x2 x3 x4 x5 x6 x7 x8 (ix3 0 k r)
    = rot (rms cA (fun e => pr (fun j => x0 (ix2 r j)) (fun j => x1 (ix2 0 j)) (fun j => x2 (ix2 ⟨(alane (ah k) e).val, by omega⟩ j))) (fun e => x5 (ix2 e 0)))
      (fun d => x7 (ix2 d r)) (fun d => x8 (ix2 d r)) (al k) := by
  have e : out0_9 x0 x1 x2 x3 x4 x5 x6 x7 x8 = k0_pay5 (k0_pay2 (View.ld x7 r0_2)) (k0_pay3 (View.ld x8 r0_2)) (k0_pay4 (View.ld x0 r0_0) (View.ld x1 r0_1) (View.ld x2 r0_3) (View.ld x5 r0_4)) := by
    unfold_out out0_9
    exact (View.canon_cons_unit_lit _ _ _ (by decide))
  rw [e, pay5_apply]
  simp only [pay4_apply, ld0, ld1, ld3, ld4]
  pointwise [k0_pay2, k0_pay3]

/-- The keys' block. -/
theorem out10_apply (k r : Fin 512) : out0_10 x0 x1 x2 x3 x4 x5 x6 x7 x8 (ix3 0 k r)
    = rot (rms cA (fun e => pr (fun j => x0 (ix2 r j)) (fun j => x1 (ix2 0 j)) (fun j => x2 (ix2 ⟨512 + (alane (ah k) e).val, by omega⟩ j))) (fun e => x6 (ix2 e 0)))
      (fun d => x7 (ix2 d r)) (fun d => x8 (ix2 d r)) (al k) := by
  have e : out0_10 x0 x1 x2 x3 x4 x5 x6 x7 x8 = k0_pay5 (k0_pay2 (View.ld x7 r0_2)) (k0_pay3 (View.ld x8 r0_2)) (k0_pay4 (View.ld x0 r0_0) (View.ld x1 r0_1) (View.ld x2 r0_6) (View.ld x6 r0_4)) := by
    rw [← pay11_eq]
    unfold_out out0_10
    exact (View.canon_cons_unit_lit _ _ _ (by decide))
  rw [e, pay5_apply]
  simp only [pay4_apply, ld0, ld1, ld6, ld4]
  pointwise [k0_pay2, k0_pay3]

/-- The values' block. -/
theorem out11_apply (k r : Fin 512) : out0_11 x0 x1 x2 x3 x4 x5 x6 x7 x8 (ix3 0 k r)
    = pr (fun j => x0 (ix2 r j)) (fun j => x1 (ix2 0 j)) (fun j => x2 (ix2 ⟨1024 + k.val, by omega⟩ j)) := by
  have e : out0_11 x0 x1 x2 x3 x4 x5 x6 x7 x8 = k0_pay12 (k0_pay1 (View.ld x0 r0_0) (View.ld x1 r0_1)) (View.ld x2 r0_7) := by
    unfold_out out0_11
    exact (View.canon_cons_unit_lit _ _ _ (by decide))
  rw [e, pay12_apply]
  exact congr (congrArg₂ pr (funext fun j => ld0 x0 (ix2 r j)) (funext fun j => ld1 x1 (ix2 0 j))) (funext fun j => ld7 x2 k j)

/-- The gates' block. -/
theorem out12_apply (r k : Fin 512) : out0_12 x0 x1 x2 x3 x4 x5 x6 x7 x8 (ix2 r k)
    = pr (fun j => x0 (ix2 r j)) (fun j => x1 (ix2 0 j)) (fun j => x3 (ix2 ⟨k.val, by omega⟩ j)) := by
  have e : out0_12 x0 x1 x2 x3 x4 x5 x6 x7 x8 = k0_pay13 (k0_pay1 (View.ld x0 r0_0) (View.ld x1 r0_1)) (View.ld x3 r0_3) := by
    unfold_out out0_12
    exact (View.canon_cons_unit_lit _ _ _ (by decide))
  rw [e, pay13_apply]
  exact congr (congrArg₂ pr (funext fun j => ld0 x0 (ix2 r j)) (funext fun j => ld1 x1 (ix2 0 j))) (funext fun j => ld3 x3 k j)

/-- The scan's inputs' block. -/
theorem out13_apply (r : Fin 512) (k : Fin 1024) : out0_13 x0 x1 x2 x3 x4 x5 x6 x7 x8 (ix2 r k)
    = pr (fun j => x0 (ix2 r j)) (fun j => x1 (ix2 0 j)) (fun j => x3 (ix2 ⟨512 + k.val, by omega⟩ j)) := by
  have e : out0_13 x0 x1 x2 x3 x4 x5 x6 x7 x8 = k0_pay14 (k0_pay1 (View.ld x0 r0_0) (View.ld x1 r0_1)) (View.ld x3 r0_9) := by
    unfold_out out0_13
    exact (View.canon_cons_unit_lit _ _ _ (by decide))
  rw [e, pay14_apply]
  exact congr (congrArg₂ pr (funext fun j => ld0 x0 (ix2 r j)) (funext fun j => ld1 x1 (ix2 0 j))) (funext fun j => ld9 x3 k j)

/-- The steps' block. -/
theorem out14_apply (r : Fin 512) (k : Fin 128) : out0_14 x0 x1 x2 x3 x4 x5 x6 x7 x8 (ix2 r k)
    = pr (fun j => x0 (ix2 r j)) (fun j => x1 (ix2 0 j)) (fun j => x4 (ix2 k j)) := by
  have e : out0_14 x0 x1 x2 x3 x4 x5 x6 x7 x8 = k0_pay15 (k0_pay1 (View.ld x0 r0_0) (View.ld x1 r0_1)) (View.ld x4 r0_10) := by
    unfold_out out0_14
    exact (View.canon_cons_unit_lit _ _ _ (by decide))
  rw [e, pay15_apply]
  exact congr (congrArg₂ pr (funext fun j => ld0 x0 (ix2 r j)) (funext fun j => ld1 x1 (ix2 0 j))) (funext fun j => ld10 x4 (ix2 k j))

end Cert.QVal

end
-- ==== Proof.QRef.lean ====
module

public import proofs.«01_k».proof.Proof.QVal
public import proofs.«01_k».proof.Proof.Gen.Reference4Ideal.Read

/-! The input projection as the reference computes it, at a row. -/

@[expose] public section

set_option maxRecDepth 16384

noncomputable section

namespace Cert.QRef

open Idealize.ShloMosaic Cert.Reference4Ideal Cert.Reference4Ideal.Gen Cert.Reference4Ideal.Read Cert.PSpec Cert.QVal

/-- The arguments. -/
structure Args where
  /-- The residual rows. -/
  x : FVec I S8x2048x1024 .f32
  /-- The gain before the mixers. -/
  g : FVec I S1x1024 .f32
  /-- The input projection. -/
  w : FVec I S1x1024x3080 .f32
  /-- The queries' gain. -/
  gq : FVec I S1x64 .f32
  /-- The keys' gain. -/
  gk : FVec I S1x64 .f32

variable (A : Args)

/-- A projected lane of a row. -/
def lin (b : Fin 8) (t : Fin 2048) (n : Fin 3080) : EReal :=
  pr (fun j => A.x (ix3 b t j)) (fun j => A.g (ix2 0 j)) (fun j => A.w (ix3 0 j n))
/-- The cosines of a place. -/
def co (t : Fin 2048) (d : Fin 32) : EReal := val_main_v50 (F := I) (ix2 t d)
/-- The sines of a place. -/
def si (t : Fin 2048) (d : Fin 32) : EReal := val_main_v52 (F := I) (ix2 t d)
/-- A turned head of the lanes after the given one. -/
def turned (o : ℕ) (ho : o ≤ 2048) (g : Fin 64 → EReal) (b : Fin 8) (t : Fin 2048) (a : Fin 8) : Fin 64 → EReal :=
  rot (rms cA (fun e => lin A b t ⟨o + (alane a e).val, by omega⟩) g) (co t) (si t)
/-- A lane of the queries. -/
def qR (b : Fin 8) (t : Fin 2048) (k : Fin 512) : EReal := turned A 0 (by omega) (fun e => A.gq (ix2 0 e)) b t (ah k) (al k)
/-- A lane of the keys. -/
def kR (b : Fin 8) (t : Fin 2048) (k : Fin 512) : EReal := turned A 512 (by omega) (fun e => A.gk (ix2 0 e)) b t (ah k) (al k)
/-- A lane of the steps. -/
def dR (b : Fin 8) (t : Fin 2048) (k : Fin 128) : EReal := if h : k.val < 8 then lin A b t ⟨3072 + k.val, by omega⟩ else 0

/-- The projected rows. -/
theorem v16_apply (b : Fin 8) (t : Fin 2048) (n : Fin 3080) : val_main_v16 (F := I) A.x A.g A.w (ix3 b t n) = lin A b t n := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rfl

/-- The normalized queries. -/
theorem v37_apply (b : Fin 8) (t : Fin 2048) (a : Fin 8) (e : Fin 64) : val_main_v37 (F := I) A.x A.g A.w A.gq (ix4 b t a e)
    = rms cA (fun e => lin A b t ⟨0 + (alane a e).val, by omega⟩) (fun e => A.gq (ix2 0 e)) e := by
  pointwise [val_main_v37, val_main_v36, val_main_v35, val_main_v34, val_main_v33, val_main_v32, val_main_v31, val_main_v30, val_main_v29, val_main_v28, val_main_v27, val_main_v26, val_main_v25, val_main_v24, val_main_v23, val_main_v17, val_main_cst_2, val_main_cst_3, val_main_cst_4]
  simp only [v16_apply, zero_add]
  rfl

/-- The normalized keys. -/
theorem v81_apply (b : Fin 8) (t : Fin 2048) (a : Fin 8) (e : Fin 64) : val_main_v81 (F := I) A.x A.g A.w A.gk (ix4 b t a e)
    = rms cA (fun e => lin A b t ⟨512 + (alane a e).val, by omega⟩) (fun e => A.gk (ix2 0 e)) e := by
  pointwise [val_main_v81, val_main_v80, val_main_v79, val_main_v78, val_main_v77, val_main_v76, val_main_v75, val_main_v74, val_main_v73, val_main_v72, val_main_v71, val_main_v70, val_main_v69, val_main_v68, val_main_v67, val_main_v18, val_main_cst_7, val_main_cst_8, val_main_cst_9]
  simp only [v16_apply]
  rfl

/-- The keys turn by the angles the queries turn by. -/
theorem v94_eq : val_main_v94 (F := I) = val_main_v50 (F := I) := rfl
/-- The keys turn by the angles the queries turn by. -/
theorem v96_eq : val_main_v96 (F := I) = val_main_v52 (F := I) := rfl

/-- The queries. -/
theorem v112_apply (b : Fin 8) (t : Fin 2048) (k : Fin 512) : val_main_v112 (F := I) A.x A.g A.w A.gq (ix3 b k t) = qR A b t k := by
  pointwise [val_main_v112, val_main_v111, val_main_v66, val_main_v65, val_main_v64, val_main_v63, val_main_v62, val_main_v61, val_main_v60, val_main_v59, val_main_v58, val_main_v57, val_main_v56, val_main_v55, val_main_v54, val_main_v53, val_main_v51]
  simp only [v37_apply]
  rfl

/-- The keys. -/
theorem v114_apply (b : Fin 8) (t : Fin 2048) (k : Fin 512) : val_main_v114 (F := I) A.x A.g A.w A.gk (ix3 b k t) = kR A b t k := by
  pointwise [val_main_v114, val_main_v113, val_main_v110, val_main_v109, val_main_v108, val_main_v107, val_main_v106, val_main_v105, val_main_v104, val_main_v103, val_main_v102, val_main_v101, val_main_v100, val_main_v99, val_main_v98, val_main_v97, val_main_v95]
  simp only [v81_apply, v94_eq, v96_eq]
  rfl

/-- The values. -/
theorem v115_apply (b : Fin 8) (t : Fin 2048) (k : Fin 512) : val_main_v115 (F := I) A.x A.g A.w (ix3 b k t) = lin A b t ⟨1024 + k.val, by omega⟩ := by
  pointwise [val_main_v115, val_main_v19]
  simp only [v16_apply]

/-- The gates. -/
theorem v116_apply (b : Fin 8) (t : Fin 2048) (k : Fin 512) :
    val_main_v116 (F := I) A.x A.g A.w (ix2 ⟨b.val * 2048 + t.val, by omega⟩ k) = lin A b t ⟨1536 + k.val, by omega⟩ := by
  pointwise [val_main_v116, val_main_v20]
  simp only [v16_apply]

/-- The scan's inputs. -/
theorem v117_apply (b : Fin 8) (t : Fin 2048) (k : Fin 1024) :
    val_main_v117 (F := I) A.x A.g A.w (ix2 ⟨b.val * 2048 + t.val, by omega⟩ k) = lin A b t ⟨2048 + k.val, by omega⟩ := by
  pointwise [val_main_v117, val_main_v21]
  simp only [v16_apply]

/-- The integer zero is the number zero. -/
theorem zero_int : FloatOps.sitofp (F := I) FTy.f32 0#32 = (0 : EReal) := by
  show (((0#32).toInt : ℝ) : EReal) = 0
  simp

/-- The steps. -/
theorem v119_apply (b : Fin 8) (t : Fin 2048) (k : Fin 128) :
    val_main_v119 (F := I) A.x A.g A.w (ix2 ⟨b.val * 2048 + t.val, by omega⟩ k) = dR A b t k := by
  pointwise [val_main_v119, val_main_v118, val_main_v22, val_main_call0_v0, val_main_c]
  simp only [v16_apply]
  unfold dR
  by_cases h : k.val < 8
  · rw [dif_pos ⟨by omega, h⟩, dif_pos h]
  · rw [dif_neg (fun x => h x.2), dif_neg h]
    exact zero_int

end Cert.QRef

end
-- ==== Proof.QBlocks.lean ====
module

public import proofs.«01_k».proof.Proof.QVal
public import proofs.«01_k».proof.Proof.QRef
public import Idealize.ShloMosaic.Lib.Claim

/-! The blocks a grid point of the input projection is given, in terms of the arguments. -/

@[expose] public section

set_option maxRecDepth 16384

noncomputable section

namespace Cert.QBlocks

open Idealize.ShloMosaic Idealize.ShloMosaic.TcCoe Idealize.SL Idealize.SL.Sem
open Cert.Kernel4Ideal Cert.Kernel4Ideal.Gen Cert.PSpec Cert.QVal

variable (m : (ℓ : Loc nD τ sig) → Buf (Elt I) ℓ) (c : Dev nD)

/-- The arguments of a core. -/
def args : QRef.Args where
  x := m ((c : Thread nD τ).loc main_arg0)
  g := m ((c : Thread nD τ).loc main_arg1)
  w := m ((c : Thread nD τ).loc main_arg2)
  gq := m ((c : Thread nD τ).loc main_arg3)
  gk := m ((c : Thread nD τ).loc main_arg4)

/-- Which block of each input a grid point takes. -/
theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, t.val % 4] ∧ win0_8.index t = ![0, t.val % 4] := by
  revert t; decide +kernel

/-- There are 32 grid points. -/
theorem lt32 (t : Fin cfg0.N) : t.val < 32 := lt_of_lt_of_eq t.isLt N_0

/-- The batch of a point's row. -/
def bat (t : Fin cfg0.N) (r : Fin 512) : Fin 8 := ⟨(512 * t.val + r.val) / 2048, by have := lt32 t; omega⟩
/-- The place of a point's row in its batch. -/
def pos (t : Fin cfg0.N) (r : Fin 512) : Fin 2048 := ⟨(512 * t.val + r.val) % 2048, by omega⟩
/-- The place of a point's row in its batch, by the point's place in the batch. -/
theorem pos_eq (t : Fin cfg0.N) (r : Fin 512) : pos t r = ⟨512 * (t.val % 4) + r.val, by omega⟩ := by
  ext
  show (512 * t.val + r.val) % 2048 = 512 * (t.val % 4) + r.val
  omega

/-- The rows. -/
theorem blk0 (t : Fin cfg0.N) (r : Fin 512) (j : Fin 1024) : (iblk m c 0 t : Vec I S512x1024 .f32) (ix2 r j) = (args m c).x (ix3 (bat t r) (pos t r) j) := by
  have h : (V m c main_v17 : Vec I S16384x1024 .f32) = shapeCast S16384x1024 (args m c).x shapeCasts_S8x2048x1024_S16384x1024 := by
    simp only [V, List.flatten_cons, List.flatten_nil, hostOps0, hostOps0_1, hostOps0_2, List.cons_append, List.nil_append]
    after_results
    rfl
  have e : (V m c main_v17 : Vec I S16384x1024 .f32) (ix2 ⟨512 * t.val + r.val, by have := lt32 t; omega⟩ j) = (args m c).x (ix3 (bat t r) (pos t r) j) := by
    rw [h]
    pointwise [bat, pos]
  refine Eq.trans (congrArg (V m c main_v17 : Vec I S16384x1024 .f32) ?_) e
  blk_ext [idx t]

/-- The gain. -/
theorem blk1 (t : Fin cfg0.N) (j : Fin 1024) : (iblk m c 1 t : Vec I S1x1024 .f32) (ix2 0 j) = (args m c).g (ix2 0 j) := by
  have h : (V m c main_v19 : Vec I S1x1024 .f32) = shapeCast S1x1024 (shapeCast S1024 (args m c).g shapeCasts_S1x1024_S1024) shapeCasts_S1024_S1x1024 := by
    simp only [V, List.flatten_cons, List.flatten_nil, hostOps0, hostOps0_1, hostOps0_2, List.cons_append, List.nil_append]
    after_results
    rfl
  have e : (V m c main_v19 : Vec I S1x1024 .f32) (ix2 0 j) = (args m c).g (ix2 0 j) := by
    rw [h]
    pointwise []
  refine Eq.trans (congrArg (V m c main_v19 : Vec I S1x1024 .f32) ?_) e
  blk_ext [idx t]

/-- The weights of the queries, the keys and the values. -/
theorem blk2 (t : Fin cfg0.N) (n : Fin 1536) (j : Fin 1024) : (iblk m c 2 t : Vec I S1536x1024 .bf16) (ix2 n j) = (args m c).w (ix3 0 j ⟨n.val, by omega⟩) := by
  have h : (V m c main_v23 : Vec I S1536x1024 .bf16) = truncf .bf16 (transpose S1536x1024 [1, 0] (extractStridedSlice S1024x1536 ![0, 0]
      (shapeCast S1024x3080 (args m c).w shapeCasts_S1x1024x3080_S1024x3080) slices_S1024x3080_S1024x1536_0_0) transposes_S1024x1536_S1536x1024_1_0) bitsLt_bf16_f32 := by
    simp only [V, List.flatten_cons, List.flatten_nil, hostOps0, hostOps0_1, hostOps0_2, List.cons_append, List.nil_append]
    after_results
    rfl
  have e : (V m c main_v23 : Vec I S1536x1024 .bf16) (ix2 n j) = (args m c).w (ix3 0 j ⟨n.val, by omega⟩) := by
    rw [h]
    pointwise []
  refine Eq.trans (congrArg (V m c main_v23 : Vec I S1536x1024 .bf16) ?_) e
  blk_ext [idx t]

/-- The weights of the gates and of the scan's inputs. -/
theorem blk3 (t : Fin cfg0.N) (n : Fin 1536) (j : Fin 1024) : (iblk m c 3 t : Vec I S1536x1024 .bf16) (ix2 n j) = (args m c).w (ix3 0 j ⟨1536 + n.val, by omega⟩) := by
  have h : (V m c main_v27 : Vec I S1536x1024 .bf16) = truncf .bf16 (transpose S1536x1024 [1, 0] (extractStridedSlice S1024x1536 ![0, 1536]
      (shapeCast S1024x3080 (args m c).w shapeCasts_S1x1024x3080_S1024x3080) slices_S1024x3080_S1024x1536_0_1536) transposes_S1024x1536_S1536x1024_1_0) bitsLt_bf16_f32 := by
    simp only [V, List.flatten_cons, List.flatten_nil, hostOps0, hostOps0_1, hostOps0_2, List.cons_append, List.nil_append]
    after_results
    rfl
  have e : (V m c main_v27 : Vec I S1536x1024 .bf16) (ix2 n j) = (args m c).w (ix3 0 j ⟨1536 + n.val, by omega⟩) := by
    rw [h]
    pointwise []
  refine Eq.trans (congrArg (V m c main_v27 : Vec I S1536x1024 .bf16) ?_) e
  blk_ext [idx t]

/-- The weights of the steps, and zeros after them. -/
theorem blk4 (t : Fin cfg0.N) (n : Fin 128) (j : Fin 1024) : (iblk m c 4 t : Vec I S128x1024 .bf16) (ix2 n j)
    = if h : n.val < 8 then (args m c).w (ix3 0 j ⟨3072 + n.val, by omega⟩) else 0 := by
  have h : (V m c main_v32 : Vec I S128x1024 .bf16) = truncf .bf16 (pad S128x1024 ![0, 0] ![120, 0] ![0, 0] (transpose S8x1024 [1, 0] (extractStridedSlice S1024x8 ![0, 3072]
      (shapeCast S1024x3080 (args m c).w shapeCasts_S1x1024x3080_S1024x3080) slices_S1024x3080_S1024x8_0_3072) transposes_S1024x8_S8x1024_1_0)
      (sitofp (F := I) .f32 (constantI S_ 32 0#32)) pads_S8x1024_S128x1024_01200_000 h_S_) bitsLt_bf16_f32 := by
    simp only [V, List.flatten_cons, List.flatten_nil, hostOps0, hostOps0_1, hostOps0_2, List.cons_append, List.nil_append]
    after_results
    rfl
  have e : (V m c main_v32 : Vec I S128x1024 .bf16) (ix2 n j) = if h : n.val < 8 then (args m c).w (ix3 0 j ⟨3072 + n.val, by omega⟩) else 0 := by
    rw [h]
    pointwise []
    simp only [QRef.zero_int]
  refine Eq.trans (congrArg (V m c main_v32 : Vec I S128x1024 .bf16) ?_) e
  blk_ext [idx t]

/-- The queries' gain. -/
theorem blk5 (t : Fin cfg0.N) (e : Fin 64) : (iblk m c 5 t : Vec I S64x128 .f32) (ix2 e 0) = (args m c).gq (ix2 0 e) := by
  have h : (V m c main_v35 : Vec I S64x128 .f32) = broadcastInDim S64x128 ![0, 1] bcast_S64x1_S64x128_0_1 (broadcastInDim S64x1 ![0] bcast_S64_S64x1_0 (shapeCast S64 (args m c).gq shapeCasts_S1x64_S64)) := by
    simp only [V, List.flatten_cons, List.flatten_nil, hostOps0, hostOps0_1, hostOps0_2, List.cons_append, List.nil_append]
    after_results
    rfl
  have e : (V m c main_v35 : Vec I S64x128 .f32) (ix2 e 0) = (args m c).gq (ix2 0 e) := by
    rw [h]
    pointwise []
  refine Eq.trans (congrArg (V m c main_v35 : Vec I S64x128 .f32) ?_) e
  blk_ext [idx t]

/-- The keys' gain. -/
theorem blk6 (t : Fin cfg0.N) (e : Fin 64) : (iblk m c 6 t : Vec I S64x128 .f32) (ix2 e 0) = (args m c).gk (ix2 0 e) := by
  have h : (V m c main_v38 : Vec I S64x128 .f32) = broadcastInDim S64x128 ![0, 1] bcast_S64x1_S64x128_0_1 (broadcastInDim S64x1 ![0] bcast_S64_S64x1_0 (shapeCast S64 (args m c).gk shapeCasts_S1x64_S64)) := by
    simp only [V, List.flatten_cons, List.flatten_nil, hostOps0, hostOps0_1, hostOps0_2, List.cons_append, List.nil_append]
    after_results
    rfl
  have e : (V m c main_v38 : Vec I S64x128 .f32) (ix2 e 0) = (args m c).gk (ix2 0 e) := by
    rw [h]
    pointwise []
  refine Eq.trans (congrArg (V m c main_v38 : Vec I S64x128 .f32) ?_) e
  blk_ext [idx t]

/-- The cosines. -/
theorem blk7 (t : Fin cfg0.N) (d : Fin 32) (r : Fin 512) : (iblk m c 7 t : Vec I S32x512 .f32) (ix2 d r) = QRef.co (pos t r) d := by
  have h : (V m c main_v14 : Vec I S32x2048 .f32) = transpose S32x2048 [1, 0] (Cert.Reference4Ideal.Read.val_main_v50 (F := I)) transposes_S2048x32_S32x2048_1_0 := by
    simp only [V, List.flatten_cons, List.flatten_nil, hostOps0, hostOps0_1, hostOps0_2, List.cons_append, List.nil_append]
    after_results
    rfl
  have e : (V m c main_v14 : Vec I S32x2048 .f32) (ix2 d ⟨512 * (t.val % 4) + r.val, by omega⟩) = QRef.co (pos t r) d := by
    rw [h, pos_eq]
    pointwise [QRef.co]
  refine Eq.trans (congrArg (V m c main_v14 : Vec I S32x2048 .f32) ?_) e
  blk_ext [idx t]

/-- The sines. -/
theorem blk8 (t : Fin cfg0.N) (d : Fin 32) (r : Fin 512) : (iblk m c 8 t : Vec I S32x512 .f32) (ix2 d r) = QRef.si (pos t r) d := by
  have h : (V m c main_v16 : Vec I S32x2048 .f32) = transpose S32x2048 [1, 0] (Cert.Reference4Ideal.Read.val_main_v52 (F := I)) transposes_S2048x32_S32x2048_1_0 := by
    simp only [V, List.flatten_cons, List.flatten_nil, hostOps0, hostOps0_1, hostOps0_2, List.cons_append, List.nil_append]
    after_results
    rfl
  have e : (V m c main_v16 : Vec I S32x2048 .f32) (ix2 d ⟨512 * (t.val % 4) + r.val, by omega⟩) = QRef.si (pos t r) d := by
    rw [h, pos_eq]
    pointwise [QRef.si]
  refine Eq.trans (congrArg (V m c main_v16 : Vec I S32x2048 .f32) ?_) e
  blk_ext [idx t]

end Cert.QBlocks

end
-- ==== Proof.QEnds.lean ====
module

public import proofs.«01_k».proof.Proof.QBlocks
public import proofs.«01_k».proof.Proof.Gen.Reference4Ideal.Run

/-! The kernel's input projection is the reference's. -/

@[expose] public section

set_option maxRecDepth 16384

noncomputable section

namespace Cert.QEnds

open Idealize.ShloMosaic Idealize.ShloMosaic.TcCoe Idealize.SL Idealize.SL.Sem
open Cert.Kernel4Ideal Cert.Kernel4Ideal.Gen Cert.Kernel4Ideal.Value Cert.PSpec Cert.QVal Cert.QBlocks

/-- The grid point of a row. -/
def pt (b : Fin 8) (s : Fin 2048) : Fin cfg0.N := ⟨4 * b.val + s.val / 512, by rw [show cfg0.N = 32 from N_0]; omega⟩
/-- The place of a row at its grid point. -/
def rr (s : Fin 2048) : Fin 512 := ⟨s.val % 512, by omega⟩

/-- A row's batch is its grid point's. -/
theorem bat_pt (b : Fin 8) (s : Fin 2048) : bat (pt b s) (rr s) = b := by
  ext
  show (512 * (4 * b.val + s.val / 512) + s.val % 512) / 2048 = b.val
  omega
/-- A row's place is its grid point's. -/
theorem pos_pt (b : Fin 8) (s : Fin 2048) : pos (pt b s) (rr s) = s := by
  ext
  show (512 * (4 * b.val + s.val / 512) + s.val % 512) % 2048 = s.val
  omega

/-- An array known at every grid point, the rows across, is known. -/
theorem across (f : Fin 8 → Fin 512 → Fin 2048 → EReal) (G : Fin 8 → Fin 2048 → Fin 512 → EReal)
    (h : ∀ (t : Fin cfg0.N) (k r : Fin 512), f ⟨t.val / 4, by have := lt32 t; omega⟩ k ⟨512 * (t.val % 4) + r.val, by omega⟩ = G (bat t r) (pos t r) k)
    (b : Fin 8) (k : Fin 512) (s : Fin 2048) : f b k s = G b s k := by
  have e := h (pt b s) k (rr s)
  rw [bat_pt, pos_pt] at e
  rw [← e]
  congr 1 <;> ext
  · show b.val = (4 * b.val + s.val / 512) / 4
    omega
  · show s.val = 512 * ((4 * b.val + s.val / 512) % 4) + s.val % 512
    omega

/-- An array known at every grid point, the rows down, is known. -/
theorem down {w : ℕ} (f f' : Fin 16384 → Fin w → EReal) (G : Fin 8 → Fin 2048 → Fin w → EReal)
    (h : ∀ (t : Fin cfg0.N) (r : Fin 512) (k : Fin w), f ⟨512 * t.val + r.val, by have := lt32 t; omega⟩ k = G (bat t r) (pos t r) k)
    (h' : ∀ (b : Fin 8) (s : Fin 2048) (k : Fin w), f' ⟨b.val * 2048 + s.val, by omega⟩ k = G b s k)
    (n : Fin 16384) (k : Fin w) : f n k = f' n k := by
  have e := h (pt ⟨n.val / 2048, by omega⟩ ⟨n.val % 2048, by omega⟩) (rr ⟨n.val % 2048, by omega⟩) k
  rw [bat_pt, pos_pt, ← h'] at e
  refine Eq.trans (congrArg (f · k) ?_) (e.trans (congrArg (f' · k) ?_)) <;> ext
  · show n.val = 512 * (4 * (n.val / 2048) + n.val % 2048 / 512) + n.val % 2048 % 512
    omega
  · show n.val / 2048 * 2048 + n.val % 2048 = n.val
    omega

variable (m : (ℓ : Loc nD τ sig) → Buf (Elt I) ℓ) (c : Dev nD)

/-- A grid point's products with the first weights. -/
theorem lin2 (t : Fin cfg0.N) (r : Fin 512) (n : Fin 1536) :
    pr (fun j => (iblk m c 0 t : Vec I S512x1024 .f32) (ix2 r j)) (fun j => (iblk m c 1 t : Vec I S1x1024 .f32) (ix2 0 j))
      (fun j => (iblk m c 2 t : Vec I S1536x1024 .bf16) (ix2 n j)) = QRef.lin (args m c) (bat t r) (pos t r) ⟨n.val, by omega⟩ :=
  congr (congrArg₂ pr (funext fun j => blk0 m c t r j) (funext fun j => blk1 m c t j)) (funext fun j => blk2 m c t n j)
/-- A grid point's products with the weights after them. -/
theorem lin3 (t : Fin cfg0.N) (r : Fin 512) (n : Fin 1536) :
    pr (fun j => (iblk m c 0 t : Vec I S512x1024 .f32) (ix2 r j)) (fun j => (iblk m c 1 t : Vec I S1x1024 .f32) (ix2 0 j))
      (fun j => (iblk m c 3 t : Vec I S1536x1024 .bf16) (ix2 n j)) = QRef.lin (args m c) (bat t r) (pos t r) ⟨1536 + n.val, by omega⟩ :=
  congr (congrArg₂ pr (funext fun j => blk0 m c t r j) (funext fun j => blk1 m c t j)) (funext fun j => blk3 m c t n j)
/-- A grid point's products with the padded weights. -/
theorem lin4 (t : Fin cfg0.N) (r : Fin 512) (n : Fin 128) :
    pr (fun j => (iblk m c 0 t : Vec I S512x1024 .f32) (ix2 r j)) (fun j => (iblk m c 1 t : Vec I S1x1024 .f32) (ix2 0 j))
      (fun j => (iblk m c 4 t : Vec I S128x1024 .bf16) (ix2 n j)) = QRef.dR (args m c) (bat t r) (pos t r) n := by
  refine (congr (congrArg₂ pr (funext fun j => blk0 m c t r j) (funext fun j => blk1 m c t j)) (funext fun j => blk4 m c t n j)).trans ?_
  unfold QRef.dR
  by_cases h : n.val < 8
  · simp only [dif_pos h]
    rfl
  · simp only [dif_neg h]
    exact Finset.sum_eq_zero fun _ _ => mul_zero _

/-- Every grid point writes its blocks back. -/
theorem flush (t : Fin cfg0.N) : (cfg0.win 9).flush t = true ∧ (cfg0.win 10).flush t = true ∧ (cfg0.win 11).flush t = true
    ∧ (cfg0.win 12).flush t = true ∧ (cfg0.win 13).flush t = true ∧ (cfg0.win 14).flush t = true := by
  revert t; decide +kernel

/-- Which blocks a grid point writes. -/
theorem idxo (t : Fin cfg0.N) : win0_9.index t = ![t.val / 4, 0, t.val % 4] ∧ win0_10.index t = ![t.val / 4, 0, t.val % 4]
    ∧ win0_11.index t = ![t.val / 4, 0, t.val % 4] ∧ win0_12.index t = ![t.val, 0] ∧ win0_13.index t = ![t.val, 0] ∧ win0_14.index t = ![t.val, 0] := by
  revert t; decide +kernel

/-- The queries. -/
theorem res9 (t : Fin cfg0.N) (k r : Fin 512) :
    ((dats m 0 c).arrAt 9 cfg0.N : Vec I S8x512x2048 .f32) (ix3 ⟨t.val / 4, by have := lt32 t; omega⟩ k ⟨512 * (t.val % 4) + r.val, by omega⟩)
      = QRef.qR (args m c) (bat t r) (pos t r) k := by
  refine Eq.trans ?_ ((out9_apply (iblk m c 0 t) (iblk m c 1 t) (iblk m c 2 t) (iblk m c 3 t) (iblk m c 4 t) (iblk m c 5 t) (iblk m c 6 t) (iblk m c 7 t) (iblk m c 8 t) k r).trans (congrFun (congr (congrArg₂ rot (congrArg₂ (rms cA)
    (funext fun e => (lin2 m c t r _).trans (congrArg (QRef.lin _ _ _) (Fin.ext (zero_add _).symm))) (funext fun e => blk5 m c t e))
    (funext fun d => blk7 m c t d r)) (funext fun d => blk8 m c t d r)) (al k)))
  refine Eq.trans ?_ (congrFun ((blocks9 m c t (flush t).1).trans (flushed9 m c t)) (ix3 0 k r))
  show _ = ((dats m 0 c).arrAt 9 cfg0.N : Vec I S8x512x2048 .f32) _
  congr 1
  blk_ext [idxo t]

/-- The keys. -/
theorem res10 (t : Fin cfg0.N) (k r : Fin 512) :
    ((dats m 0 c).arrAt 10 cfg0.N : Vec I S8x512x2048 .f32) (ix3 ⟨t.val / 4, by have := lt32 t; omega⟩ k ⟨512 * (t.val % 4) + r.val, by omega⟩)
      = QRef.kR (args m c) (bat t r) (pos t r) k := by
  refine Eq.trans ?_ ((out10_apply (iblk m c 0 t) (iblk m c 1 t) (iblk m c 2 t) (iblk m c 3 t) (iblk m c 4 t) (iblk m c 5 t) (iblk m c 6 t) (iblk m c 7 t) (iblk m c 8 t) k r).trans (congrFun (congr (congrArg₂ rot (congrArg₂ (rms cA)
    (funext fun e => lin2 m c t r _) (funext fun e => blk6 m c t e))
    (funext fun d => blk7 m c t d r)) (funext fun d => blk8 m c t d r)) (al k)))
  refine Eq.trans ?_ (congrFun ((blocks10 m c t (flush t).2.1).trans (flushed10 m c t)) (ix3 0 k r))
  show _ = ((dats m 0 c).arrAt 10 cfg0.N : Vec I S8x512x2048 .f32) _
  congr 1
  blk_ext [idxo t]

/-- The values. -/
theorem res11 (t : Fin cfg0.N) (k r : Fin 512) :
    ((dats m 0 c).arrAt 11 cfg0.N : Vec I S8x512x2048 .f32) (ix3 ⟨t.val / 4, by have := lt32 t; omega⟩ k ⟨512 * (t.val % 4) + r.val, by omega⟩)
      = QRef.lin (args m c) (bat t r) (pos t r) ⟨1024 + k.val, by omega⟩ := by
  refine Eq.trans ?_ ((out11_apply (iblk m c 0 t) (iblk m c 1 t) (iblk m c 2 t) (iblk m c 3 t) (iblk m c 4 t) (iblk m c 5 t) (iblk m c 6 t) (iblk m c 7 t) (iblk m c 8 t) k r).trans (lin2 m c t r _))
  refine Eq.trans ?_ (congrFun ((blocks11 m c t (flush t).2.2.1).trans (flushed11 m c t)) (ix3 0 k r))
  show _ = ((dats m 0 c).arrAt 11 cfg0.N : Vec I S8x512x2048 .f32) _
  congr 1
  blk_ext [idxo t]

/-- The gates. -/
theorem res12 (t : Fin cfg0.N) (r k : Fin 512) :
    ((dats m 0 c).arrAt 12 cfg0.N : Vec I S16384x512 .f32) (ix2 ⟨512 * t.val + r.val, by have := lt32 t; omega⟩ k)
      = QRef.lin (args m c) (bat t r) (pos t r) ⟨1536 + k.val, by omega⟩ := by
  refine Eq.trans ?_ ((out12_apply (iblk m c 0 t) (iblk m c 1 t) (iblk m c 2 t) (iblk m c 3 t) (iblk m c 4 t) (iblk m c 5 t) (iblk m c 6 t) (iblk m c 7 t) (iblk m c 8 t) r k).trans (lin3 m c t r _))
  refine Eq.trans ?_ (congrFun ((blocks12 m c t (flush t).2.2.2.1).trans (flushed12 m c t)) (ix2 r k))
  show _ = ((dats m 0 c).arrAt 12 cfg0.N : Vec I S16384x512 .f32) _
  congr 1
  blk_ext [idxo t]

/-- The scan's inputs. -/
theorem res13 (t : Fin cfg0.N) (r : Fin 512) (k : Fin 1024) :
    ((dats m 0 c).arrAt 13 cfg0.N : Vec I S16384x1024 .f32) (ix2 ⟨512 * t.val + r.val, by have := lt32 t; omega⟩ k)
      = QRef.lin (args m c) (bat t r) (pos t r) ⟨2048 + k.val, by omega⟩ := by
  refine Eq.trans ?_ ((out13_apply (iblk m c 0 t) (iblk m c 1 t) (iblk m c 2 t) (iblk m c 3 t) (iblk m c 4 t) (iblk m c 5 t) (iblk m c 6 t) (iblk m c 7 t) (iblk m c 8 t) r k).trans ((lin3 m c t r _).trans (congrArg (QRef.lin _ _ _) (Fin.ext (add_assoc 1536 512 k.val).symm))))
  refine Eq.trans ?_ (congrFun ((blocks13 m c t (flush t).2.2.2.2.1).trans (flushed13 m c t)) (ix2 r k))
  show _ = ((dats m 0 c).arrAt 13 cfg0.N : Vec I S16384x1024 .f32) _
  congr 1
  blk_ext [idxo t]

/-- The steps. -/
theorem res14 (t : Fin cfg0.N) (r : Fin 512) (k : Fin 128) :
    ((dats m 0 c).arrAt 14 cfg0.N : Vec I S16384x128 .f32) (ix2 ⟨512 * t.val + r.val, by have := lt32 t; omega⟩ k)
      = QRef.dR (args m c) (bat t r) (pos t r) k := by
  refine Eq.trans ?_ ((out14_apply (iblk m c 0 t) (iblk m c 1 t) (iblk m c 2 t) (iblk m c 3 t) (iblk m c 4 t) (iblk m c 5 t) (iblk m c 6 t) (iblk m c 7 t) (iblk m c 8 t) r k).trans (lin4 m c t r k))
  refine Eq.trans ?_ (congrFun ((blocks14 m c t (flush t).2.2.2.2.2).trans (flushed14 m c t)) (ix2 r k))
  show _ = ((dats m 0 c).arrAt 14 cfg0.N : Vec I S16384x128 .f32) _
  congr 1
  blk_ext [idxo t]

variable (A : QRef.Args) (hA : A = args m c)

include hA

/-- The kernel's queries are the reference's. -/
theorem same9 : ((dats m 0 c).arrAt 9 cfg0.N : Vec I S8x512x2048 .f32) = Cert.Reference4Ideal.Read.val_main_v112 (F := I) A.x A.g A.w A.gq := by
  subst hA
  funext i
  idx_vars i
  exact (across (fun b k s => ((dats m 0 c).arrAt 9 cfg0.N : Vec I S8x512x2048 .f32) (ix3 b k s)) _ (res9 m c) _ _ _).trans (QRef.v112_apply _ _ _ _).symm

/-- The kernel's keys are the reference's. -/
theorem same10 : ((dats m 0 c).arrAt 10 cfg0.N : Vec I S8x512x2048 .f32) = Cert.Reference4Ideal.Read.val_main_v114 (F := I) A.x A.g A.w A.gk := by
  subst hA
  funext i
  idx_vars i
  exact (across (fun b k s => ((dats m 0 c).arrAt 10 cfg0.N : Vec I S8x512x2048 .f32) (ix3 b k s)) _ (res10 m c) _ _ _).trans (QRef.v114_apply _ _ _ _).symm

/-- The kernel's values are the reference's. -/
theorem same11 : ((dats m 0 c).arrAt 11 cfg0.N : Vec I S8x512x2048 .f32) = Cert.Reference4Ideal.Read.val_main_v115 (F := I) A.x A.g A.w := by
  subst hA
  funext i
  idx_vars i
  exact (across (fun b k s => ((dats m 0 c).arrAt 11 cfg0.N : Vec I S8x512x2048 .f32) (ix3 b k s))
    (fun b s k => QRef.lin (args m c) b s ⟨1024 + k.val, by omega⟩) (res11 m c) _ _ _).trans (QRef.v115_apply _ _ _ _).symm

/-- The kernel's gates are the reference's. -/
theorem same12 : ((dats m 0 c).arrAt 12 cfg0.N : Vec I S16384x512 .f32) = Cert.Reference4Ideal.Read.val_main_v116 (F := I) A.x A.g A.w := by
  subst hA
  funext i
  idx_vars i
  exact down (fun n k => ((dats m 0 c).arrAt 12 cfg0.N : Vec I S16384x512 .f32) (ix2 n k))
    (fun n k => Cert.Reference4Ideal.Read.val_main_v116 (F := I) (args m c).x (args m c).g (args m c).w (ix2 n k))
    (fun b s k => QRef.lin (args m c) b s ⟨1536 + k.val, by omega⟩) (res12 m c) (QRef.v116_apply _) _ _

/-- The kernel's inputs of the scan are the reference's. -/
theorem same13 : ((dats m 0 c).arrAt 13 cfg0.N : Vec I S16384x1024 .f32) = Cert.Reference4Ideal.Read.val_main_v117 (F := I) A.x A.g A.w := by
  subst hA
  funext i
  idx_vars i
  exact down (fun n k => ((dats m 0 c).arrAt 13 cfg0.N : Vec I S16384x1024 .f32) (ix2 n k))
    (fun n k => Cert.Reference4Ideal.Read.val_main_v117 (F := I) (args m c).x (args m c).g (args m c).w (ix2 n k))
    (fun b s k => QRef.lin (args m c) b s ⟨2048 + k.val, by omega⟩) (res13 m c) (QRef.v117_apply _) _ _

/-- The kernel's steps are the reference's. -/
theorem same14 : ((dats m 0 c).arrAt 14 cfg0.N : Vec I S16384x128 .f32) = Cert.Reference4Ideal.Read.val_main_v119 (F := I) A.x A.g A.w := by
  subst hA
  funext i
  idx_vars i
  exact down (fun n k => ((dats m 0 c).arrAt 14 cfg0.N : Vec I S16384x128 .f32) (ix2 n k))
    (fun n k => Cert.Reference4Ideal.Read.val_main_v119 (F := I) (args m c).x (args m c).g (args m c).w (ix2 n k))
    (QRef.dR (args m c)) (res14 m c) (QRef.v119_apply _) _ _

omit hA

/-- The arguments, out of the reference's memory. -/
def argsR (m : (ℓ : Loc Cert.Reference4Ideal.nD Cert.Reference4Ideal.τ Cert.Reference4Ideal.sig) → Buf (Elt I) ℓ) (c : Dev Cert.Reference4Ideal.nD) :
    QRef.Args where
  x := m ((c.tc : Thread Cert.Reference4Ideal.nD Cert.Reference4Ideal.τ).loc Cert.Reference4Ideal.main_arg0)
  g := m ((c.tc : Thread Cert.Reference4Ideal.nD Cert.Reference4Ideal.τ).loc Cert.Reference4Ideal.main_arg1)
  w := m ((c.tc : Thread Cert.Reference4Ideal.nD Cert.Reference4Ideal.τ).loc Cert.Reference4Ideal.main_arg2)
  gq := m ((c.tc : Thread Cert.Reference4Ideal.nD Cert.Reference4Ideal.τ).loc Cert.Reference4Ideal.main_arg3)
  gk := m ((c.tc : Thread Cert.Reference4Ideal.nD Cert.Reference4Ideal.τ).loc Cert.Reference4Ideal.main_arg4)

end Cert.QEnds

end
-- ==== Proof.MVal.lean ====
module

public import proofs.«01_k».proof.Proof.QVal
public import proofs.«01_k».proof.Proof.Gen.Kernel3Ideal.Value

/-! The memory's keys and values as mathematics, and the blocks the kernel computes of them. -/

@[expose] public section

set_option maxRecDepth 16384

noncomputable section

namespace Cert.MVal

open Idealize.ShloMosaic Cert.Kernel3Ideal Cert.Kernel3Ideal.Gen Cert.PSpec
open Cert.QVal (I pr)

/-- A row of four heads, each of them normalized, at a lane. -/
def heads (p : Fin 512 → EReal) (g : Fin 128 → EReal) (k : Fin 512) : EReal := rms cH (fun e => p (lane (hd k) e)) g (ln k)

/-- The rows of four normalized heads, at an index. -/
def rows (p : Vec I S512x512 .f32) (g : Vec I S1x128 .f32) (y : S512x512.Idx) : EReal :=
  heads (fun k => p (ix2 (y 0) k)) (fun d => g (ix2 0 d)) (y 1)

/-- The rows of four normalized heads, at a head's lane. -/
theorem rows_at (p : Vec I S512x512 .f32) (g : Vec I S1x128 .f32) (h : Fin 4) (y : S512x512.Idx) (r : Fin 512) (d : Fin 128)
    (h0 : (y 0).val = r.val) (h1 : (y 1).val = h.val * 128 + d.val) :
    rows p g y = rms cH (fun e => p (ix2 r (lane h e))) (fun d => g (ix2 0 d)) d := by
  have e0 : y 0 = r := Fin.ext h0
  have eh : hd (y 1) = h := Fin.ext (by show (y 1).val / 128 = h.val; omega)
  have el : ln (y 1) = d := Fin.ext (by show (y 1).val % 128 = d.val; omega)
  unfold rows heads
  rw [e0, eh, el]

/-- The normalized rows. -/
theorem pay2_apply (x : Vec I S512x1024 .f32) (g : Vec I S1x1024 .f32) (r : Fin 512) (j : Fin 1024) :
    k0_pay2 x g (ix2 r j) = rms cD (fun j => x (ix2 r j)) (fun j => g (ix2 0 j)) j := by
  pointwise [k0_pay2]
  rfl

/-- The keys before their normalization. -/
theorem pay3_apply (x : Vec I S512x1024 .f32) (g : Vec I S1x1024 .f32) (w : Vec I S1024x512 .bf16) (r k : Fin 512) :
    k0_pay3 x g w (ix2 r k) = pr (fun j => x (ix2 r j)) (fun j => g (ix2 0 j)) (fun j => w (ix2 j k)) := by
  pointwise [k0_pay3]
  simp only [pay2_apply]
  rfl

/-- The values. -/
theorem pay1_apply (x : Vec I S512x1024 .f32) (g : Vec I S1x1024 .f32) (w : Vec I S1024x512 .bf16) (r k : Fin 512) :
    k0_pay1 (k0_pay2 x g) (k0_pay11 w) (constant S512x512 .f32 0#32) (ix2 r k)
      = pr (fun j => x (ix2 r j)) (fun j => g (ix2 0 j)) (fun j => w (ix2 j k)) := by
  pointwise [k0_pay1, k0_pay11]
  simp only [pay2_apply]
  rfl

/-- The first head. -/
theorem pay5_apply (x : Vec I S512x1024 .f32) (gx : Vec I S1x1024 .f32) (w : Vec I S1024x512 .bf16) (g : Vec I S1x128 .f32) (r : Fin 512) (d : Fin 128) :
    k0_pay5 x gx w g (ix2 r d) = rms cH (fun e => k0_pay3 x gx w (ix2 r ⟨e.val, by omega⟩)) (fun d => g (ix2 0 d)) d := by
  pointwise [k0_pay5, k0_pay4]
  rfl

/-- The second head. -/
theorem pay8_apply (x : Vec I S512x1024 .f32) (gx : Vec I S1x1024 .f32) (w : Vec I S1024x512 .bf16) (g : Vec I S1x128 .f32) (r : Fin 512) (d : Fin 128) :
    k0_pay8 (k0_pay4 g) (k0_pay6 x gx w) (k0_pay7 x gx w) (ix2 r d)
      = rms cH (fun e => k0_pay3 x gx w (ix2 r (lane 1 e))) (fun d => g (ix2 0 d)) d := by
  pointwise [k0_pay8, k0_pay4, k0_pay6, k0_pay7]
  rfl

/-- The third head. -/
theorem pay9_apply (p : FVec I S512x512 .f32) (g : Vec I S1x128 .f32) (r : Fin 512) (d : Fin 128) :
    k0_pay9 p (k0_pay4 g) (ix2 r d) = rms cH (fun e => p (ix2 r (lane 2 e))) (fun d => g (ix2 0 d)) d := by
  pointwise [k0_pay9, k0_pay4]
  rfl

/-- The fourth head. -/
theorem pay10_apply (p : FVec I S512x512 .f32) (g : Vec I S1x128 .f32) (r : Fin 512) (d : Fin 128) :
    k0_pay10 p (k0_pay4 g) (ix2 r d) = rms cH (fun e => p (ix2 r (lane 3 e))) (fun d => g (ix2 0 d)) d := by
  pointwise [k0_pay10, k0_pay4]
  rfl

variable (x0 : Vec I S512x1024 .f32) (x1 : Vec I S1x1024 .f32) (x2 x3 : Vec I S1024x512 .bf16) (x4 : Vec I S1x128 .f32)

/-- The rows are loaded as they are. -/
theorem ld0 (i : S512x1024.Idx) : (View.ld x0 r0_0 : Vec I S512x1024 .f32) i = x0 i := congrFun (View.ld_unit_lit _ x0 (by decide)) i
/-- The gain is loaded as it is. -/
theorem ld1 (i : S1x1024.Idx) : (View.ld x1 r0_1 : Vec I S1x1024 .f32) i = x1 i := congrFun (View.ld_unit_lit _ x1 (by decide)) i
/-- The weights are loaded as they are. -/
theorem ld2 (i : S1024x512.Idx) : (View.ld x2 r0_2 : Vec I S1024x512 .bf16) i = x2 i := congrFun (View.ld_unit_lit _ x2 (by decide)) i
/-- The keys' gain is loaded as it is. -/
theorem ld3 (i : S1x128.Idx) : (View.ld x4 r0_3 : Vec I S1x128 .f32) i = x4 i := congrFun (View.ld_unit_lit _ x4 (by decide)) i

/-- The first head's columns. -/
theorem piece0 (x : Vec I S512x1024 .f32) (gx : Vec I S1x1024 .f32) (w : Vec I S1024x512 .bf16) (g : Vec I S1x128 .f32) (r : Fin 512) (d : Fin 128) :
    k0_pay5 x gx w g (ix2 r d) = rows (k0_pay3 x gx w) g (r0_4.idx (ix2 r d)) := by
  refine ((pay5_apply x gx w g r d).trans ?_).trans (rows_at _ g 0 _ r d (by show 0 + 1 * r.val = r.val; omega) (by show 0 + 1 * d.val = 0 * 128 + d.val; omega)).symm
  refine congrFun (congrArg (rms cH · _) (funext fun e => congrArg _ (congrArg (ix2 r) (Fin.ext ?_)))) d
  show e.val = 0 * 128 + e.val
  omega
/-- The second head's columns. -/
theorem piece1 (x : Vec I S512x1024 .f32) (gx : Vec I S1x1024 .f32) (w : Vec I S1024x512 .bf16) (g : Vec I S1x128 .f32) (r : Fin 512) (d : Fin 128) :
    k0_pay8 (k0_pay4 g) (k0_pay6 x gx w) (k0_pay7 x gx w) (ix2 r d) = rows (k0_pay3 x gx w) g (r0_5.idx (ix2 r d)) :=
  (pay8_apply x gx w g r d).trans (rows_at _ g 1 _ r d (by show 0 + 1 * r.val = r.val; omega) (by show 128 + 1 * d.val = 1 * 128 + d.val; omega)).symm
/-- The third head's columns. -/
theorem piece2 (p : FVec I S512x512 .f32) (g : Vec I S1x128 .f32) (r : Fin 512) (d : Fin 128) :
    k0_pay9 p (k0_pay4 g) (ix2 r d) = rows p g (r0_6.idx (ix2 r d)) :=
  (pay9_apply p g r d).trans (rows_at p g 2 _ r d (by show 0 + 1 * r.val = r.val; omega) (by show 256 + 1 * d.val = 2 * 128 + d.val; omega)).symm
/-- The fourth head's columns. -/
theorem piece3 (p : FVec I S512x512 .f32) (g : Vec I S1x128 .f32) (r : Fin 512) (d : Fin 128) :
    k0_pay10 p (k0_pay4 g) (ix2 r d) = rows p g (r0_7.idx (ix2 r d)) :=
  (pay10_apply p g r d).trans (rows_at p g 3 _ r d (by show 0 + 1 * r.val = r.val; omega) (by show 384 + 1 * d.val = 3 * 128 + d.val; omega)).symm

/-- Every index of a head's columns is a row and a lane. -/
theorem all_ix (f f' : S512x128.Idx → EReal) (h : ∀ (r : Fin 512) (d : Fin 128), f (ix2 r d) = f' (ix2 r d)) (x : S512x128.Idx) : f x = f' x := by
  idx_vars x
  exact h _ _

/-- The keys' block is its four heads. -/
theorem out5_rows (y : S512x512.Idx) : out0_5 x0 x1 x2 x3 x4 y
    = rows (k0_pay3 (View.ld x0 r0_0) (View.ld x1 r0_1) (View.ld x2 r0_2)) (View.ld x4 r0_3) y := by
  unfold out0_5 k0_pay12 k0_pay13
  generalize (View.ld x0 r0_0 : Vec I S512x1024 .f32) = a0
  generalize (View.ld x1 r0_1 : Vec I S1x1024 .f32) = a1
  generalize (View.ld x2 r0_2 : Vec I S1024x512 .bf16) = a2
  generalize (View.ld x4 r0_3 : Vec I S1x128 .f32) = a3
  refine View.canon_apply_of_pieces (Val := Elt I) (rows (k0_pay3 a0 a1 a2) a3) _ ?_ y (cover0_5 _ _ _ _ y)
  intro pc hpc
  rcases List.mem_cons.mp hpc with rfl | hpc
  · exact all_ix _ (fun x => rows (k0_pay3 a0 a1 a2) a3 (r0_7.idx x)) (piece3 (k0_pay3 a0 a1 a2) a3)
  rcases List.mem_cons.mp hpc with rfl | hpc
  · exact all_ix _ (fun x => rows (k0_pay3 a0 a1 a2) a3 (r0_6.idx x)) (piece2 (k0_pay3 a0 a1 a2) a3)
  rcases List.mem_cons.mp hpc with rfl | hpc
  · exact all_ix _ (fun x => rows (k0_pay3 a0 a1 a2) a3 (r0_5.idx x)) (piece1 a0 a1 a2 a3)
  rcases List.mem_cons.mp hpc with rfl | hpc
  · exact all_ix _ (fun x => rows (k0_pay3 a0 a1 a2) a3 (r0_4.idx x)) (piece0 a0 a1 a2 a3)
  nomatch hpc

/-- The keys' block. -/
theorem out5_apply (r k : Fin 512) : out0_5 x0 x1 x2 x3 x4 (ix2 r k)
    = heads (fun k => pr (fun j => x0 (ix2 r j)) (fun j => x1 (ix2 0 j)) (fun j => x2 (ix2 j k))) (fun d => x4 (ix2 0 d)) k := by
  refine (out5_rows x0 x1 x2 x3 x4 _).trans (congrFun (congrArg₂ heads (funext fun k => (pay3_apply _ _ _ r k).trans ?_) (funext fun d => ld3 x4 _)) k)
  exact congr (congrArg₂ pr (funext fun j => ld0 x0 (ix2 r j)) (funext fun j => ld1 x1 (ix2 0 j))) (funext fun j => ld2 x2 (ix2 j k))

/-- The values' block. -/
theorem out6_apply (r k : Fin 512) : out0_6 x0 x1 x2 x3 x4 (ix2 r k)
    = pr (fun j => x0 (ix2 r j)) (fun j => x1 (ix2 0 j)) (fun j => x3 (ix2 j k)) := by
  have e : out0_6 x0 x1 x2 x3 x4 = k0_pay1 (k0_pay2 (View.ld x0 r0_0) (View.ld x1 r0_1)) (k0_pay11 (View.ld x3 r0_2)) (constant S512x512 .f32 0#32) := by
    unfold_out out0_6
    exact (View.canon_cons_unit_lit _ _ _ (by decide))
  rw [e, pay1_apply]
  exact congr (congrArg₂ pr (funext fun j => ld0 x0 (ix2 r j)) (funext fun j => ld1 x1 (ix2 0 j))) (funext fun j => ld2 x3 (ix2 j k))

end Cert.MVal

end
-- ==== Proof.MRef.lean ====
module

public import proofs.«01_k».proof.Proof.MVal
public import proofs.«01_k».proof.Proof.Gen.Reference3Ideal.Read

/-! The memory's keys and values as the reference computes them, at a row. -/

@[expose] public section

set_option maxRecDepth 16384

noncomputable section

namespace Cert.MRef

open Idealize.ShloMosaic Cert.Reference3Ideal Cert.Reference3Ideal.Gen Cert.Reference3Ideal.Read Cert.PSpec
open Cert.QVal (I pr)
open Cert.MVal (heads)

/-- The arguments. -/
structure Args where
  /-- The memory's rows. -/
  x : FVec I S8x256x1024 .f32
  /-- The gain of the memory's rows. -/
  g : FVec I S1x1024 .f32
  /-- The keys' projection. -/
  wk : FVec I S1x1024x512 .f32
  /-- The values' projection. -/
  wv : FVec I S1x1024x512 .f32
  /-- The keys' gain. -/
  gk : FVec I S1x128 .f32

variable (A : Args)

/-- A lane of a memory row's product with weights. -/
def lin (w : FVec I S1x1024x512 .f32) (b : Fin 8) (s : Fin 256) (k : Fin 512) : EReal :=
  pr (fun j => A.x (ix3 b s j)) (fun j => A.g (ix2 0 j)) (fun j => w (ix3 0 j k))
/-- A lane of the keys. -/
def kR (b : Fin 8) (s : Fin 256) (k : Fin 512) : EReal := heads (lin A A.wk b s) (fun d => A.gk (ix2 0 d)) k

/-- The normalized rows. -/
theorem v13_apply (b : Fin 8) (s : Fin 256) (j : Fin 1024) : val_main_v13 (F := I) A.x A.g (ix3 b s j)
    = rms cD (fun j => A.x (ix3 b s j)) (fun j => A.g (ix2 0 j)) j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The keys' products. -/
theorem v15_apply (b : Fin 8) (s : Fin 256) (k : Fin 512) : val_main_v15 (F := I) A.x A.g A.wk (ix3 b s k) = lin A A.wk b s k := by
  pointwise [val_main_v15, val_main_v14]
  simp only [v13_apply]
  rfl

/-- The values' products. -/
theorem v32_apply (b : Fin 8) (s : Fin 256) (k : Fin 512) : val_main_v32 (F := I) A.x A.g A.wv (ix3 b s k) = lin A A.wv b s k := by
  pointwise [val_main_v32, val_main_v31]
  simp only [v13_apply]
  rfl

/-- The normalized heads of the keys. -/
theorem v30_apply (b : Fin 8) (s : Fin 256) (h : Fin 4) (d : Fin 128) : val_main_v30 (F := I) A.x A.g A.wk A.gk (ix4 b s h d)
    = rms cH (fun e => lin A A.wk b s (lane h e)) (fun d => A.gk (ix2 0 d)) d := by
  pointwise [val_main_v30, val_main_v29, val_main_v28, val_main_v27, val_main_v26, val_main_v25, val_main_v24, val_main_v23, val_main_v22, val_main_v21, val_main_v20, val_main_v19, val_main_v18, val_main_v17, val_main_v16, val_main_cst_2, val_main_cst_3, val_main_cst_4]
  simp only [v15_apply]
  rfl

/-- The keys. -/
theorem v34_apply (b : Fin 8) (s : Fin 256) (k : Fin 512) :
    val_main_v34 (F := I) A.x A.g A.wk A.gk (ix2 ⟨b.val * 256 + s.val, by omega⟩ k) = kR A b s k := by
  pointwise [val_main_v34]
  simp only [v30_apply]
  rfl

/-- The values. -/
theorem v35_apply (b : Fin 8) (s : Fin 256) (k : Fin 512) :
    val_main_v35 (F := I) A.x A.g A.wv (ix2 ⟨b.val * 256 + s.val, by omega⟩ k) = lin A A.wv b s k := by
  pointwise [val_main_v35, val_main_v33]
  simp only [v32_apply]

end Cert.MRef

end
-- ==== Proof.MBlocks.lean ====
module

public import proofs.«01_k».proof.Proof.MRef
public import Idealize.ShloMosaic.Lib.Claim

/-! The blocks a grid point of the memory's projection is given, in terms of the arguments. -/

@[expose] public section

set_option maxRecDepth 16384

noncomputable section

namespace Cert.MBlocks

open Idealize.ShloMosaic Idealize.ShloMosaic.TcCoe Idealize.SL Idealize.SL.Sem
open Cert.Kernel3Ideal Cert.Kernel3Ideal.Gen Cert.PSpec
open Cert.QVal (I pr)

variable (m : (ℓ : Loc nD τ sig) → Buf (Elt I) ℓ) (c : Dev nD)

/-- The arguments of a core. -/
def args : MRef.Args where
  x := m ((c : Thread nD τ).loc main_arg0)
  g := m ((c : Thread nD τ).loc main_arg1)
  wk := m ((c : Thread nD τ).loc main_arg2)
  wv := m ((c : Thread nD τ).loc main_arg3)
  gk := m ((c : Thread nD τ).loc main_arg4)

/-- Which block of each input a grid point takes. -/
theorem idx (t : Fin cfg0.N) : win0_0.index t = ![t.val, 0] ∧ win0_1.index t = ![0, 0] ∧ win0_2.index t = ![0, 0]
    ∧ win0_3.index t = ![0, 0] ∧ win0_4.index t = ![0, 0] := by
  revert t; decide +kernel

/-- There are four grid points. -/
theorem lt4 (t : Fin cfg0.N) : t.val < 4 := lt_of_lt_of_eq t.isLt N_0

/-- The batch of a point's row. -/
def bat (t : Fin cfg0.N) (r : Fin 512) : Fin 8 := ⟨(512 * t.val + r.val) / 256, by have := lt4 t; omega⟩
/-- The place of a point's row in its batch. -/
def pos (t : Fin cfg0.N) (r : Fin 512) : Fin 256 := ⟨(512 * t.val + r.val) % 256, by omega⟩

/-- The rows. -/
theorem blk0 (t : Fin cfg0.N) (r : Fin 512) (j : Fin 1024) : (iblk m c 0 t : Vec I S512x1024 .f32) (ix2 r j) = (args m c).x (ix3 (bat t r) (pos t r) j) := by
  have h : (V m c main_v0 : Vec I S2048x1024 .f32) = shapeCast S2048x1024 (args m c).x shapeCasts_S8x256x1024_S2048x1024 := by
    simp only [V, hostOps0]
    after_results
    rfl
  have e : (V m c main_v0 : Vec I S2048x1024 .f32) (ix2 ⟨512 * t.val + r.val, by have := lt4 t; omega⟩ j) = (args m c).x (ix3 (bat t r) (pos t r) j) := by
    rw [h]
    pointwise [bat, pos]
  refine Eq.trans (congrArg (V m c main_v0 : Vec I S2048x1024 .f32) ?_) e
  blk_ext [idx t]

/-- The gain. -/
theorem blk1 (t : Fin cfg0.N) (j : Fin 1024) : (iblk m c 1 t : Vec I S1x1024 .f32) (ix2 0 j) = (args m c).g (ix2 0 j) := by
  have h : (V m c main_v2 : Vec I S1x1024 .f32) = shapeCast S1x1024 (shapeCast S1024 (args m c).g shapeCasts_S1x1024_S1024) shapeCasts_S1024_S1x1024 := by
    simp only [V, hostOps0]
    after_results
    rfl
  have e : (V m c main_v2 : Vec I S1x1024 .f32) (ix2 0 j) = (args m c).g (ix2 0 j) := by
    rw [h]
    pointwise []
  refine Eq.trans (congrArg (V m c main_v2 : Vec I S1x1024 .f32) ?_) e
  blk_ext [idx t]

/-- The keys' weights. -/
theorem blk2 (t : Fin cfg0.N) (j : Fin 1024) (k : Fin 512) : (iblk m c 2 t : Vec I S1024x512 .bf16) (ix2 j k) = (args m c).wk (ix3 0 j k) := by
  have h : (V m c main_v4 : Vec I S1024x512 .bf16) = truncf .bf16 (shapeCast S1024x512 (args m c).wk shapeCasts_S1x1024x512_S1024x512) bitsLt_bf16_f32 := by
    simp only [V, hostOps0]
    after_results
    rfl
  have e : (V m c main_v4 : Vec I S1024x512 .bf16) (ix2 j k) = (args m c).wk (ix3 0 j k) := by
    rw [h]
    pointwise []
  refine Eq.trans (congrArg (V m c main_v4 : Vec I S1024x512 .bf16) ?_) e
  blk_ext [idx t]

/-- The values' weights. -/
theorem blk3 (t : Fin cfg0.N) (j : Fin 1024) (k : Fin 512) : (iblk m c 3 t : Vec I S1024x512 .bf16) (ix2 j k) = (args m c).wv (ix3 0 j k) := by
  have h : (V m c main_v6 : Vec I S1024x512 .bf16) = truncf .bf16 (shapeCast S1024x512 (args m c).wv shapeCasts_S1x1024x512_S1024x512) bitsLt_bf16_f32 := by
    simp only [V, hostOps0]
    after_results
    rfl
  have e : (V m c main_v6 : Vec I S1024x512 .bf16) (ix2 j k) = (args m c).wv (ix3 0 j k) := by
    rw [h]
    pointwise []
  refine Eq.trans (congrArg (V m c main_v6 : Vec I S1024x512 .bf16) ?_) e
  blk_ext [idx t]

/-- The keys' gain. -/
theorem blk4 (t : Fin cfg0.N) (d : Fin 128) : (iblk m c 4 t : Vec I S1x128 .f32) (ix2 0 d) = (args m c).gk (ix2 0 d) := by
  have h : (V m c main_v8 : Vec I S1x128 .f32) = shapeCast S1x128 (shapeCast S128 (args m c).gk shapeCasts_S1x128_S128) shapeCasts_S128_S1x128 := by
    simp only [V, hostOps0]
    after_results
    rfl
  have e : (V m c main_v8 : Vec I S1x128 .f32) (ix2 0 d) = (args m c).gk (ix2 0 d) := by
    rw [h]
    pointwise []
  refine Eq.trans (congrArg (V m c main_v8 : Vec I S1x128 .f32) ?_) e
  blk_ext [idx t]

end Cert.MBlocks

end
-- ==== Proof.MEnds.lean ====
module

public import proofs.«01_k».proof.Proof.MBlocks
public import proofs.«01_k».proof.Proof.Gen.Reference3Ideal.Run

/-! The kernel's keys and values of the memory are the reference's. -/

@[expose] public section

set_option maxRecDepth 16384

noncomputable section

namespace Cert.MEnds

open Idealize.ShloMosaic Idealize.ShloMosaic.TcCoe Idealize.SL Idealize.SL.Sem
open Cert.Kernel3Ideal Cert.Kernel3Ideal.Gen Cert.Kernel3Ideal.Value Cert.PSpec Cert.MVal Cert.MBlocks
open Cert.QVal (I pr)

/-- An array known at every grid point is known at every row. -/
theorem down (f f' : Fin 2048 → Fin 512 → EReal) (G : Fin 8 → Fin 256 → Fin 512 → EReal)
    (h : ∀ (t : Fin cfg0.N) (r : Fin 512) (k : Fin 512), f ⟨512 * t.val + r.val, by have := lt4 t; omega⟩ k = G (bat t r) (pos t r) k)
    (h' : ∀ (b : Fin 8) (s : Fin 256) (k : Fin 512), f' ⟨b.val * 256 + s.val, by omega⟩ k = G b s k)
    (n : Fin 2048) (k : Fin 512) : f n k = f' n k := by
  have hN : n.val / 512 < cfg0.N := by rw [show cfg0.N = 4 from N_0]; omega
  have e := (h ⟨n.val / 512, hN⟩ ⟨n.val % 512, by omega⟩ k).trans (h' _ _ k).symm
  refine Eq.trans (congrArg (f · k) ?_) (e.trans (congrArg (f' · k) ?_)) <;> ext
  · show n.val = 512 * (n.val / 512) + n.val % 512
    omega
  · show (512 * (n.val / 512) + n.val % 512) / 256 * 256 + (512 * (n.val / 512) + n.val % 512) % 256 = n.val
    omega

variable (m : (ℓ : Loc nD τ sig) → Buf (Elt I) ℓ) (c : Dev nD)

/-- Every grid point writes its blocks back. -/
theorem flush (t : Fin cfg0.N) : (cfg0.win 5).flush t = true ∧ (cfg0.win 6).flush t = true := by
  revert t; decide +kernel

/-- Which blocks a grid point writes. -/
theorem idxo (t : Fin cfg0.N) : win0_5.index t = ![t.val, 0] ∧ win0_6.index t = ![t.val, 0] := by
  revert t; decide +kernel

/-- The keys. -/
theorem res5 (t : Fin cfg0.N) (r k : Fin 512) :
    ((dats m 0 c).arrAt 5 cfg0.N : Vec I S2048x512 .f32) (ix2 ⟨512 * t.val + r.val, by have := lt4 t; omega⟩ k)
      = MRef.kR (args m c) (bat t r) (pos t r) k := by
  refine Eq.trans ?_ ((out5_apply (iblk m c 0 t) (iblk m c 1 t) (iblk m c 2 t) (iblk m c 3 t) (iblk m c 4 t) r k).trans
    (congrFun (congrArg₂ heads (funext fun k => congr (congrArg₂ pr (funext fun j => blk0 m c t r j) (funext fun j => blk1 m c t j))
      (funext fun j => blk2 m c t j k)) (funext fun d => blk4 m c t d)) k))
  refine Eq.trans ?_ (congrFun ((blocks5 m c t (flush t).1).trans (flushed5 m c t)) (ix2 r k))
  show _ = ((dats m 0 c).arrAt 5 cfg0.N : Vec I S2048x512 .f32) _
  congr 1
  blk_ext [idxo t]

/-- The values. -/
theorem res6 (t : Fin cfg0.N) (r k : Fin 512) :
    ((dats m 0 c).arrAt 6 cfg0.N : Vec I S2048x512 .f32) (ix2 ⟨512 * t.val + r.val, by have := lt4 t; omega⟩ k)
      = MRef.lin (args m c) (args m c).wv (bat t r) (pos t r) k := by
  refine Eq.trans ?_ ((out6_apply (iblk m c 0 t) (iblk m c 1 t) (iblk m c 2 t) (iblk m c 3 t) (iblk m c 4 t) r k).trans
    (congr (congrArg₂ pr (funext fun j => blk0 m c t r j) (funext fun j => blk1 m c t j)) (funext fun j => blk3 m c t j k)))
  refine Eq.trans ?_ (congrFun ((blocks6 m c t (flush t).2).trans (flushed6 m c t)) (ix2 r k))
  show _ = ((dats m 0 c).arrAt 6 cfg0.N : Vec I S2048x512 .f32) _
  congr 1
  blk_ext [idxo t]

variable (A : MRef.Args) (hA : A = args m c)

include hA

/-- The kernel's keys are the reference's. -/
theorem same5 : ((dats m 0 c).arrAt 5 cfg0.N : Vec I S2048x512 .f32) = Cert.Reference3Ideal.Read.val_main_v34 (F := I) A.x A.g A.wk A.gk := by
  subst hA
  funext i
  idx_vars i
  exact down (fun n k => ((dats m 0 c).arrAt 5 cfg0.N : Vec I S2048x512 .f32) (ix2 n k))
    (fun n k => Cert.Reference3Ideal.Read.val_main_v34 (F := I) (args m c).x (args m c).g (args m c).wk (args m c).gk (ix2 n k))
    (MRef.kR (args m c)) (res5 m c) (MRef.v34_apply _) _ _

/-- The kernel's values are the reference's. -/
theorem same6 : ((dats m 0 c).arrAt 6 cfg0.N : Vec I S2048x512 .f32) = Cert.Reference3Ideal.Read.val_main_v35 (F := I) A.x A.g A.wv := by
  subst hA
  funext i
  idx_vars i
  exact down (fun n k => ((dats m 0 c).arrAt 6 cfg0.N : Vec I S2048x512 .f32) (ix2 n k))
    (fun n k => Cert.Reference3Ideal.Read.val_main_v35 (F := I) (args m c).x (args m c).g (args m c).wv (ix2 n k))
    (MRef.lin (args m c) (args m c).wv) (res6 m c) (MRef.v35_apply _) _ _

omit hA

/-- The arguments, out of the reference's memory. -/
def argsR (m : (ℓ : Loc Cert.Reference3Ideal.nD Cert.Reference3Ideal.τ Cert.Reference3Ideal.sig) → Buf (Elt I) ℓ) (c : Dev Cert.Reference3Ideal.nD) :
    MRef.Args where
  x := m ((c.tc : Thread Cert.Reference3Ideal.nD Cert.Reference3Ideal.τ).loc Cert.Reference3Ideal.main_arg0)
  g := m ((c.tc : Thread Cert.Reference3Ideal.nD Cert.Reference3Ideal.τ).loc Cert.Reference3Ideal.main_arg1)
  wk := m ((c.tc : Thread Cert.Reference3Ideal.nD Cert.Reference3Ideal.τ).loc Cert.Reference3Ideal.main_arg2)
  wv := m ((c.tc : Thread Cert.Reference3Ideal.nD Cert.Reference3Ideal.τ).loc Cert.Reference3Ideal.main_arg3)
  gk := m ((c.tc : Thread Cert.Reference3Ideal.nD Cert.Reference3Ideal.τ).loc Cert.Reference3Ideal.main_arg4)

end Cert.MEnds

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_scores_finite
public import proofs.«01_k».proof.Proof.RefRun
public import proofs.«01_k».proof.Proof.Ends
public import proofs.«01_k».proof.Proof.PEnds
public import proofs.«01_k».proof.Proof.QEnds
public import proofs.«01_k».proof.Proof.MEnds
public import Idealize.ShloMosaic.Adequacy
public import Idealize.ShloMosaic.Init

@[expose] public section

noncomputable section

namespace Cert.Proof

open Idealize.ShloMosaic Idealize.SL.Sem Cert.Kernel

/-- The compiled kernel runs, its arguments unchanged and its semaphores zero at the end. -/
theorem frame_kernel : Cert.quiescent_Kernel := fun m ρ _ => Cert.Kernel.Gen.frame m ρ

/-- The idealized kernel runs, its arguments unchanged and its semaphores zero at the end. -/
theorem frame_ideal : Cert.quiescent_KernelIdeal := fun m ρ _ => Cert.KernelIdeal.Gen.frame m ρ

/-- The reference runs, its arguments unchanged and its semaphores zero at the end. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.RefRun.run_states m ρ)

/-- The idealized kernel and the reference end with the same outputs, kept rows and final states. -/
theorem same_ssd : Cert.algebraic_KernelIdeal_ReferenceIdeal := by
  intro m g m' g' _ h
  refine ⟨fun c => Cert.KernelIdeal.Value.G11 m c, fun c => Cert.KernelIdeal.Value.G12 m c, fun c => Cert.KernelIdeal.Value.G13 m c,
    Cert.KernelIdeal.Value.run m g, (θ_run Cert.ReferenceIdeal.defs _ _).mono (fun r hr c => ?_) (Cert.RefRun.run_states m' g')⟩
  have ha : Cert.Ends.argsR m' c = Cert.KBlocks.args m c := by
    obtain ⟨h0, h1, h2, h3, h4, h5, h6, h7, h8, h9, h10⟩ := h c
    unfold Cert.Ends.argsR Cert.KBlocks.args
    rw [h0, h1, h2, h3, h4, h5, h6, h7, h8, h9, h10]
  have hs := Cert.Ends.states_st m' c 16
  obtain ⟨hy, hc, hh, hk⟩ := hr c
  rw [ha] at hs
  refine ⟨hy.trans (Eq.trans ?_ (Cert.Ends.res_y m c).symm), hc.trans (Eq.trans ?_ (Cert.Ends.res_conv m c).symm),
    hh.trans (Eq.trans ?_ (Cert.Ends.res_h m c).symm), hk⟩
  · rw [hs, ← ha]
    rfl
  · rw [hs, ← ha]
    rfl
  · rw [hs]

/-- The frames of the kernel of the part after the mixers. -/
theorem frame_kernel2 : Cert.quiescent_Kernel2 := fun m ρ _ => Cert.Kernel2.Gen.frame m ρ

/-- The frames of that kernel, idealized. -/
theorem frame_ideal2 : Cert.quiescent_Kernel2Ideal := fun m ρ _ => Cert.Kernel2Ideal.Gen.frame m ρ

/-- The frames of that kernel's reference. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

/-- Where the scores are computed of finite arguments, the idealized kernel of the part after the mixers and its reference
    end with the same rows. -/
theorem same_post : Cert.algebraic_Kernel2Ideal_Reference2Ideal_pre_scores_finite := by
  intro m g m' g' hp h
  refine ⟨fun c => (Cert.Kernel2Ideal.Gen.dats m 0 c).arrAt 14 Cert.Kernel2Ideal.cfg0.N, Cert.Kernel2Ideal.Value.run_blocks m g,
    (θ_run Cert.Reference2Ideal.defs _ _).mono (fun r hr c => ?_) (Cert.Reference2Ideal.Value.run m' g')⟩
  have ha : Cert.PEnds.argsR m' c = Cert.PBlocks.args m c := by
    obtain ⟨h0, h1, h2, h3, h4, h5, h6, h7, h8, h9, h10, h11, h12⟩ := h c
    unfold Cert.PEnds.argsR Cert.PBlocks.args
    rw [h0, h1, h2, h3, h4, h5, h6, h7, h8, h9, h10, h11, h12]
  obtain ⟨hy, hk⟩ := hr c
  refine ⟨hy.trans ((Cert.Reference2Ideal.Read.val_main_v77_eq _).trans
    (Cert.PEnds.same m c (Cert.PEnds.argsR m' c) ha ?_).symm), hk⟩
  rw [ha]
  exact fun i => congrFun (hp c) i

/-- The frames of the memory's projections' kernel. -/
theorem frame_kernel3 : Cert.quiescent_Kernel3 := fun m ρ _ => Cert.Kernel3.Gen.frame m ρ

/-- The frames of that kernel, idealized. -/
theorem frame_ideal3 : Cert.quiescent_Kernel3Ideal := fun m ρ _ => Cert.Kernel3Ideal.Gen.frame m ρ

/-- The frames of that kernel's reference. -/
theorem frame_reference3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run m ρ)

/-- The frames of the input projection's kernel. -/
theorem frame_kernel4 : Cert.quiescent_Kernel4 := fun m ρ _ => Cert.Kernel4.Gen.frame m ρ

/-- The frames of that kernel, idealized. -/
theorem frame_ideal4 : Cert.quiescent_Kernel4Ideal := fun m ρ _ => Cert.Kernel4Ideal.Gen.frame m ρ

/-- The frames of that kernel's reference. -/
theorem frame_reference4 : Cert.quiescent_Reference4Ideal := fun m ρ _ =>
  (θ_run Cert.Reference4Ideal.defs _ _).mono (fun r h => ⟨fun c => (h c).2.2.2.2.2.2,
      Idealize.ShloMosaic.sem_eq_zero_of_no_sems (by decide) r.2⟩)
    (Cert.Reference4Ideal.Value.run m ρ)

/-- The input projection's kernel computes what its reference does. -/
theorem same_inproj : Cert.algebraic_Kernel4Ideal_Reference4Ideal := by
  intro m g m' g' _ h
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 11 Cert.Kernel4Ideal.cfg0.N, fun c => (Cert.Kernel4Ideal.Gen.dats m 0 c).arrAt 12 Cert.Kernel4Ideal.cfg0.N,
    fun c => (Cert.Kernel4Ideal.Gen.dats m 0 c).arrAt 13 Cert.Kernel4Ideal.cfg0.N, fun c => (Cert.Kernel4Ideal.Gen.dats m 0 c).arrAt 14 Cert.Kernel4Ideal.cfg0.N,
    Cert.Kernel4Ideal.Value.run_blocks m g,
    (θ_run Cert.Reference4Ideal.defs _ _).mono (fun r hr c => ?_) (Cert.Reference4Ideal.Value.run m' g')⟩
  have ha : Cert.QEnds.argsR m' c = Cert.QBlocks.args m c := by
    obtain ⟨h0, h1, h2, h3, h4⟩ := h c
    unfold Cert.QEnds.argsR Cert.QBlocks.args
    rw [h0, h1, h2, h3, h4]
  obtain ⟨r0, r1, r2, r3, r4, r5, hk⟩ := hr c
  exact ⟨r0.trans ((Cert.Reference4Ideal.Read.val_main_v112_eq m' c).trans (Cert.QEnds.same9 m c _ ha).symm),
    r1.trans ((Cert.Reference4Ideal.Read.val_main_v114_eq m' c).trans (Cert.QEnds.same10 m c _ ha).symm),
    r2.trans ((Cert.Reference4Ideal.Read.val_main_v115_eq _ _ _).trans (Cert.QEnds.same11 m c _ ha).symm),
    r3.trans ((Cert.Reference4Ideal.Read.val_main_v116_eq _ _ _).trans (Cert.QEnds.same12 m c _ ha).symm),
    r4.trans ((Cert.Reference4Ideal.Read.val_main_v117_eq _ _ _).trans (Cert.QEnds.same13 m c _ ha).symm),
    r5.trans ((Cert.Reference4Ideal.Read.val_main_v119_eq _ _ _).trans (Cert.QEnds.same14 m c _ ha).symm), hk⟩

/-- The memory's kernel computes what its reference does. -/
theorem same_memkv : Cert.algebraic_Kernel3Ideal_Reference3Ideal := by
  intro m g m' g' _ h
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    Cert.Kernel3Ideal.Value.run_blocks m g,
    (θ_run Cert.Reference3Ideal.defs _ _).mono (fun r hr c => ?_) (Cert.Reference3Ideal.Value.run m' g')⟩
  have ha : Cert.MEnds.argsR m' c = Cert.MBlocks.args m c := by
    obtain ⟨h0, h1, h2, h3, h4⟩ := h c
    unfold Cert.MEnds.argsR Cert.MBlocks.args
    rw [h0, h1, h2, h3, h4]
  obtain ⟨r0, r1, hk⟩ := hr c
  exact ⟨r0.trans ((Cert.Reference3Ideal.Read.val_main_v34_eq _ _ _ _).trans (Cert.MEnds.same5 m c _ ha).symm),
    r1.trans ((Cert.Reference3Ideal.Read.val_main_v35_eq _ _ _).trans (Cert.MEnds.same6 m c _ ha).symm), hk⟩

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_scores_finite.Gen.facts,
  frame_kernel, frame_ideal, frame_reference,
  frame_kernel2, frame_ideal2, fun m ρ _ => frame_ideal2 m ρ trivial, frame_reference2, fun m ρ _ => frame_reference2 m ρ trivial,
  frame_kernel3, frame_ideal3, frame_reference3, frame_kernel4, frame_ideal4, frame_reference4,
  trivial, same_ssd, trivial, same_post, trivial, same_memkv, trivial, same_inproj⟩

end Cert.Proof

end
